-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_in_range : Cert.Pre_in_range.Facts] (m : (ℓ : Loc Cert.Moe.nD Cert.Moe.τ Cert.Moe.sig) → Buf (Elt Bits) ℓ) : Prop :=
  ∀ c : Dev Cert.Moe.nD,
    (Cert.Pre_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_in_range : Cert.Pre_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_in_range [hPre_in_range : Cert.Pre_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Moe [hMoe : Cert.Moe.Facts] [hPre_in_range : Cert.Pre_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_in_range [hMoeReferenceIdeal : Cert.MoeReferenceIdeal.Facts] [hPre_in_range : Cert.Pre_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v23) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Moe_MoeIdeal : Prop :=
  True

def algebraic_MoeIdeal_MoeReferenceIdeal [hMoeIdeal : Cert.MoeIdeal.Facts] [hMoeReferenceIdeal : Cert.MoeReferenceIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v142) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v16)) (v2 : (c : Dev Cert.ProjIdeal.nD) → Buf (Elt Ideal) ((c.tc : Thread Cert.ProjIdeal.nD Cert.ProjIdeal.τ).loc Cert.ProjIdeal.main_v18)) (v3 : (c : Dev Cert.ProjIdeal.nD) → Buf (Elt Ideal) ((c.tc : Thread Cert.ProjIdeal.nD Cert.ProjIdeal.τ).loc Cert.ProjIdeal.main_v20)) (v4 : (c : Dev Cert.ProjIdeal.nD) → Buf (Elt Ideal) ((c.tc : Thread Cert.ProjIdeal.nD Cert.ProjIdeal.τ).loc Cert.ProjIdeal.main_v26)) (v5 : (c : Dev Cert.ProjIdeal.nD) → Buf (Elt Ideal) ((c.tc : Thread Cert.ProjIdeal.nD Cert.ProjIdeal.τ).loc Cert.ProjIdeal.main_v32)) (v6 : (c : Dev Cert.ProjIdeal.nD) → Buf (Elt Ideal) ((c.tc : Thread Cert.ProjIdeal.nD Cert.ProjIdeal.τ).loc Cert.ProjIdeal.main_v34)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v16) = v1 c
          ∧ r.2.mem ((c.tc : Thread Cert.ProjIdeal.nD Cert.ProjIdeal.τ).loc Cert.ProjIdeal.main_v18) = v2 c
          ∧ r.2.mem ((c.tc : Thread Cert.ProjIdeal.nD Cert.ProjIdeal.τ).loc Cert.ProjIdeal.main_v20) = v3 c
          ∧ r.2.mem ((c.tc : Thread Cert.ProjIdeal.nD Cert.ProjIdeal.τ).loc Cert.ProjIdeal.main_v26) = v4 c
          ∧ r.2.mem ((c.tc : Thread Cert.ProjIdeal.nD Cert.ProjIdeal.τ).loc Cert.ProjIdeal.main_v32) = v5 c
          ∧ r.2.mem ((c.tc : Thread Cert.ProjIdeal.nD Cert.ProjIdeal.τ).loc Cert.ProjIdeal.main_v34) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v36) = v0 c
          ∧ r.2.mem ((c.tc : Thread Cert.ProjReferenceIdeal.nD Cert.ProjReferenceIdeal.τ).loc Cert.ProjReferenceIdeal.main_v59) = v1 c
          ∧ r.2.mem ((c.tc : Thread Cert.ProjReferenceIdeal.nD Cert.ProjReferenceIdeal.τ).loc Cert.ProjReferenceIdeal.main_v60) = v2 c
          ∧ r.2.mem ((c.tc : Thread Cert.ProjReferenceIdeal.nD Cert.ProjReferenceIdeal.τ).loc Cert.ProjReferenceIdeal.main_v61) = v3 c
          ∧ r.2.mem ((c.tc : Thread Cert.ProjReferenceIdeal.nD Cert.ProjReferenceIdeal.τ).loc Cert.ProjReferenceIdeal.main_v62) = v4 c
          ∧ r.2.mem ((c.tc : Thread Cert.ProjReferenceIdeal.nD Cert.ProjReferenceIdeal.τ).loc Cert.ProjReferenceIdeal.main_v63) = v5 c
          ∧ r.2.mem ((c.tc : Thread Cert.ProjReferenceIdeal.nD Cert.ProjReferenceIdeal.τ).loc Cert.ProjReferenceIdeal.main_v64) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v3) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v6)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v6) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v17) = v0 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hOddOut : Cert.OddOut.Facts) (hOddOutIdeal : Cert.OddOutIdeal.Facts) (hOddOutReferenceIdeal : Cert.OddOutReferenceIdeal.Facts) (hOddProj : Cert.OddProj.Facts) (hOddProjIdeal : Cert.OddProjIdeal.Facts) (hOddProjReferenceIdeal : Cert.OddProjReferenceIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_in_range := hPre_in_range)
    ∧ quiescent_MoeIdeal (hMoeIdeal := hMoeIdeal) (hPre_in_range := hPre_in_range)
    ∧ quiescent_MoeReferenceIdeal (hMoeReferenceIdeal := hMoeReferenceIdeal)
    ∧ quiescent_MoeReferenceIdeal_pre_in_range (hMoeReferenceIdeal := hMoeReferenceIdeal) (hPre_in_range := hPre_in_range)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_in_range := hPre_in_range)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_OddOut_OddOutIdeal
    ∧ algebraic_OddOutIdeal_OddOutReferenceIdeal (hOddOutIdeal := hOddOutIdeal) (hOddOutReferenceIdeal := hOddOutReferenceIdeal)
    ∧ preserves_OddProj_OddProjIdeal
    ∧ algebraic_OddProjIdeal_OddProjReferenceIdeal (hOddProjIdeal := hOddProjIdeal) (hOddProjReferenceIdeal := hOddProjReferenceIdeal)
-- ==== Pre_finite.lean ====
abbrev S8704x4096 : Shape := ⟨2, ![8704, 4096]⟩
abbrev S1x16x257 : Shape := ⟨3, ![1, 16, 257]⟩
abbrev S8704x2048 : Shape := ⟨2, ![8704, 2048]⟩
abbrev S_ : Shape := ⟨0, ![]⟩

class Facts : Prop where
  slices_S8704x4096_S8704x2048_0_0 : S8704x4096.Slices ![0, 0] S8704x2048
  bcast_S_S8704x2048 : S_.BroadcastsInDim S8704x2048 (![] : Fin 0 → Fin S8704x2048.rank)
  reducesTo_S8704x2048_S_d0_1 : S8704x2048.ReducesTo [0, 1] S_
  h_S_ : 0 < S_.numel
  bcast_S_S1x16x257 : S_.BroadcastsInDim S1x16x257 (![] : Fin 0 → Fin S1x16x257.rank)
  reducesTo_S1x16x257_S_d0_1_2 : S1x16x257.ReducesTo [0, 1, 2] S_

variable [Facts]

def fn {F : FTy → Type} [FloatOps F] (main_arg0 : FVec F S8704x4096 .f32) (main_arg1 : FVec F S1x16x257 .f32) : IVec S_ 1 :=
  let main_v0 : FVec F S8704x2048 .f32 := (extractStridedSlice S8704x2048 ![0, 0] · slices_S8704x4096_S8704x2048_0_0) main_arg0
  let main_v1 : FVec F S8704x2048 .f32 := Host.absf main_v0
  let main_cst : FVec F S_ .f32 := constant S_ .f32 0x7F800000#32
  let main_v2 : FVec F S8704x2048 .f32 := broadcastInDim S8704x2048 ![] bcast_S_S8704x2048 main_cst
  let main_v3 : IVec S8704x2048 1 := cmpf .olt main_v1 main_v2
  let main_c : IVec S_ 1 := constantI S_ 1 1#1
  let main_v4 : IVec S_ 1 := (fun x v => Host.reduce IntOp.andi x v reducesTo_S8704x2048_S_d0_1 h_S_) main_v3 main_c
  let main_v5 : FVec F S1x16x257 .f32 := Host.absf main_arg1
  let main_cst_0 : FVec F S_ .f32 := constant S_ .f32 0x7F800000#32
  let main_v6 : FVec F S1x16x257 .f32 := broadcastInDim S1x16x257 ![] bcast_S_S1x16x257 main_cst_0
  let main_v7 : IVec S1x16x257 1 := cmpf .olt main_v5 main_v6
  let main_c_1 : IVec S_ 1 := constantI S_ 1 1#1
  let main_v8 : IVec S_ 1 := (fun x v => Host.reduce IntOp.andi x v reducesTo_S1x16x257_S_d0_1_2 h_S_) main_v7 main_c_1
  let main_v9 : IVec S_ 1 := andi main_v4 main_v8
  main_v9
-- ==== Pre_in_range.lean ====
abbrev S19 : Shape := ⟨1, ![19]⟩
abbrev S29184x2048 : Shape := ⟨2, ![29184, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S19 : S_.BroadcastsInDim S19 (![] : Fin 0 → Fin S19.rank)
  reducesTo_S19_S_d0 : S19.ReducesTo [0] S_
  h_S_ : 0 < S_.numel

variable [Facts]

def fn {F : FTy → Type} [FloatOps F] (main_arg0 : IVec S19 32) (main_arg1 : IVec S19 32) (main_arg2 : FVec F S29184x2048 .bf16) (main_arg3 : FVec F S8x2048x5632 .f32) (main_arg4 : FVec F S8x2048x5632 .f32) (main_arg5 : FVec F S8x5632x2048 .f32) : IVec S_ 1 :=
  let main_c : IVec S_ 32 := constantI S_ 32 0#32
  let main_v0 : IVec S19 32 := broadcastInDim S19 ![] bcast_S_S19 main_c
  let main_v1 : IVec S19 1 := cmpi .sge main_arg0 main_v0
  let main_c_0 : IVec S_ 32 := constantI S_ 32 8#32
  let main_v2 : IVec S19 32 := broadcastInDim S19 ![] bcast_S_S19 main_c_0
  let main_v3 : IVec S19 1 := cmpi .slt main_arg0 main_v2
  let main_v4 : IVec S19 1 := andi main_v1 main_v3
  let main_c_1 : IVec S_ 1 := constantI S_ 1 1#1
  let main_v5 : IVec S_ 1 := (fun x v => Host.reduce IntOp.andi x v reducesTo_S19_S_d0 h_S_) main_v4 main_c_1
  main_v5
-- ==== Kernel.lean ====
abbrev S8704x4096 : Shape := ⟨2, ![8704, 4096]⟩
abbrev S1x16x257 : Shape := ⟨3, ![1, 16, 257]⟩
abbrev S16x257 : Shape := ⟨2, ![16, 257]⟩
abbrev S639 : Shape := ⟨1, ![639]⟩
abbrev S_ : Shape := ⟨0, ![]⟩
abbrev S639x1 : Shape := ⟨2, ![639, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S8x128x576 : Shape := ⟨3, ![8, 128, 576]⟩
abbrev S8704x1024 : Shape := ⟨2, ![8704, 1024]⟩
abbrev S512x1024 : Shape := ⟨2, ![512, 1024]⟩
abbrev S1024x1024 : Shape := ⟨2, ![1024, 1024]⟩
abbrev S1x576 : Shape := ⟨2, ![1, 576]⟩
abbrev S1x128 : Shape := ⟨2, ![1, 128]⟩
abbrev S64x128 : Shape := ⟨2, ![64, 128]⟩
abbrev S576x128 : Shape := ⟨2, ![576, 128]⟩
abbrev S128x128 : Shape := ⟨2, ![128, 128]⟩
abbrev S128x576 : Shape := ⟨2, ![128, 576]⟩
abbrev S1x128x576 : Shape := ⟨3, ![1, 128, 576]⟩
abbrev S128 : Shape := ⟨1, ![128]⟩
abbrev S128x1 : Shape := ⟨2, ![128, 1]⟩

abbrev nBuf : Space → Nat
  | .hbm => 162
  | .vmem => 15
  | .smem => 0
  | _ => 0

abbrev hbmTy0_0 (i : Nat) : BufTy := match i % 128 with
  | 0 => ⟨S8704x4096, .f32⟩
  | 1 => ⟨S1x16x257, .f32⟩
  | 2 => ⟨S16x257, .f32⟩
  | 3 => ⟨S639, .i32⟩
  | 4 => ⟨S_, .i32⟩
  | 5 => ⟨S639, .i32⟩
  | 6 => ⟨S639, .i32⟩
  | 7 => ⟨S_, .i32⟩
  | 8 => ⟨S_, .i32⟩
  | 9 => ⟨S_, .i32⟩
  | 10 => ⟨S639, .i32⟩
  | 11 => ⟨S639, .i32⟩
  | 12 => ⟨S_, .i32⟩
  | 13 => ⟨S639, .i32⟩
  | 14 => ⟨S639, .i32⟩
  | 15 => ⟨S_, .i32⟩
  | 16 => ⟨S639, .i32⟩
  | 17 => ⟨S639, .i32⟩
  | 18 => ⟨S_, .i32⟩
  | 19 => ⟨S639, .i32⟩
  | 20 => ⟨S639, .i1⟩
  | 21 => ⟨S_, .i32⟩
  | 22 => ⟨S639, .i32⟩
  | 23 => ⟨S639, .i32⟩
  | 24 => ⟨S639, .i32⟩
  | 25 => ⟨S639x1, .i32⟩
  | 26 => ⟨S16x639, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S8704x4096, .f32⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x16x576, .f32⟩
  | 28 => ⟨S16x16x576, .f32⟩
  | 29 => ⟨S16x16x576, .f32⟩
  | 30 => ⟨S16x16x576, .f32⟩
  | 31 => ⟨S16x64x576, .f32⟩
  | 32 => ⟨S8x128x576, .f32⟩
  | 33 => ⟨S8704x1024, .bf16⟩
  | _ => ⟨S8704x4096, .f32⟩

abbrev hbmTy (i : Nat) : BufTy := match i / 128 with
  | 0 => hbmTy0_0 i
  | 1 => hbmTy0_1 i
  | _ => ⟨S8704x4096, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128x576, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32_0 : BitVec 32 := 16#32
  let v3 : BitVec 1 := Scalar.cmpi .slt arg0 c16_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_16 : BitVec 32 := 0#32
  let c4_i32 : BitVec 32 := 4#32
  let v27 : BitVec 32 := Scalar.addi c0_i32_16 c4_i32
  let c1_i32 : BitVec 32 := 1#32
  ⟨c0_i32_16, v27, c1_i32⟩
def k0_mult1 (k0_t1 : Fin k0_t1_loop.trips) : BitVec 32 :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let c0_i32_18 : BitVec 32 := 0#32
  let v29 : BitVec 32 := Scalar.addi v28 c0_i32_18
  let c64_i32 : BitVec 32 := 64#32
  let v30 : BitVec 32 := Scalar.muli v29 c64_i32
  v30
def k0_mult2 (k0_t1 : Fin k0_t1_loop.trips) : BitVec 32 :=
  let c0_i32_16 : BitVec 32 := 0#32
  let c1_i32 : BitVec 32 := 1#32
  let arg10 : BitVec 32 := Scf.iv c0_i32_16 c1_i32 k0_t1
  let c2_i32_22 : BitVec 32 := 2#32
  let v38 : BitVec 32 := Scalar.muli arg10 c2_i32_22
  let c1_i32_23 : BitVec 32 := 1#32
  let v39 : BitVec 32 := Scalar.addi v38 c1_i32_23
  let c64_i32_24 : BitVec 32 := 64#32
  let v40 : BitVec 32 := Scalar.muli v39 c64_i32_24
  v40
def k0_off1 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v51 : Index := Scalar.indexCast v31
  let c0_30 : Index := 0#32
  ![v51.toNat, 0]
def k0_off2 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v53 : Index := Scalar.indexCast v31
  let c0_31 : Index := 0#32
  ![v53.toNat, 0]
def k0_off3 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v141 : Index := Scalar.indexCast v31
  let c128 : Index := 128#32
  ![v141.toNat, 128]
def k0_off4 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v143 : Index := Scalar.indexCast v31
  let c128_59 : Index := 128#32
  ![v143.toNat, 128]
def k0_off5 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v231 : Index := Scalar.indexCast v31
  let c256 : Index := 256#32
  ![v231.toNat, 256]
def k0_off6 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v233 : Index := Scalar.indexCast v31
  let c256_87 : Index := 256#32
  ![v233.toNat, 256]
def k0_off7 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v321 : Index := Scalar.indexCast v31
  let c384 : Index := 384#32
  ![v321.toNat, 384]
def k0_off8 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v323 : Index := Scalar.indexCast v31
  let c384_115 : Index := 384#32
  ![v323.toNat, 384]
def k0_off9 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v411 : Index := Scalar.indexCast v31
  let c512_143 : Index := 512#32
  ![v411.toNat, 512]
def k0_off10 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v413 : Index := Scalar.indexCast v31
  let c512_144 : Index := 512#32
  ![v413.toNat, 512]
def k0_off11 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v501 : Index := Scalar.indexCast v31
  let c640 : Index := 640#32
  ![v501.toNat, 640]
def k0_off12 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v503 : Index := Scalar.indexCast v31
  let c640_172 : Index := 640#32
  ![v503.toNat, 640]
def k0_off13 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v591 : Index := Scalar.indexCast v31
  let c768 : Index := 768#32
  ![v591.toNat, 768]
def k0_off14 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v593 : Index := Scalar.indexCast v31
  let c768_200 : Index := 768#32
  ![v593.toNat, 768]
def k0_off15 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v681 : Index := Scalar.indexCast v31
  let c896 : Index := 896#32
  ![v681.toNat, 896]
def k0_off16 (k0_t1 : Fin k0_t1_loop.trips) (c0_i32_18 : BitVec 32) : Fin 2 → Nat :=
  let c0_i32_16 : BitVec 32 := 0#32
  let c1_i32 : BitVec 32 := 1#32
  let arg10 : BitVec 32 := Scf.iv c0_i32_16 c1_i32 k0_t1
  let c2_i32 : BitVec 32 := 2#32
  let v28 : BitVec 32 := Scalar.muli arg10 c2_i32
  let v29 : BitVec 32 := Scalar.addi v28 c0_i32_18
  let c64_i32 : BitVec 32 := 64#32
  let v30 : BitVec 32 := Scalar.muli v29 c64_i32
  let v31 : BitVec 32 := v30
  let v683 : Index := Scalar.indexCast v31
  let c896_228 : Index := 896#32
  ![v683.toNat, 896]
def k0_cond1 (i : grid0.Coords) : BitVec 1 :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8704x4096 : Shape := ⟨2, ![8704, 4096]⟩
abbrev S1x16x257 : Shape := ⟨3, ![1, 16, 257]⟩
abbrev S8192x4096 : Shape := ⟨2, ![8192, 4096]⟩
abbrev S1x8192x4096 : Shape := ⟨3, ![1, 8192, 4096]⟩
abbrev S1x8192x1024 : Shape := ⟨3, ![1, 8192, 1024]⟩
abbrev S1x8192x16x64 : Shape := ⟨4, ![1, 8192, 16, 64]⟩
abbrev S576 : Shape := ⟨1, ![576]⟩
abbrev S_ : Shape := ⟨0, ![]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S128 : Shape := ⟨1, ![128]⟩
abbrev S128x1 : Shape := ⟨2, ![128, 1]⟩
abbrev S128x576 : Shape := ⟨2, ![128, 576]⟩
abbrev S128x1x576 : Shape := ⟨3, ![128, 1, 576]⟩
abbrev S1x128x64x16x64 : Shape := ⟨5, ![1, 128, 64, 16, 64]⟩
abbrev S1x8704x16x64 : Shape := ⟨4, ![1, 8704, 16, 64]⟩
abbrev S1x136x64x16x64 : Shape := ⟨5, ![1, 136, 64, 16, 64]⟩
abbrev S1x128x576x16x64 : Shape := ⟨5, ![1, 128, 576, 16, 64]⟩
abbrev S16x257 : Shape := ⟨2, ![16, 257]⟩
abbrev S64x576x1 : Shape := ⟨3, ![64, 576, 1]⟩
abbrev S16x64x576 : Shape := ⟨3, ![16, 64, 576]⟩
abbrev S1x128x16x64x576 : Shape := ⟨5, ![1, 128, 16, 64, 576]⟩
abbrev S1x1x16x64x576 : Shape := ⟨5, ![1, 1, 16, 64, 576]⟩
abbrev S1x128x1x1x576 : Shape := ⟨5, ![1, 128, 1, 1, 576]⟩
abbrev S1x128x16x64 : Shape := ⟨4, ![1, 128, 16, 64]⟩
abbrev S1x128x16x64x1 : Shape := ⟨5, ![1, 128, 16, 64, 1]⟩
abbrev S1x128x16x64x64 : Shape := ⟨5, ![1, 128, 16, 64, 64]⟩
abbrev S8192x1024 : Shape := ⟨2, ![8192, 1024]⟩
abbrev S512x1024 : Shape := ⟨2, ![512, 1024]⟩
abbrev S8704x1024 : Shape := ⟨2, ![8704, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x16x257, .f32⟩
  | .hbm, ⟨2, _⟩ => ⟨S8192x4096, .f32⟩
  | .hbm, ⟨3, _⟩ => ⟨S1x8192x4096, .f32⟩
  | .hbm, ⟨4, _⟩ => ⟨S1x8192x1024, .f32⟩
  | .hbm, ⟨5, _⟩ => ⟨S1x8192x16x64, .f32⟩
  | .hbm, ⟨6, _⟩ => ⟨S1x8192x1024, .f32⟩
  | .hbm, ⟨7, _⟩ => ⟨S1x8192x16x64, .f32⟩
  | .hbm, ⟨8, _⟩ => ⟨S1x8192x1024, .f32⟩
  | .hbm, ⟨9, _⟩ => ⟨S1x8192x16x64, .f32⟩
  | .hbm, ⟨10, _⟩ => ⟨S576, .i32⟩
  | .hbm, ⟨11, _⟩ => ⟨S_, .i32⟩
  | .hbm, ⟨12, _⟩ => ⟨S576, .i32⟩
  | .hbm, ⟨13, _⟩ => ⟨S576, .i32⟩
  | .hbm, ⟨14, _⟩ => ⟨S64, .i32⟩
  | .hbm, ⟨15, _⟩ => ⟨S64x1, .i32⟩
  | .hbm, ⟨16, _⟩ => ⟨S1x576, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S1x576, .i32⟩
  | .hbm, ⟨26, _⟩ => ⟨S128x576, .i32⟩
  | .hbm, ⟨27, _⟩ => ⟨S128x576, .i32⟩
  | .hbm, ⟨28, _⟩ => ⟨S128x576, .i32⟩
  | .hbm, ⟨29, _⟩ => ⟨S_, .i32⟩
  | .hbm, ⟨30, _⟩ => ⟨S128x576, .i32⟩
  | .hbm, ⟨31, _⟩ => ⟨S128x576, .i1⟩
  | .hbm, ⟨32, _⟩ => ⟨S128x1x576, .i1⟩
  | .hbm, ⟨33, _⟩ => ⟨S1x128x64x16x64, .f32⟩
  | .hbm, ⟨34, _⟩ => ⟨S_, .i32⟩
  | .hbm, ⟨35, _⟩ => ⟨S_, .f32⟩
  | .hbm, ⟨36, _⟩ => ⟨S1x8704x16x64, .f32⟩
  | .hbm, ⟨37, _⟩ => ⟨S1x136x64x16x64, .f32⟩
  | .hbm, ⟨38, _⟩ => ⟨S1x128x64x16x64, .f32⟩
  | .hbm, ⟨39, _⟩ => ⟨S1x128x64x16x64, .f32⟩
  | .hbm, ⟨40, _⟩ => ⟨S1x128x64x16x64, .f32⟩
  | .hbm, ⟨41, _⟩ => ⟨S1x128x64x16x64, .f32⟩
  | .hbm, ⟨42, _⟩ => ⟨S1x128x64x16x64, .f32⟩
  | .hbm, ⟨43, _⟩ => ⟨S1x128x64x16x64, .f32⟩
  | .hbm, ⟨44, _⟩ => ⟨S1x128x64x16x64, .f32⟩
  | .hbm, ⟨45, _⟩ => ⟨S1x128x64x16x64, .f32⟩
  | .hbm, ⟨46, _⟩ => ⟨S1x128x64x16x64, .f32⟩
  | .hbm, ⟨47, _⟩ => ⟨S1x128x576x16x64, .f32⟩
  | .hbm, ⟨48, _⟩ => ⟨S_, .i32⟩
  | .hbm, ⟨49, _⟩ => ⟨S_, .f32⟩
  | .hbm, ⟨50, _⟩ => ⟨S1x8704x16x64, .f32⟩
  | .hbm, ⟨51, _⟩ => ⟨S1x136x64x16x64, .f32⟩
  | .hbm, ⟨52, _⟩ => ⟨S1x128x64x16x64, .f32⟩
  | .hbm, ⟨53, _⟩ => ⟨S1x128x64x16x64, .f32⟩
  | .hbm, ⟨54, _⟩ => ⟨S1x128x64x16x64, .f32⟩
  | .hbm, ⟨55, _⟩ => ⟨S1x128x64x16x64, .f32⟩
  | .hbm, ⟨56, _⟩ => ⟨S1x128x64x16x64, .f32⟩
  | .hbm, ⟨57, _⟩ => ⟨S1x128x64x16x64, .f32⟩
  | .hbm, ⟨58, _⟩ => ⟨S1x128x64x16x64, .f32⟩
  | .hbm, ⟨59, _⟩ => ⟨S1x128x64x16x64, .f32⟩
  | .hbm, ⟨60, _⟩ => ⟨S1x128x64x16x64, .f32⟩
  | .hbm, ⟨61, _⟩ => ⟨S1x128x576x16x64, .f32⟩
  | .hbm, ⟨62, _⟩ => ⟨S16x257, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i32⟩
  | .hbm, ⟨71, _⟩ => ⟨S_, .i32⟩
  | .hbm, ⟨72, _⟩ => ⟨S64x576, .i32⟩
  | .hbm, ⟨73, _⟩ => ⟨S64x576, .i32⟩
  | .hbm, ⟨74, _⟩ => ⟨S_, .i32⟩
  | .hbm, ⟨75, _⟩ => ⟨S64x576, .i32⟩
  | .hbm, ⟨76, _⟩ => ⟨S64x576, .i1⟩
  | .hbm, ⟨77, _⟩ => ⟨S_, .i32⟩
  | .hbm, ⟨78, _⟩ => ⟨S64x576, .i32⟩
  | .hbm, ⟨79, _⟩ => ⟨S64x576, .i32⟩
  | .hbm, ⟨80, _⟩ => ⟨S64x576, .i32⟩
  | .hbm, ⟨81, _⟩ => ⟨S64x576x1, .i32⟩
  | .hbm, ⟨82, _⟩ => ⟨S16x64x576, .f32⟩
  | .hbm, ⟨83, _⟩ => ⟨S1x128x16x64x576, .f32⟩
  | .hbm, ⟨84, _⟩ => ⟨S_, .f32⟩
  | .hbm, ⟨85, _⟩ => ⟨S1x128x16x64x576, .f32⟩
  | .hbm, ⟨86, _⟩ => ⟨S1x128x16x64x576, .f32⟩
  | .hbm, ⟨87, _⟩ => ⟨S1x1x16x64x576, .f32⟩
  | .hbm, ⟨88, _⟩ => ⟨S1x128x16x64x576, .f32⟩
  | .hbm, ⟨89, _⟩ => ⟨S1x128x16x64x576, .f32⟩
  | .hbm, ⟨90, _⟩ => ⟨S1x128x1x1x576, .i1⟩
  | .hbm, ⟨91, _⟩ => ⟨S_, .f32⟩
  | .hbm, ⟨92, _⟩ => ⟨S_, .f32⟩
  | .hbm, ⟨93, _⟩ => ⟨S1x128x16x64x576, .i1⟩
  | .hbm, ⟨94, _⟩ => ⟨S1x128x16x64x576, .f32⟩
  | .hbm, ⟨95, _⟩ => ⟨S1x128x16x64x576, .f32⟩
  | .hbm, ⟨96, _⟩ => ⟨S_, .f32⟩
  | .hbm, ⟨97, _⟩ => ⟨S1x128x16x64, .f32⟩
  | .hbm, ⟨98, _⟩ => ⟨S_, .f32⟩
  | .hbm, ⟨99, _⟩ => ⟨S1x128x16x64, .f32⟩
  | .hbm, ⟨100, _⟩ => ⟨S1x128x16x64, .f32⟩
  | .hbm, ⟨101, _⟩ => ⟨S1x128x16x64x1, .f32⟩
  | .hbm, ⟨102, _⟩ => ⟨S1x128x16x64x576, .f32⟩
  | .hbm, ⟨103, _⟩ => ⟨S1x128x16x64x576, .f32⟩
  | .hbm, ⟨104, _⟩ => ⟨S1x128x16x64x576, .f32⟩
  | .hbm, ⟨105, _⟩ => ⟨S_, .f32⟩
  | .hbm, ⟨106, _⟩ => ⟨S1x128x16x64, .f32⟩
  | .hbm, ⟨107, _⟩ => ⟨S1x128x16x64x1, .f32⟩
  | .hbm, ⟨108, _⟩ => ⟨S1x128x16x64x576, .f32⟩
  | .hbm, ⟨109, _⟩ => ⟨S1x128x16x64x576, .f32⟩
  | .hbm, ⟨110, _⟩ => ⟨S1x128x16x64x64, .f32⟩
  | .hbm, ⟨111, _⟩ => ⟨S1x128x64x16x64, .f32⟩
  | .hbm, ⟨112, _⟩ => ⟨S1x8192x1024, .f32⟩
  | .hbm, ⟨113, _⟩ => ⟨S8192x1024, .f32⟩
  | .hbm, ⟨114, _⟩ => ⟨S8192x1024, .bf16⟩
  | .hbm, ⟨115, _⟩ => ⟨S_, .bf16⟩
  | .hbm, ⟨116, _⟩ => ⟨S512x1024, .bf16⟩
  | .hbm, ⟨117, _⟩ => ⟨S8704x1024, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_2 : Ref sig .tc := ⟨.hbm, 34, rfl⟩
abbrev main_call0_v0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_call1_v0 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c_4 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v54 : Ref sig .tc := ⟨.hbm, 70, rfl⟩
abbrev main_c_6 : Ref sig .tc := ⟨.hbm, 71, rfl⟩
abbrev main_v55 : Ref sig .tc := ⟨.hbm, 72, rfl⟩
abbrev main_v56 : Ref sig .tc := ⟨.hbm, 73, rfl⟩
abbrev main_c_7 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v71 : Ref sig .tc := ⟨.hbm, 95, rfl⟩
abbrev main_cst_10 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_13 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Ffn.lean ====
abbrev S8704x2048 : Shape := ⟨2, ![8704, 2048]⟩
abbrev S2x2048 : Shape := ⟨2, ![2, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8704x2048 : Shape := ⟨2, ![8704, 2048]⟩
abbrev S2x2048 : Shape := ⟨2, ![2, 2048]⟩
abbrev S1x2048x5632 : Shape := ⟨3, ![1, 2048, 5632]⟩
abbrev S1x5632x2048 : Shape := ⟨3, ![1, 5632, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S2048x5632 : Shape := ⟨2, ![2048, 5632]⟩
abbrev S8704x5632 : Shape := ⟨2, ![8704, 5632]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S2048x5632, .f32⟩
  | .hbm, ⟨24, _⟩ => ⟨S8704x5632, .f32⟩
  | .hbm, ⟨25, _⟩ => ⟨S8704x5632, .f32⟩
  | .hbm, ⟨26, _⟩ => ⟨S8704x5632, .f32⟩
  | .hbm, ⟨27, _⟩ => ⟨S_, .f32⟩
  | .hbm, ⟨28, _⟩ => ⟨S8704x5632, .f32⟩
  | .hbm, ⟨29, _⟩ => ⟨S8704x5632, .f32⟩
  | .hbm, ⟨30, _⟩ => ⟨S_, .f32⟩
  | .hbm, ⟨31, _⟩ => ⟨S8704x5632, .f32⟩
  | .hbm, ⟨32, _⟩ => ⟨S8704x5632, .f32⟩
  | .hbm, ⟨33, _⟩ => ⟨S8704x5632, .f32⟩
  | .hbm, ⟨34, _⟩ => ⟨S2048x5632, .f32⟩
  | .hbm, ⟨35, _⟩ => ⟨S8704x5632, .f32⟩
  | .hbm, ⟨36, _⟩ => ⟨S8704x5632, .f32⟩
  | .hbm, ⟨37, _⟩ => ⟨S5632x2048, .f32⟩
  | .hbm, ⟨38, _⟩ => ⟨S8704x2048, .f32⟩
  | .hbm, ⟨39, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Moe.lean ====
abbrev S19 : Shape := ⟨1, ![19]⟩
abbrev S29184x2048 : Shape := ⟨2, ![29184, 2048]⟩
abbrev S8x2048x5632 : Shape := ⟨3, ![8, 2048, 5632]⟩
abbrev S8x5632x2048 : Shape := ⟨3, ![8, 5632, 2048]⟩
abbrev S1536x2048 : Shape := ⟨2, ![1536, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 5
  | .vmem => 11
  | .smem => 2
  | _ => 0

abbrev bufTy : (tb : Table) → Fin (tcTables nBuf tb) → BufTy
  | .hbm, ⟨0, _⟩ => ⟨S29184x2048, .bf16⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S29184x2048, .f32⟩
  | .local _ .vmem, ⟨0, _⟩ => ⟨S1536x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1536x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .smem, ⟨0, _⟩ => ⟨S19, .i32⟩
  | .local _ .smem, ⟨1, _⟩ => ⟨S19, .i32⟩
  | _, _ => ⟨S29184x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![19, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v1 : BitVec 32) : BitVec 1 :=
  let c0_i32_1 : BitVec 32 := 0#32
  let v5 : BitVec 1 := Scalar.cmpi .sle v1 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def k0_cond3 (v1 : BitVec 32) : BitVec 1 :=
  let c0_i32_4 : BitVec 32 := 0#32
  let v10 : BitVec 1 := Scalar.cmpi .sgt v1 c0_i32_4
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c0_i32_35 : BitVec 32 := 0#32
  let v64 : BitVec 1 := Scalar.cmpi .eq arg1 c0_i32_35
  let v65 : BitVec 32 := Scalar.extui v64
  let c0_i32_36 : BitVec 32 := 0#32
  let v66 : BitVec 1 := Scalar.cmpi .ne v65 c0_i32_36
  v66

def k0_cond5 (i : grid0.Coords) : BitVec 1 :=
  let arg1 : BitVec 32 := BitVec.ofNat 32 (i 1).val
  let c0_i32_37 : BitVec 32 := 0#32
  let v67 : BitVec 1 := Scalar.cmpi .sgt arg1 c0_i32_37
  let v68 : BitVec 32 := Scalar.extui v67
  let c0_i32_38 : BitVec 32 := 0#32
  let v69 : BitVec 1 := Scalar.cmpi .ne v68 c0_i32_38
  v69

def k0_cond6 (i : grid0.Coords) (v1 : BitVec 32) : BitVec 1 :=
  let c256_i32 : BitVec 32 := 256#32
  let v13 : BitVec 1 := Scalar.cmpi .sle v1 c256_i32
  let arg1 : BitVec 32 := BitVec.ofNat 32 (i 1).val
  let c0_i32_6 : BitVec 32 := 0#32
  let v14 : BitVec 1 := Scalar.cmpi .eq arg1 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_cond7 (v1 : BitVec 32) : BitVec 1 :=
  let c256_i32_8 : BitVec 32 := 256#32
  let v18 : BitVec 1 := Scalar.cmpi .sgt v1 c256_i32_8
  let v19 : BitVec 32 := Scalar.extui v18
  let c0_i32_9 : BitVec 32 := 0#32
  let v20 : BitVec 1 := Scalar.cmpi .ne v19 c0_i32_9
  v20

def k0_cond8 (i : grid0.Coords) : BitVec 1 :=
  let arg1 : BitVec 32 := BitVec.ofNat 32 (i 1).val
  let c0_i32_34 : BitVec 32 := 0#32
  let v64 : BitVec 1 := Scalar.cmpi .eq arg1 c0_i32_34
  let v65 : BitVec 32 := Scalar.extui v64
  let c0_i32_35 : BitVec 32 := 0#32
  let v66 : BitVec 1 := Scalar.cmpi .ne v65 c0_i32_35
  v66

def k0_cond9 (i : grid0.Coords) : BitVec 1 :=
  let arg1 : BitVec 32 := BitVec.ofNat 32 (i 1).val
  let c0_i32_36 : BitVec 32 := 0#32
  let v67 : BitVec 1 := Scalar.cmpi .sgt arg1 c0_i32_36
  let v68 : BitVec 32 := Scalar.extui v67
  let c0_i32_37 : BitVec 32 := 0#32
  let v69 : BitVec 1 := Scalar.cmpi .ne v68 c0_i32_37
  v69

def k0_cond10 (i : grid0.Coords) (v1 : BitVec 32) : BitVec 1 :=
  let c512_i32 : BitVec 32 := 512#32
  let v21 : BitVec 1 := Scalar.cmpi .sle v1 c512_i32
  let arg1 : BitVec 32 := BitVec.ofNat 32 (i 1).val
  let c0_i32_10 : BitVec 32 := 0#32
  let v22 : BitVec 1 := Scalar.cmpi .eq arg1 c0_i32_10
  let v23 : BitVec 1 := Scalar.andi v21 v22
  let v24 : BitVec 32 := Scalar.extui v23
  let c0_i32_11 : BitVec 32 := 0#32
  let v25 : BitVec 1 := Scalar.cmpi .ne v24 c0_i32_11
  v25

def k0_cond11 (v1 : BitVec 32) : BitVec 1 :=
  let c512_i32_12 : BitVec 32 := 512#32
  let v26 : BitVec 1 := Scalar.cmpi .sgt v1 c512_i32_12
  let v27 : BitVec 32 := Scalar.extui v26
  let c0_i32_13 : BitVec 32 := 0#32
  let v28 : BitVec 1 := Scalar.cmpi .ne v27 c0_i32_13
  v28

def k0_cond12 (i : grid0.Coords) : BitVec 1 :=
  let arg1 : BitVec 32 := BitVec.ofNat 32 (i 1).val
  let c0_i32_34 : BitVec 32 := 0#32
  let v64 : BitVec 1 := Scalar.cmpi .eq arg1 c0_i32_34
  let v65 : BitVec 32 := Scalar.extui v64
  let c0_i32_35 : BitVec 32 := 0#32
  let v66 : BitVec 1 := Scalar.cmpi .ne v65 c0_i32_35
  v66

def k0_cond13 (i : grid0.Coords) : BitVec 1 :=
  let arg1 : BitVec 32 := BitVec.ofNat 32 (i 1).val
  let c0_i32_36 : BitVec 32 := 0#32
  let v67 : BitVec 1 := Scalar.cmpi .sgt arg1 c0_i32_36
  let v68 : BitVec 32 := Scalar.extui v67
  let c0_i32_37 : BitVec 32 := 0#32
  let v69 : BitVec 1 := Scalar.cmpi .ne v68 c0_i32_37
  v69

def k0_cond14 (i : grid0.Coords) (v1 : BitVec 32) : BitVec 1 :=
  let c768_i32 : BitVec 32 := 768#32
  let v29 : BitVec 1 := Scalar.cmpi .sle v1 c768_i32
  let arg1 : BitVec 32 := BitVec.ofNat 32 (i 1).val
  let c0_i32_14 : BitVec 32 := 0#32
  let v30 : BitVec 1 := Scalar.cmpi .eq arg1 c0_i32_14
  let v31 : BitVec 1 := Scalar.andi v29 v30
  let v32 : BitVec 32 := Scalar.extui v31
  let c0_i32_15 : BitVec 32 := 0#32
  let v33 : BitVec 1 := Scalar.cmpi .ne v32 c0_i32_15
  v33

def k0_cond15 (v1 : BitVec 32) : BitVec 1 :=
  let c768_i32_16 : BitVec 32 := 768#32
  let v34 : BitVec 1 := Scalar.cmpi .sgt v1 c768_i32_16
  let v35 : BitVec 32 := Scalar.extui v34
  let c0_i32_17 : BitVec 32 := 0#32
  let v36 : BitVec 1 := Scalar.cmpi .ne v35 c0_i32_17
  v36

def k0_cond16 (i : grid0.Coords) : BitVec 1 :=
  let arg1 : BitVec 32 := BitVec.ofNat 32 (i 1).val
  let c0_i32_34 : BitVec 32 := 0#32
  let v64 : BitVec 1 := Scalar.cmpi .eq arg1 c0_i32_34
  let v65 : BitVec 32 := Scalar.extui v64
  let c0_i32_35 : BitVec 32 := 0#32
  let v66 : BitVec 1 := Scalar.cmpi .ne v65 c0_i32_35
  v66

def k0_cond17 (i : grid0.Coords) : BitVec 1 :=
  let arg1 : BitVec 32 := BitVec.ofNat 32 (i 1).val
  let c0_i32_36 : BitVec 32 := 0#32
  let v67 : BitVec 1 := Scalar.cmpi .sgt arg1 c0_i32_36
  let v68 : BitVec 32 := Scalar.extui v67
  let c0_i32_37 : BitVec 32 := 0#32
  let v69 : BitVec 1 := Scalar.cmpi .ne v68 c0_i32_37
  v69

def k0_cond18 (i : grid0.Coords) (v1 : BitVec 32) : BitVec 1 :=
  let c1024_i32 : BitVec 32 := 1024#32
  let v37 : BitVec 1 := Scalar.cmpi .sle v1 c1024_i32
  let arg1 : BitVec 32 := BitVec.ofNat 32 (i 1).val
  let c0_i32_18 : BitVec 32 := 0#32
  let v38 : BitVec 1 := Scalar.cmpi .eq arg1 c0_i32_18
  let v39 : BitVec 1 := Scalar.andi v37 v38
  let v40 : BitVec 32 := Scalar.extui v39
  let c0_i32_19 : BitVec 32 := 0#32
  let v41 : BitVec 1 := Scalar.cmpi .ne v40 c0_i32_19
  v41

def k0_cond19 (v1 : BitVec 32) : BitVec 1 :=
  let c1024_i32_20 : BitVec 32 := 1024#32
  let v42 : BitVec 1 := Scalar.cmpi .sgt v1 c1024_i32_20
  let v43 : BitVec 32 := Scalar.extui v42
  let c0_i32_21 : BitVec 32 := 0#32
  let v44 : BitVec 1 := Scalar.cmpi .ne v43 c0_i32_21
  v44

def k0_cond20 (i : grid0.Coords) : BitVec 1 :=
  let arg1 : BitVec 32 := BitVec.ofNat 32 (i 1).val
  let c0_i32_34 : BitVec 32 := 0#32
  let v64 : BitVec 1 := Scalar.cmpi .eq arg1 c0_i32_34
  let v65 : BitVec 32 := Scalar.extui v64
  let c0_i32_35 : BitVec 32 := 0#32
  let v66 : BitVec 1 := Scalar.cmpi .ne v65 c0_i32_35
  v66

def k0_cond21 (i : grid0.Coords) : BitVec 1 :=
  let arg1 : BitVec 32 := BitVec.ofNat 32 (i 1).val
  let c0_i32_36 : BitVec 32 := 0#32
  let v67 : BitVec 1 := Scalar.cmpi .sgt arg1 c0_i32_36
  let v68 : BitVec 32 := Scalar.extui v67
  let c0_i32_37 : BitVec 32 := 0#32
  let v69 : BitVec 1 := Scalar.cmpi .ne v68 c0_i32_37
  v69

def k0_cond22 (i : grid0.Coords) (v1 : BitVec 32) : BitVec 1 :=
  let c1280_i32 : BitVec 32 := 1280#32
  let v45 : BitVec 1 := Scalar.cmpi .sle v1 c1280_i32
  let arg1 : BitVec 32 := BitVec.ofNat 32 (i 1).val
  let c0_i32_22 : BitVec 32 := 0#32
  let v46 : BitVec 1 := Scalar.cmpi .eq arg1 c0_i32_22
  let v47 : BitVec 1 := Scalar.andi v45 v46
  let v48 : BitVec 32 := Scalar.extui v47
  let c0_i32_23 : BitVec 32 := 0#32
  let v49 : BitVec 1 := Scalar.cmpi .ne v48 c0_i32_23
  v49

def k0_cond23 (v1 : BitVec 32) : BitVec 1 :=
  let c1280_i32_24 : BitVec 32 := 1280#32
  let v50 : BitVec 1 := Scalar.cmpi .sgt v1 c1280_i32_24
  let v51 : BitVec 32 := Scalar.extui v50
  let c0_i32_25 : BitVec 32 := 0#32
  let v52 : BitVec 1 := Scalar.cmpi .ne v51 c0_i32_25
  v52

def k0_cond24 (i : grid0.Coords) : BitVec 1 :=
  let arg1 : BitVec 32 := BitVec.ofNat 32 (i 1).val
  let c0_i32_34 : BitVec 32 := 0#32
  let v64 : BitVec 1 := Scalar.cmpi .eq arg1 c0_i32_34
  let v65 : BitVec 32 := Scalar.extui v64
  let c0_i32_35 : BitVec 32 := 0#32
  let v66 : BitVec 1 := Scalar.cmpi .ne v65 c0_i32_35
  v66

def k0_cond25 (i : grid0.Coords) : BitVec 1 :=
  let arg1 : BitVec 32 := BitVec.ofNat 32 (i 1).val
  let c0_i32_36 : BitVec 32 := 0#32
  let v67 : BitVec 1 := Scalar.cmpi .sgt arg1 c0_i32_36
  let v68 : BitVec 32 := Scalar.extui v67
  let c0_i32_37 : BitVec 32 := 0#32
  let v69 : BitVec 1 := Scalar.cmpi .ne v68 c0_i32_37
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S19.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 1 (Rect.unit (s := S19) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S19.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 1 (Rect.unit (s := S19) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S19.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 1 (Rect.unit (s := S19) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1536x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== MoeReferenceIdeal.lean ====
abbrev S19 : Shape := ⟨1, ![19]⟩
abbrev S29184x2048 : Shape := ⟨2, ![29184, 2048]⟩
abbrev S8x2048x5632 : Shape := ⟨3, ![8, 2048, 5632]⟩
abbrev S8x5632x2048 : Shape := ⟨3, ![8, 5632, 2048]⟩
abbrev S19x1536 : Shape := ⟨2, ![19, 1536]⟩
abbrev S29184 : Shape := ⟨1, ![29184]⟩
abbrev S6 : Shape := ⟨1, ![6]⟩
abbrev S_ : Shape := ⟨0, ![]⟩
abbrev S6x256 : Shape := ⟨2, ![6, 256]⟩
abbrev S1536 : Shape := ⟨1, ![1536]⟩
abbrev S1x1536 : Shape := ⟨2, ![1, 1536]⟩
abbrev S1x2048x5632 : Shape := ⟨3, ![1, 2048, 5632]⟩
abbrev S2048x5632 : Shape := ⟨2, ![2048, 5632]⟩
abbrev S29184x5632 : Shape := ⟨2, ![29184, 5632]⟩
abbrev S1x5632x2048 : Shape := ⟨3, ![1, 5632, 2048]⟩
abbrev S5632x2048 : Shape := ⟨2, ![5632, 2048]⟩
abbrev S29184x1 : Shape := ⟨2, ![29184, 1]⟩

abbrev nBuf : Space → Nat
  | .hbm => 231
  | .vmem => 0
  | .smem => 0
  | _ => 0

abbrev hbmTy0_0 (i : Nat) : BufTy := match i % 128 with
  | 0 => ⟨S19, .i32⟩
  | 1 => ⟨S19, .i32⟩
  | 2 => ⟨S29184x2048, .bf16⟩
  | 3 => ⟨S8x2048x5632, .f32⟩
  | 4 => ⟨S8x2048x5632, .f32⟩
  | 5 => ⟨S8x5632x2048, .f32⟩
  | 6 => ⟨S29184x2048, .f32⟩
  | 7 => ⟨S19x1536, .i32⟩
  | 8 => ⟨S29184, .i32⟩
  | 9 => ⟨S6, .i32⟩
  | 10 => ⟨S_, .i32⟩
  | 11 => ⟨S6, .i32⟩
  | 12 => ⟨S6, .i32⟩
  | 13 => ⟨S6x256, .i32⟩
  | 14 => ⟨S1536, .i32⟩
  | 15 => ⟨S1x1536, .i32⟩
  | 16 => ⟨S19x1536, .i32⟩
  | 17 => ⟨S29184, .i32⟩
  | 18 => ⟨S19x1536, .i32⟩
  | 19 => ⟨S29184, .i32⟩
  | 20 => ⟨S29184, .i1⟩
  | 21 => ⟨S_, .f32⟩
  | 22 => ⟨S29184x2048, .f32⟩
  | 23 => ⟨S1x2048x5632, .f32⟩
  | 24 => ⟨S2048x5632, .f32⟩
  | 25 => ⟨S29184x5632, .f32⟩
  | 26 => ⟨S29184x5632, .f32⟩
  | 27 => ⟨S29184x5632, .f32⟩
  | 28 => ⟨S_, .f32⟩
  | 29 => ⟨S29184x5632, .f32⟩
  | 30 => ⟨S29184x5632, .f32⟩
  | 31 => ⟨S_, .f32⟩
  | 32 => ⟨S29184x5632, .f32⟩
  | 33 => ⟨S29184x5632, .f32⟩
  | 34 => ⟨S29184x5632, .f32⟩
  | 35 => ⟨S1x2048x5632, .f32⟩
  | 36 => ⟨S2048x5632, .f32⟩
  | 37 => ⟨S29184x5632, .f32⟩
  | 38 => ⟨S29184x5632, .f32⟩
  | 39 => ⟨S1x5632x2048, .f32⟩
  | 40 => ⟨S5632x2048, .f32⟩
  | 41 => ⟨S29184x2048, .f32⟩
  | 42 => ⟨S_, .i32⟩
  | 43 => ⟨S29184, .i32⟩
  | 44 => ⟨S29184, .i1⟩
  | 45 => ⟨S29184, .i1⟩
  | 46 => ⟨S29184x1, .i1⟩
  | 47 => ⟨S29184x2048, .i1⟩
  | 48 => ⟨S29184x2048, .f32⟩
  | 49 => ⟨S1x2048x5632, .f32⟩
  | 50 => ⟨S2048x5632, .f32⟩
  | 51 => ⟨S29184x5632, .f32⟩
  | 52 => ⟨S29184x5632, .f32⟩
  | 53 => ⟨S29184x5632, .f32⟩
  | 54 => ⟨S_, .f32⟩
  | 55 => ⟨S29184x5632, .f32⟩
  | 56 => ⟨S29184x5632, .f32⟩
  | 57 => ⟨S_, .f32⟩
  | 58 => ⟨S29184x5632, .f32⟩
  | 59 => ⟨S29184x5632, .f32⟩
  | 60 => ⟨S29184x5632, .f32⟩
  | 61 => ⟨S1x2048x5632, .f32⟩
  | 62 => ⟨S2048x5632, .f32⟩
  | 63 => ⟨S29184x5632, .f32⟩
  | 64 => ⟨S29184x5632, .f32⟩
  | 65 => ⟨S1x5632x2048, .f32⟩
  | 66 => ⟨S5632x2048, .f32⟩
  | 67 => ⟨S29184x2048, .f32⟩
  | 68 => ⟨S_, .i32⟩
  | 69 => ⟨S29184, .i32⟩
  | 70 => ⟨S29184, .i1⟩
  | 71 => ⟨S29184, .i1⟩
  | 72 => ⟨S29184x1, .i1⟩
  | 73 => ⟨S29184x2048, .i1⟩
  | 74 => ⟨S29184x2048, .f32⟩
  | 75 => ⟨S1x2048x5632, .f32⟩
  | 76 => ⟨S2048x5632, .f32⟩
  | 77 => ⟨S29184x5632, .f32⟩
  | 78 => ⟨S29184x5632, .f32⟩
  | 79 => ⟨S29184x5632, .f32⟩
  | 80 => ⟨S_, .f32⟩
  | 81 => ⟨S29184x5632, .f32⟩
  | 82 => ⟨S29184x5632, .f32⟩
  | 83 => ⟨S_, .f32⟩
  | 84 => ⟨S29184x5632, .f32⟩
  | 85 => ⟨S29184x5632, .f32⟩
  | 86 => ⟨S29184x5632, .f32⟩
  | 87 => ⟨S1x2048x5632, .f32⟩
  | 88 => ⟨S2048x5632, .f32⟩
  | 89 => ⟨S29184x5632, .f32⟩
  | 90 => ⟨S29184x5632, .f32⟩
  | 91 => ⟨S1x5632x2048, .f32⟩
  | 92 => ⟨S5632x2048, .f32⟩
  | 93 => ⟨S29184x2048, .f32⟩
  | 94 => ⟨S_, .i32⟩
  | 95 => ⟨S29184, .i32⟩
  | 96 => ⟨S29184, .i1⟩
  | 97 => ⟨S29184, .i1⟩
  | 98 => ⟨S29184x1, .i1⟩
  | 99 => ⟨S29184x2048, .i1⟩
  | 100 => ⟨S29184x2048, .f32⟩
  | 101 => ⟨S1x2048x5632, .f32⟩
  | 102 => ⟨S2048x5632, .f32⟩
  | 103 => ⟨S29184x5632, .f32⟩
  | 104 => ⟨S29184x5632, .f32⟩
  | 105 => ⟨S29184x5632, .f32⟩
  | 106 => ⟨S_, .f32⟩
  | 107 => ⟨S29184x5632, .f32⟩
  | 108 => ⟨S29184x5632, .f32⟩
  | 109 => ⟨S_, .f32⟩
  | 110 => ⟨S29184x5632, .f32⟩
  | 111 => ⟨S29184x5632, .f32⟩
  | 112 => ⟨S29184x5632, .f32⟩
  | 113 => ⟨S1x2048x5632, .f32⟩
  | 114 => ⟨S2048x5632, .f32⟩
  | 115 => ⟨S29184x5632, .f32⟩
  | 116 => ⟨S29184x5632, .f32⟩
  | 117 => ⟨S1x5632x2048, .f32⟩
  | 118 => ⟨S5632x2048, .f32⟩
  | 119 => ⟨S29184x2048, .f32⟩
  | 120 => ⟨S_, .i32⟩
  | 121 => ⟨S29184, .i32⟩
  | 122 => ⟨S29184, .i1⟩
  | 123 => ⟨S29184, .i1⟩
  | 124 => ⟨S29184x1, .i1⟩
  | 125 => ⟨S29184x2048, .i1⟩
  | 126 => ⟨S29184x2048, .f32⟩
  | 127 => ⟨S1x2048x5632, .f32⟩
  | _ => ⟨S19, .i32⟩

abbrev hbmTy0_1 (i : Nat) : BufTy := match i % 128 with
  | 0 => ⟨S2048x5632, .f32⟩
  | 1 => ⟨S29184x5632, .f32⟩
  | 2 => ⟨S29184x5632, .f32⟩
  | 3 => ⟨S29184x5632, .f32⟩
  | 4 => ⟨S_, .f32⟩
  | 5 => ⟨S29184x5632, .f32⟩
  | 6 => ⟨S29184x5632, .f32⟩
  | 7 => ⟨S_, .f32⟩
  | 8 => ⟨S29184x5632, .f32⟩
  | 9 => ⟨S29184x5632, .f32⟩
  | 10 => ⟨S29184x5632, .f32⟩
  | 11 => ⟨S1x2048x5632, .f32⟩
  | 12 => ⟨S2048x5632, .f32⟩
  | 13 => ⟨S29184x5632, .f32⟩
  | 14 => ⟨S29184x5632, .f32⟩
  | 15 => ⟨S1x5632x2048, .f32⟩
  | 16 => ⟨S5632x2048, .f32⟩
  | 17 => ⟨S29184x2048, .f32⟩
  | 18 => ⟨S_, .i32⟩
  | 19 => ⟨S29184, .i32⟩
  | 20 => ⟨S29184, .i1⟩
  | 21 => ⟨S29184, .i1⟩
  | 22 => ⟨S29184x1, .i1⟩
  | 23 => ⟨S29184x2048, .i1⟩
  | 24 => ⟨S29184x2048, .f32⟩
  | 25 => ⟨S1x2048x5632, .f32⟩
  | 26 => ⟨S2048x5632, .f32⟩
  | 27 => ⟨S29184x5632, .f32⟩
  | 28 => ⟨S29184x5632, .f32⟩
  | 29 => ⟨S29184x5632, .f32⟩
  | 30 => ⟨S_, .f32⟩
  | 31 => ⟨S29184x5632, .f32⟩
  | 32 => ⟨S29184x5632, .f32⟩
  | 33 => ⟨S_, .f32⟩
  | 34 => ⟨S29184x5632, .f32⟩
  | 35 => ⟨S29184x5632, .f32⟩
  | 36 => ⟨S29184x5632, .f32⟩
  | 37 => ⟨S1x2048x5632, .f32⟩
  | 38 => ⟨S2048x5632, .f32⟩
  | 39 => ⟨S29184x5632, .f32⟩
  | 40 => ⟨S29184x5632, .f32⟩
  | 41 => ⟨S1x5632x2048, .f32⟩
  | 42 => ⟨S5632x2048, .f32⟩
  | 43 => ⟨S29184x2048, .f32⟩
  | 44 => ⟨S_, .i32⟩
  | 45 => ⟨S29184, .i32⟩
  | 46 => ⟨S29184, .i1⟩
  | 47 => ⟨S29184, .i1⟩
  | 48 => ⟨S29184x1, .i1⟩
  | 49 => ⟨S29184x2048, .i1⟩
  | 50 => ⟨S29184x2048, .f32⟩
  | 51 => ⟨S1x2048x5632, .f32⟩
  | 52 => ⟨S2048x5632, .f32⟩
  | 53 => ⟨S29184x5632, .f32⟩
  | 54 => ⟨S29184x5632, .f32⟩
  | 55 => ⟨S29184x5632, .f32⟩
  | 56 => ⟨S_, .f32⟩
  | 57 => ⟨S29184x5632, .f32⟩
  | 58 => ⟨S29184x5632, .f32⟩
  | 59 => ⟨S_, .f32⟩
  | 60 => ⟨S29184x5632, .f32⟩
  | 61 => ⟨S29184x5632, .f32⟩
  | 62 => ⟨S29184x5632, .f32⟩
  | 63 => ⟨S1x2048x5632, .f32⟩
  | 64 => ⟨S2048x5632, .f32⟩
  | 65 => ⟨S29184x5632, .f32⟩
  | 66 => ⟨S29184x5632, .f32⟩
  | 67 => ⟨S1x5632x2048, .f32⟩
  | 68 => ⟨S5632x2048, .f32⟩
  | 69 => ⟨S29184x2048, .f32⟩
  | 70 => ⟨S_, .i32⟩
  | 71 => ⟨S29184, .i32⟩
  | 72 => ⟨S29184, .i1⟩
  | 73 => ⟨S29184, .i1⟩
  | 74 => ⟨S29184x1, .i1⟩
  | 75 => ⟨S29184x2048, .i1⟩
  | 76 => ⟨S29184x2048, .f32⟩
  | 77 => ⟨S1x2048x5632, .f32⟩
  | 78 => ⟨S2048x5632, .f32⟩
  | 79 => ⟨S29184x5632, .f32⟩
  | 80 => ⟨S29184x5632, .f32⟩
  | 81 => ⟨S29184x5632, .f32⟩
  | 82 => ⟨S_, .f32⟩
  | 83 => ⟨S29184x5632, .f32⟩
  | 84 => ⟨S29184x5632, .f32⟩
  | 85 => ⟨S_, .f32⟩
  | 86 => ⟨S29184x5632, .f32⟩
  | 87 => ⟨S29184x5632, .f32⟩
  | 88 => ⟨S29184x5632, .f32⟩
  | 89 => ⟨S1x2048x5632, .f32⟩
  | 90 => ⟨S2048x5632, .f32⟩
  | 91 => ⟨S29184x5632, .f32⟩
  | 92 => ⟨S29184x5632, .f32⟩
  | 93 => ⟨S1x5632x2048, .f32⟩
  | 94 => ⟨S5632x2048, .f32⟩
  | 95 => ⟨S29184x2048, .f32⟩
  | 96 => ⟨S_, .i32⟩
  | 97 => ⟨S29184, .i32⟩
  | 98 => ⟨S29184, .i1⟩
  | 99 => ⟨S29184, .i1⟩
  | 100 => ⟨S29184x1, .i1⟩
  | 101 => ⟨S29184x2048, .i1⟩
  | 102 => ⟨S29184x2048, .f32⟩
  | _ => ⟨S19, .i32⟩

abbrev hbmTy (i : Nat) : BufTy := match i / 128 with
  | 0 => hbmTy0_0 i
  | 1 => hbmTy0_1 i
  | _ => ⟨S19, .i32⟩

abbrev bufTy : (tb : Table) → Fin (tcTables nBuf tb) → BufTy
  | .hbm, ⟨i, _⟩ => hbmTy i
  | _, _ => ⟨S19, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call3_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_2 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call5_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call6_v0 : Ref sig .tc := ⟨.hbm, 104, rfl⟩
abbrev main_call6_v1 : Ref sig .tc := ⟨.hbm, 105, rfl⟩
abbrev main_call6_cst : Ref sig .tc := ⟨.hbm, 106, rfl⟩
abbrev main_call6_v2 : Ref sig .tc := ⟨.hbm, 107, rfl⟩
abbrev main_call6_v3 : Ref sig .tc := ⟨.hbm, 108, rfl⟩
abbrev main_call6_cst_0 : Ref sig .tc := ⟨.hbm, 109, rfl⟩
abbrev main_call6_v4 : Ref sig .tc := ⟨.hbm, 110, rfl⟩
abbrev main_call6_v5 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_3 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call7_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call8_v0 : Ref sig .tc := ⟨.hbm, 130, rfl⟩
abbrev main_call8_v1 : Ref sig .tc := ⟨.hbm, 131, rfl⟩
abbrev main_call8_cst : Ref sig .tc := ⟨.hbm, 132, rfl⟩
abbrev main_call8_v2 : Ref sig .tc := ⟨.hbm, 133, rfl⟩
abbrev main_call8_v3 : Ref sig .tc := ⟨.hbm, 134, rfl⟩
abbrev main_call8_cst_0 : Ref sig .tc := ⟨.hbm, 135, rfl⟩
abbrev main_call8_v4 : Ref sig .tc := ⟨.hbm, 136, rfl⟩
abbrev main_call8_v5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_4 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_call9_v0 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_call10_v0 : Ref sig .tc := ⟨.hbm, 156, rfl⟩
abbrev main_call10_v1 : Ref sig .tc := ⟨.hbm, 157, rfl⟩
abbrev main_call10_cst : Ref sig .tc := ⟨.hbm, 158, rfl⟩
abbrev main_call10_v2 : Ref sig .tc := ⟨.hbm, 159, rfl⟩
abbrev main_call10_v3 : Ref sig .tc := ⟨.hbm, 160, rfl⟩
abbrev main_call10_cst_0 : Ref sig .tc := ⟨.hbm, 161, rfl⟩
abbrev main_call10_v4 : Ref sig .tc := ⟨.hbm, 162, rfl⟩
abbrev main_call10_v5 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_c_5 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_call11_v0 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_call12_v0 : Ref sig .tc := ⟨.hbm, 182, rfl⟩
abbrev main_call12_v1 : Ref sig .tc := ⟨.hbm, 183, rfl⟩
abbrev main_call12_cst : Ref sig .tc := ⟨.hbm, 184, rfl⟩
abbrev main_call12_v2 : Ref sig .tc := ⟨.hbm, 185, rfl⟩
abbrev main_call12_v3 : Ref sig .tc := ⟨.hbm, 186, rfl⟩
abbrev main_call12_cst_0 : Ref sig .tc := ⟨.hbm, 187, rfl⟩
abbrev main_call12_v4 : Ref sig .tc := ⟨.hbm, 188, rfl⟩
abbrev main_call12_v5 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_c_6 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_call13_v0 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_call14_v0 : Ref sig .tc := ⟨.hbm, 208, rfl⟩
abbrev main_call14_v1 : Ref sig .tc := ⟨.hbm, 209, rfl⟩
abbrev main_call14_cst : Ref sig .tc := ⟨.hbm, 210, rfl⟩
abbrev main_call14_v2 : Ref sig .tc := ⟨.hbm, 211, rfl⟩
abbrev main_call14_v3 : Ref sig .tc := ⟨.hbm, 212, rfl⟩
abbrev main_call14_cst_0 : Ref sig .tc := ⟨.hbm, 213, rfl⟩
abbrev main_call14_v4 : Ref sig .tc := ⟨.hbm, 214, rfl⟩
abbrev main_call14_v5 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_c_7 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_call15_v0 : Ref sig .tc := ⟨.hbm, 229, rfl⟩
abbrev main_v142 : Ref sig .tc := ⟨.hbm, 230, rfl⟩

abbrev nD : Nat := 1
abbrev τ : Topo := Topo.v7x

variable {F : FTy → Type} [FloatOps F]
-- ==== Proj.lean ====
abbrev S1x8192x2048 : Shape := ⟨3, ![1, 8192, 2048]⟩
abbrev S32x16x2048 : Shape := ⟨3, ![32, 16, 2048]⟩
abbrev S1x32x576x16x64 : Shape := ⟨5, ![1, 32, 576, 16, 64]⟩
abbrev S1x32x15x1024 : Shape := ⟨4, ![1, 32, 15, 1024]⟩
abbrev S2x2048 : Shape := ⟨2, ![2, 2048]⟩
abbrev S1x2048x4096 : Shape := ⟨3, ![1, 2048, 4096]⟩
abbrev S8192x2048 : Shape := ⟨2, ![8192, 2048]⟩
abbrev S512x2048 : Shape := ⟨2, ![512, 2048]⟩
abbrev S1x2048 : Shape := ⟨2, ![1, 2048]⟩
abbrev S2048 : Shape := ⟨1, ![2048]⟩
abbrev S2048x4096 : Shape := ⟨2, ![2048, 4096]⟩
abbrev S8704x4096 : Shape := ⟨2, ![8704, 4096]⟩
abbrev S8704x2048 : Shape := ⟨2, ![8704, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S8704x1024 : Shape := ⟨2, ![8704, 1024]⟩
abbrev S32x16x1024 : Shape := ⟨3, ![32, 16, 1024]⟩
abbrev S32x15x1024 : Shape := ⟨3, ![32, 15, 1024]⟩
abbrev S32x31x1024 : Shape := ⟨3, ![32, 31, 1024]⟩
abbrev S576x1024 : Shape := ⟨2, ![576, 1024]⟩
abbrev S1x1x576x16x64 : Shape := ⟨5, ![1, 1, 576, 16, 64]⟩
abbrev S15x1024 : Shape := ⟨2, ![15, 1024]⟩
abbrev S1x1x15x1024 : Shape := ⟨4, ![1, 1, 15, 1024]⟩
abbrev S32x576x16x64 : Shape := ⟨4, ![32, 576, 16, 64]⟩
abbrev S32x16x16x64 : Shape := ⟨4, ![32, 16, 16, 64]⟩
abbrev S32x592x16x64 : Shape := ⟨4, ![32, 592, 16, 64]⟩

abbrev nBuf : Space → Nat
  | .hbm => 43
  | .vmem => 12
  | .smem => 0
  | _ => 0

abbrev bufTy : (tb : Table) → Fin (tcTables nBuf tb) → BufTy
  | .hbm, ⟨0, _⟩ => ⟨S1x8192x2048, .f32⟩
  | .hbm, ⟨1, _⟩ => ⟨S32x16x2048, .f32⟩
  | .hbm, ⟨2, _⟩ => ⟨S1x32x576x16x64, .f32⟩
  | .hbm, ⟨3, _⟩ => ⟨S1x32x576x16x64, .f32⟩
  | .hbm, ⟨4, _⟩ => ⟨S1x32x15x1024, .f32⟩
  | .hbm, ⟨5, _⟩ => ⟨S2x2048, .f32⟩
  | .hbm, ⟨6, _⟩ => ⟨S1x2048x4096, .f32⟩
  | .hbm, ⟨7, _⟩ => ⟨S8192x2048, .f32⟩
  | .hbm, ⟨8, _⟩ => ⟨S512x2048, .f32⟩
  | .hbm, ⟨9, _⟩ => ⟨S1x2048, .f32⟩
  | .hbm, ⟨10, _⟩ => ⟨S2048, .f32⟩
  | .hbm, ⟨11, _⟩ => ⟨S2048x4096, .f32⟩
  | .hbm, ⟨12, _⟩ => ⟨S2048x4096, .bf16⟩
  | .hbm, ⟨13, _⟩ => ⟨S1x2048, .f32⟩
  | .hbm, ⟨14, _⟩ => ⟨S8704x4096, .f32⟩
  | .hbm, ⟨15, _⟩ => ⟨S8704x2048, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S512x1024, .f32⟩
  | .hbm, ⟨20, _⟩ => ⟨S32x16x1024, .f32⟩
  | .hbm, ⟨21, _⟩ => ⟨S32x15x1024, .f32⟩
  | .hbm, ⟨22, _⟩ => ⟨S32x31x1024, .f32⟩
  | .hbm, ⟨23, _⟩ => ⟨S576x1024, .f32⟩
  | .hbm, ⟨24, _⟩ => ⟨S1x1x576x16x64, .f32⟩
  | .hbm, ⟨25, _⟩ => ⟨S576x1024, .f32⟩
  | .hbm, ⟨26, _⟩ => ⟨S1x1x576x16x64, .f32⟩
  | .hbm, ⟨27, _⟩ => ⟨S15x1024, .f32⟩
  | .hbm, ⟨28, _⟩ => ⟨S1x1x15x1024, .f32⟩
  | .hbm, ⟨29, _⟩ => ⟨S512x1024, .f32⟩
  | .hbm, ⟨30, _⟩ => ⟨S32x576x16x64, .f32⟩
  | .hbm, ⟨31, _⟩ => ⟨S32x16x16x64, .f32⟩
  | .hbm, ⟨32, _⟩ => ⟨S32x592x16x64, .f32⟩
  | .hbm, ⟨33, _⟩ => ⟨S32x576x16x64, .f32⟩
  | .hbm, ⟨34, _⟩ => ⟨S1x32x576x16x64, .f32⟩
  | .hbm, ⟨35, _⟩ => ⟨S512x1024, .f32⟩
  | .hbm, ⟨36, _⟩ => ⟨S32x576x16x64, .f32⟩
  | .hbm, ⟨37, _⟩ => ⟨S32x16x16x64, .f32⟩
  | .hbm, ⟨38, _⟩ => ⟨S32x592x16x64, .f32⟩
  | .hbm, ⟨39, _⟩ => ⟨S32x576x16x64, .f32⟩
  | .hbm, ⟨40, _⟩ => ⟨S1x32x576x16x64, .f32⟩
  | .hbm, ⟨41, _⟩ => ⟨S32x15x1024, .f32⟩
  | .hbm, ⟨42, _⟩ => ⟨S1x32x15x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let arg0 : BitVec 32 := BitVec.ofNat 32 (i 0).val
  let c16_i32_2 : BitVec 32 := 16#32
  let v6 : BitVec 1 := Scalar.cmpi .sge arg0 c16_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjReferenceIdeal.lean ====
abbrev S1x8192x2048 : Shape := ⟨3, ![1, 8192, 2048]⟩
abbrev S32x16x2048 : Shape := ⟨3, ![32, 16, 2048]⟩
abbrev S1x32x576x16x64 : Shape := ⟨5, ![1, 32, 576, 16, 64]⟩
abbrev S1x32x15x1024 : Shape := ⟨4, ![1, 32, 15, 1024]⟩
abbrev S2x2048 : Shape := ⟨2, ![2, 2048]⟩
abbrev S1x2048x4096 : Shape := ⟨3, ![1, 2048, 4096]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x4096 : Shape := ⟨2, ![2048, 4096]⟩
abbrev S1x8192x4096 : Shape := ⟨3, ![1, 8192, 4096]⟩
abbrev S32x16 : Shape := ⟨2, ![32, 16]⟩
abbrev S32x16x1 : Shape := ⟨3, ![32, 16, 1]⟩
abbrev S32x16x4096 : Shape := ⟨3, ![32, 16, 4096]⟩
abbrev S8192x4096 : Shape := ⟨2, ![8192, 4096]⟩
abbrev S512x4096 : Shape := ⟨2, ![512, 4096]⟩
abbrev S8704x4096 : Shape := ⟨2, ![8704, 4096]⟩
abbrev S1x8192x1024 : Shape := ⟨3, ![1, 8192, 1024]⟩
abbrev S1x8192x16x64 : Shape := ⟨4, ![1, 8192, 16, 64]⟩
abbrev S1x576x16x64 : Shape := ⟨4, ![1, 576, 16, 64]⟩
abbrev S1x15x1024 : Shape := ⟨3, ![1, 15, 1024]⟩
abbrev S32x16x1024 : Shape := ⟨3, ![32, 16, 1024]⟩
abbrev S32x16x16x64 : Shape := ⟨4, ![32, 16, 16, 64]⟩
abbrev S32x576x16x64 : Shape := ⟨4, ![32, 576, 16, 64]⟩
abbrev S32x592x16x64 : Shape := ⟨4, ![32, 592, 16, 64]⟩
abbrev S32x15x1024 : Shape := ⟨3, ![32, 15, 1024]⟩
abbrev S32x31x1024 : Shape := ⟨3, ![32, 31, 1024]⟩
abbrev S1x1x576x16x64 : Shape := ⟨5, ![1, 1, 576, 16, 64]⟩
abbrev S1x1x15x1024 : Shape := ⟨4, ![1, 1, 15, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x16x2048, .f32⟩
  | .hbm, ⟨2, _⟩ => ⟨S1x32x576x16x64, .f32⟩
  | .hbm, ⟨3, _⟩ => ⟨S1x32x576x16x64, .f32⟩
  | .hbm, ⟨4, _⟩ => ⟨S1x32x15x1024, .f32⟩
  | .hbm, ⟨5, _⟩ => ⟨S2x2048, .f32⟩
  | .hbm, ⟨6, _⟩ => ⟨S1x2048x4096, .f32⟩
  | .hbm, ⟨7, _⟩ => ⟨S1x2048, .f32⟩
  | .hbm, ⟨8, _⟩ => ⟨S2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S2048x4096, .f32⟩
  | .hbm, ⟨26, _⟩ => ⟨S1x8192x4096, .f32⟩
  | .hbm, ⟨27, _⟩ => ⟨S1x2048, .f32⟩
  | .hbm, ⟨28, _⟩ => ⟨S2048, .f32⟩
  | .hbm, ⟨29, _⟩ => ⟨S32x16x2048, .f32⟩
  | .hbm, ⟨30, _⟩ => ⟨S_, .f32⟩
  | .hbm, ⟨31, _⟩ => ⟨S32x16, .f32⟩
  | .hbm, ⟨32, _⟩ => ⟨S32x16x1, .f32⟩
  | .hbm, ⟨33, _⟩ => ⟨S_, .f32⟩
  | .hbm, ⟨34, _⟩ => ⟨S32x16x1, .f32⟩
  | .hbm, ⟨35, _⟩ => ⟨S32x16x1, .f32⟩
  | .hbm, ⟨36, _⟩ => ⟨S_, .f32⟩
  | .hbm, ⟨37, _⟩ => ⟨S32x16x1, .f32⟩
  | .hbm, ⟨38, _⟩ => ⟨S32x16x1, .f32⟩
  | .hbm, ⟨39, _⟩ => ⟨S32x16x1, .f32⟩
  | .hbm, ⟨40, _⟩ => ⟨S32x16x2048, .f32⟩
  | .hbm, ⟨41, _⟩ => ⟨S32x16x2048, .f32⟩
  | .hbm, ⟨42, _⟩ => ⟨S1x1x2048, .f32⟩
  | .hbm, ⟨43, _⟩ => ⟨S32x16x2048, .f32⟩
  | .hbm, ⟨44, _⟩ => ⟨S32x16x2048, .f32⟩
  | .hbm, ⟨45, _⟩ => ⟨S2048x4096, .f32⟩
  | .hbm, ⟨46, _⟩ => ⟨S32x16x4096, .f32⟩
  | .hbm, ⟨47, _⟩ => ⟨S8192x4096, .f32⟩
  | .hbm, ⟨48, _⟩ => ⟨S512x4096, .f32⟩
  | .hbm, ⟨49, _⟩ => ⟨S8704x4096, .f32⟩
  | .hbm, ⟨50, _⟩ => ⟨S1x8192x1024, .f32⟩
  | .hbm, ⟨51, _⟩ => ⟨S1x8192x16x64, .f32⟩
  | .hbm, ⟨52, _⟩ => ⟨S1x8192x1024, .f32⟩
  | .hbm, ⟨53, _⟩ => ⟨S1x8192x16x64, .f32⟩
  | .hbm, ⟨54, _⟩ => ⟨S1x8192x1024, .f32⟩
  | .hbm, ⟨55, _⟩ => ⟨S1x576x16x64, .f32⟩
  | .hbm, ⟨56, _⟩ => ⟨S1x576x16x64, .f32⟩
  | .hbm, ⟨57, _⟩ => ⟨S1x15x1024, .f32⟩
  | .hbm, ⟨58, _⟩ => ⟨S32x16x1024, .f32⟩
  | .hbm, ⟨59, _⟩ => ⟨S32x16x16x64, .f32⟩
  | .hbm, ⟨60, _⟩ => ⟨S32x16x1024, .f32⟩
  | .hbm, ⟨61, _⟩ => ⟨S32x16x16x64, .f32⟩
  | .hbm, ⟨62, _⟩ => ⟨S32x16x1024, .f32⟩
  | .hbm, ⟨63, _⟩ => ⟨S32x576x16x64, .f32⟩
  | .hbm, ⟨64, _⟩ => ⟨S32x592x16x64, .f32⟩
  | .hbm, ⟨65, _⟩ => ⟨S32x576x16x64, .f32⟩
  | .hbm, ⟨66, _⟩ => ⟨S32x576x16x64, .f32⟩
  | .hbm, ⟨67, _⟩ => ⟨S32x592x16x64, .f32⟩
  | .hbm, ⟨68, _⟩ => ⟨S32x576x16x64, .f32⟩
  | .hbm, ⟨69, _⟩ => ⟨S32x15x1024, .f32⟩
  | .hbm, ⟨70, _⟩ => ⟨S32x31x1024, .f32⟩
  | .hbm, ⟨71, _⟩ => ⟨S32x15x1024, .f32⟩
  | .hbm, ⟨72, _⟩ => ⟨S1x1x576x16x64, .f32⟩
  | .hbm, ⟨73, _⟩ => ⟨S1x1x576x16x64, .f32⟩
  | .hbm, ⟨74, _⟩ => ⟨S1x1x15x1024, .f32⟩
  | .hbm, ⟨75, _⟩ => ⟨S1x32x576x16x64, .f32⟩
  | .hbm, ⟨76, _⟩ => ⟨S1x32x576x16x64, .f32⟩
  | .hbm, ⟨77, _⟩ => ⟨S1x32x15x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Out.lean ====
abbrev S8704x1024 : Shape := ⟨2, ![8704, 1024]⟩
abbrev S8704x2048 : Shape := ⟨2, ![8704, 2048]⟩
abbrev S1x2048x2048 : Shape := ⟨3, ![1, 2048, 2048]⟩
abbrev S2048x2048 : Shape := ⟨2, ![2048, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S8704x1024 : Shape := ⟨2, ![8704, 1024]⟩
abbrev S8704x2048 : Shape := ⟨2, ![8704, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x2048, .f32⟩
  | .hbm, ⟨3, _⟩ => ⟨S1x2048x2048, .f32⟩
  | .hbm, ⟨4, _⟩ => ⟨S8704x2048, .bf16⟩
  | .hbm, ⟨5, _⟩ => ⟨S8704x2048, .f32⟩
  | .hbm, ⟨6, _⟩ => ⟨S2048x2048, .f32⟩
  | .hbm, ⟨7, _⟩ => ⟨S8704x2048, .f32⟩
  | .hbm, ⟨8, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OddOut.lean ====
abbrev S8704x2048 : Shape := ⟨2, ![8704, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutReferenceIdeal.lean ====
abbrev S8704x2048 : Shape := ⟨2, ![8704, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x2048x2048, .f32⟩
  | .hbm, ⟨3, _⟩ => ⟨S8704x2048, .f32⟩
  | .hbm, ⟨4, _⟩ => ⟨S2048x2048, .f32⟩
  | .hbm, ⟨5, _⟩ => ⟨S8704x2048, .f32⟩
  | .hbm, ⟨6, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddProj.lean ====
abbrev S8704x2048 : Shape := ⟨2, ![8704, 2048]⟩
abbrev S2x2048 : Shape := ⟨2, ![2, 2048]⟩
abbrev S1x2048x3656 : Shape := ⟨3, ![1, 2048, 3656]⟩
abbrev S2048x3656 : Shape := ⟨2, ![2048, 3656]⟩
abbrev S1x2048 : Shape := ⟨2, ![1, 2048]⟩
abbrev S2048 : Shape := ⟨1, ![2048]⟩
abbrev S2048x3584 : Shape := ⟨2, ![2048, 3584]⟩
abbrev S8704x3584 : Shape := ⟨2, ![8704, 3584]⟩
abbrev S512x2048 : Shape := ⟨2, ![512, 2048]⟩
abbrev S2048x1792 : Shape := ⟨2, ![2048, 1792]⟩
abbrev S512x1792 : Shape := ⟨2, ![512, 1792]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x3656, .f32⟩
  | .hbm, ⟨3, _⟩ => ⟨S2048x3656, .f32⟩
  | .hbm, ⟨4, _⟩ => ⟨S1x2048, .f32⟩
  | .hbm, ⟨5, _⟩ => ⟨S2048, .f32⟩
  | .hbm, ⟨6, _⟩ => ⟨S2048x3584, .f32⟩
  | .hbm, ⟨7, _⟩ => ⟨S2048x3584, .bf16⟩
  | .hbm, ⟨8, _⟩ => ⟨S1x2048, .f32⟩
  | .hbm, ⟨9, _⟩ => ⟨S8704x3584, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S512x1792, .f32⟩
  | .local _ .vmem, ⟨6, _⟩ => ⟨S512x1792, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddProjReferenceIdeal.lean ====
abbrev S8704x2048 : Shape := ⟨2, ![8704, 2048]⟩
abbrev S2x2048 : Shape := ⟨2, ![2, 2048]⟩
abbrev S1x2048x3656 : Shape := ⟨3, ![1, 2048, 3656]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x3656 : Shape := ⟨2, ![2048, 3656]⟩
abbrev S8704x3656 : Shape := ⟨2, ![8704, 3656]⟩
abbrev S8704x3584 : Shape := ⟨2, ![8704, 3584]⟩

abbrev nBuf : Space → Nat
  | .hbm => 24
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x3656, .f32⟩
  | .hbm, ⟨3, _⟩ => ⟨S1x2048, .f32⟩
  | .hbm, ⟨4, _⟩ => ⟨S2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S2048x3656, .f32⟩
  | .hbm, ⟨22, _⟩ => ⟨S8704x3656, .f32⟩
  | .hbm, ⟨23, _⟩ => ⟨S8704x3584, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.BandPieces.lean ====
/-
  What one launch of the band-attention kernel stores, piece by piece: one trip of its loop stores sixteen
  tiles [64, 128], one per pair of heads and per chunk of the trip, and each is the same function `pairOut` of the
  tiles it reads. Stated over any float values.
-/
module

public import proofs.«01_k».proof.Proof.Gen.KernelIdeal.Value

@[expose] public section

set_option maxRecDepth 16384

noncomputable section

namespace Cert.KernelIdeal.Band

open Cert.KernelIdeal Cert.KernelIdeal.Gen Idealize.ShloMosaic Idealize.ShloMosaic.TcCoe Idealize.SL.Sem

variable {F : FTy → Type} [FloatOps F] [Named F]

/-- The tile of one pair of heads in one chunk: from the mask of the keys, the queries, the keys, the values and
    the bias. -/
def pairOut (mask : IVec S1x576 1) (qp : Vec F S64x128 .f32) (kp vp : Vec F S576x128 .bf16) (bb : Vec F S1x128x576 .f32) :
    FVec F S64x128 .bf16 :=
  k0_pay11 mask k0_pay9 kp vp (k0_pay10 qp) bb

/-- The mask of the keys of chunk `w` of trip `k`: key columns from the first valid one on. -/
def keyMask (arg0 : BitVec 32) (v26 : IVec S1x576 32) (w : BitVec 32) (k : Fin k0_t1_loop.trips) : IVec S1x576 1 :=
  cmpi .sge v26 (broadcast S1x576 (Scalar.select (Scalar.cmpi .eq arg0 0#32)
    (Scalar.subi 512#32 (Scalar.muli (Scalar.addi (Scalar.muli (Scf.iv 0#32 1#32 k) 2#32) w) 64#32)) 0#32))

section
variable (arg1 : Memref sig .tc .vmem S512x1024 .f32) (arg6 : Memref sig .tc .vmem S8x128x576 .f32)
  (arg8 : Memref sig .tc .vmem S1024x1024 .bf16) (arg9 : Memref sig .tc .vmem S1024x1024 .bf16)
  (X1 : BufTy.Contents (Elt F) arg1.view.ty) (X6 : BufTy.Contents (Elt F) arg6.view.ty)
  (X8 : BufTy.Contents (Elt F) arg8.view.ty) (X9 : BufTy.Contents (Elt F) arg9.view.ty)

/-- One stored tile: where it goes, and `pairOut` of what is read at the same rows and lanes. -/
def piece (mask : IVec S1x576 1) (off offk : Fin 2 → ℕ) (offb : Fin 3 → ℕ)
    (inb : ∀ a, off a + S64x128.size a ≤ S512x1024.size a) (inbk : ∀ a, offk a + S576x128.size a ≤ S1024x1024.size a)
    (inbb : ∀ a, offb a + S1x128x576.size a ≤ S8x128x576.size a) : View.Piece (Elt F) S512x1024 .bf16 :=
  ⟨Rect.unit (s := S512x1024) off S64x128.size inb,
    pairOut mask (arg1.view.readAt (Elt F) (Rect.unit (s := S512x1024) off S64x128.size inb).toLoadRect X1)
      (arg8.view.readAt (Elt F) (Rect.unit (s := S1024x1024) offk S576x128.size inbk).toLoadRect X8)
      (arg9.view.readAt (Elt F) (Rect.unit (s := S1024x1024) offk S576x128.size inbk).toLoadRect X9)
      (arg6.view.readAt (Elt F) (Rect.unit (s := S8x128x576) offb S1x128x576.size inbb).toLoadRect X6)⟩

theorem piece_congr (mask : IVec S1x576 1) {off off' offk offk' : Fin 2 → ℕ} (h : off = off') (hk : offk = offk') (offb : Fin 3 → ℕ)
    (inb : ∀ a, off a + S64x128.size a ≤ S512x1024.size a) (inbk : ∀ a, offk a + S576x128.size a ≤ S1024x1024.size a)
    (inbb : ∀ a, offb a + S1x128x576.size a ≤ S8x128x576.size a) :
    piece arg1 arg6 arg8 arg9 X1 X6 X8 X9 mask off offk offb inb inbk inbb
      = piece arg1 arg6 arg8 arg9 X1 X6 X8 X9 mask off' offk' offb (h ▸ inb) (hk ▸ inbk) inbb := by
  subst h; subst hk; rfl

/-- A piece is the tile of trip `k`'s chunk `u` and head pair `hp`. -/
def IsTile (arg0 : BitVec 32) (v26 : IVec S1x576 32) (k : Fin k0_t1_loop.trips) (p : View.Piece (Elt F) S512x1024 .bf16) : Prop :=
  ∃ (hp : Fin 8) (u : Fin 2) (inb : ∀ a, (![128 * k.val + 64 * u.val, 128 * hp.val] : Fin 2 → ℕ) a + S64x128.size a ≤ S512x1024.size a)
    (inbk : ∀ a, (![128 * k.val + 64 * u.val, 128 * hp.val] : Fin 2 → ℕ) a + S576x128.size a ≤ S1024x1024.size a)
    (inbb : ∀ a, (![hp.val, 0, 0] : Fin 3 → ℕ) a + S1x128x576.size a ≤ S8x128x576.size a),
    p = piece arg1 arg6 arg8 arg9 X1 X6 X8 X9 (keyMask arg0 v26 (BitVec.ofNat 32 u.val) k)
      ![128 * k.val + 64 * u.val, 128 * hp.val] ![128 * k.val + 64 * u.val, 128 * hp.val] ![hp.val, 0, 0] inb inbk inbb

theorem isTile_of (arg0 : BitVec 32) (v26 : IVec S1x576 32) (k : Fin k0_t1_loop.trips) (hp : Fin 8) (u : Fin 2)
    {off offk : Fin 2 → ℕ} (h : off = ![128 * k.val + 64 * u.val, 128 * hp.val]) (hk : offk = ![128 * k.val + 64 * u.val, 128 * hp.val])
    (inb : ∀ a, off a + S64x128.size a ≤ S512x1024.size a) (inbk : ∀ a, offk a + S576x128.size a ≤ S1024x1024.size a)
    (inbb : ∀ a, (![hp.val, 0, 0] : Fin 3 → ℕ) a + S1x128x576.size a ≤ S8x128x576.size a)
    {p : View.Piece (Elt F) S512x1024 .bf16}
    (hpc : p = piece arg1 arg6 arg8 arg9 X1 X6 X8 X9 (keyMask arg0 v26 (BitVec.ofNat 32 u.val) k) off offk ![hp.val, 0, 0] inb inbk inbb) :
    IsTile arg1 arg6 arg8 arg9 X1 X6 X8 X9 arg0 v26 k p :=
  ⟨hp, u, h ▸ inb, hk ▸ inbk, inbb, hpc.trans (piece_congr arg1 arg6 arg8 arg9 X1 X6 X8 X9 _ h hk _ inb inbk inbb)⟩
end

/-- Every piece that one trip stores is one of its tiles. -/
theorem trip_isTile (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x128x576 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1024x1024 .bf16) (harg9 : arg9.IsWhole) (arg0 : BitVec 32) (k0_h2 : k0_cond2 i = 1#1) (v26 : IVec S1x576 32) (X_arg1 : BufTy.Contents (Elt F) arg1.view.ty) (X_arg6 : BufTy.Contents (Elt F) arg6.view.ty) (X_arg8 : BufTy.Contents (Elt F) arg8.view.ty) (X_arg9 : BufTy.Contents (Elt F) arg9.view.ty) (k : Fin k0_t1_loop.trips) :
    ∀ p ∈ tripL_k0_t1 (F := F) 𝒱 c bd i arg1 harg1 arg2 harg2 arg3 harg3 arg4 harg4 arg5 harg5 arg6 harg6 arg7 harg7 arg8 harg8 arg9 harg9 arg0 k0_h2 v26 X_arg1 X_arg6 X_arg8 X_arg9 k,
      IsTile arg1 arg6 arg8 arg9 X_arg1 X_arg6 X_arg8 X_arg9 arg0 v26 k p := by
  unfold tripL_k0_t1 trip_k0_t1
  dsimp only
  simp only [List.forall_mem_cons]
  refine ⟨?_, ?_, ?_, ?_, ?_, ?_, ?_, ?_, ?_, ?_, ?_, ?_, ?_, ?_, ?_, ?_, fun _ h => absurd h List.not_mem_nil⟩
  · exact isTile_of _ _ _ _ _ _ _ _ arg0 v26 k 7 1 (k0_off15_eq k 1) (k0_off16_eq k 1) (k0_off15_inb i k k0_h2 1) (k0_off16_inb i k k0_h2 1) inb_S8x128x576_S1x128x576_7_0_0 rfl
  · exact isTile_of _ _ _ _ _ _ _ _ arg0 v26 k 7 0 (k0_off15_eq k 0) (k0_off16_eq k 0) (k0_off15_inb i k k0_h2 0) (k0_off16_inb i k k0_h2 0) inb_S8x128x576_S1x128x576_7_0_0 rfl
  · exact isTile_of _ _ _ _ _ _ _ _ arg0 v26 k 6 1 (k0_off13_eq k 1) (k0_off14_eq k 1) (k0_off13_inb i k k0_h2 1) (k0_off14_inb i k k0_h2 1) inb_S8x128x576_S1x128x576_6_0_0 rfl
  · exact isTile_of _ _ _ _ _ _ _ _ arg0 v26 k 6 0 (k0_off13_eq k 0) (k0_off14_eq k 0) (k0_off13_inb i k k0_h2 0) (k0_off14_inb i k k0_h2 0) inb_S8x128x576_S1x128x576_6_0_0 rfl
  · exact isTile_of _ _ _ _ _ _ _ _ arg0 v26 k 5 1 (k0_off11_eq k 1) (k0_off12_eq k 1) (k0_off11_inb i k k0_h2 1) (k0_off12_inb i k k0_h2 1) inb_S8x128x576_S1x128x576_5_0_0 rfl
  · exact isTile_of _ _ _ _ _ _ _ _ arg0 v26 k 5 0 (k0_off11_eq k 0) (k0_off12_eq k 0) (k0_off11_inb i k k0_h2 0) (k0_off12_inb i k k0_h2 0) inb_S8x128x576_S1x128x576_5_0_0 rfl
  · exact isTile_of _ _ _ _ _ _ _ _ arg0 v26 k 4 1 (k0_off9_eq k 1) (k0_off10_eq k 1) (k0_off9_inb i k k0_h2 1) (k0_off10_inb i k k0_h2 1) inb_S8x128x576_S1x128x576_4_0_0 rfl
  · exact isTile_of _ _ _ _ _ _ _ _ arg0 v26 k 4 0 (k0_off9_eq k 0) (k0_off10_eq k 0) (k0_off9_inb i k k0_h2 0) (k0_off10_inb i k k0_h2 0) inb_S8x128x576_S1x128x576_4_0_0 rfl
  · exact isTile_of _ _ _ _ _ _ _ _ arg0 v26 k 3 1 (k0_off7_eq k 1) (k0_off8_eq k 1) (k0_off7_inb i k k0_h2 1) (k0_off8_inb i k k0_h2 1) inb_S8x128x576_S1x128x576_3_0_0 rfl
  · exact isTile_of _ _ _ _ _ _ _ _ arg0 v26 k 3 0 (k0_off7_eq k 0) (k0_off8_eq k 0) (k0_off7_inb i k k0_h2 0) (k0_off8_inb i k k0_h2 0) inb_S8x128x576_S1x128x576_3_0_0 rfl
  · exact isTile_of _ _ _ _ _ _ _ _ arg0 v26 k 2 1 (k0_off5_eq k 1) (k0_off6_eq k 1) (k0_off5_inb i k k0_h2 1) (k0_off6_inb i k k0_h2 1) inb_S8x128x576_S1x128x576_2_0_0 rfl
  · exact isTile_of _ _ _ _ _ _ _ _ arg0 v26 k 2 0 (k0_off5_eq k 0) (k0_off6_eq k 0) (k0_off5_inb i k k0_h2 0) (k0_off6_inb i k k0_h2 0) inb_S8x128x576_S1x128x576_2_0_0 rfl
  · exact isTile_of _ _ _ _ _ _ _ _ arg0 v26 k 1 1 (k0_off3_eq k 1) (k0_off4_eq k 1) (k0_off3_inb i k k0_h2 1) (k0_off4_inb i k k0_h2 1) inb_S8x128x576_S1x128x576_1_0_0 rfl
  · exact isTile_of _ _ _ _ _ _ _ _ arg0 v26 k 1 0 (k0_off3_eq k 0) (k0_off4_eq k 0) (k0_off3_inb i k k0_h2 0) (k0_off4_inb i k k0_h2 0) inb_S8x128x576_S1x128x576_1_0_0 rfl
  · exact isTile_of _ _ _ _ _ _ _ _ arg0 v26 k 0 1 (k0_off1_eq k 1) (k0_off2_eq k 1) (k0_off1_inb i k k0_h2 1) (k0_off2_inb i k k0_h2 1) inb_S8x128x576_S1x128x576_0_0_0 rfl
  · exact isTile_of _ _ _ _ _ _ _ _ arg0 v26 k 0 0 (k0_off1_eq k 0) (k0_off2_eq k 0) (k0_off1_inb i k k0_h2 0) (k0_off2_inb i k k0_h2 0) inb_S8x128x576_S1x128x576_0_0_0 rfl

/-- Every piece that the trips before `n` store is a tile of one of them. -/
theorem pb_isTile (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x128x576 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1024x1024 .bf16) (harg9 : arg9.IsWhole) (arg0 : BitVec 32) (k0_h2 : k0_cond2 i = 1#1) (v26 : IVec S1x576 32) (X_arg1 : BufTy.Contents (Elt F) arg1.view.ty) (X_arg6 : BufTy.Contents (Elt F) arg6.view.ty) (X_arg8 : BufTy.Contents (Elt F) arg8.view.ty) (X_arg9 : BufTy.Contents (Elt F) arg9.view.ty) :
    ∀ (n : ℕ) (_ : n ≤ k0_t1_loop.trips),
      ∀ p ∈ pb_k0_t1 (F := F) 𝒱 c bd i arg1 harg1 arg2 harg2 arg3 harg3 arg4 harg4 arg5 harg5 arg6 harg6 arg7 harg7 arg8 harg8 arg9 harg9 arg0 k0_h2 v26 X_arg1 X_arg6 X_arg8 X_arg9 n,
        ∃ k, IsTile arg1 arg6 arg8 arg9 X_arg1 X_arg6 X_arg8 X_arg9 arg0 v26 k p
  | 0, _ => fun _ h => absurd h List.not_mem_nil
  | n + 1, hn => fun p hp => by
    rw [pb_k0_t1_succ 𝒱 c bd i arg1 harg1 arg2 harg2 arg3 harg3 arg4 harg4 arg5 harg5 arg6 harg6 arg7 harg7 arg8 harg8 arg9 harg9 arg0 k0_h2 v26 X_arg1 X_arg6 X_arg8 X_arg9 ⟨n, hn⟩] at hp
    rcases List.mem_append.mp hp with h | h
    · exact ⟨⟨n, hn⟩, trip_isTile 𝒱 c bd i arg1 harg1 arg2 harg2 arg3 harg3 arg4 harg4 arg5 harg5 arg6 harg6 arg7 harg7 arg8 harg8 arg9 harg9 arg0 k0_h2 v26 X_arg1 X_arg6 X_arg8 X_arg9 ⟨n, hn⟩ p h⟩
    · exact pb_isTile 𝒱 c bd i arg1 harg1 arg2 harg2 arg3 harg3 arg4 harg4 arg5 harg5 arg6 harg6 arg7 harg7 arg8 harg8 arg9 harg9 arg0 k0_h2 v26 X_arg1 X_arg6 X_arg8 X_arg9 n (Nat.le_of_succ_le hn) p h

end Cert.KernelIdeal.Band

end
-- ==== Proof.BandTile.lean ====
/-
  What one stored tile of the band-attention kernel is over the extended reals: at each query row and lane, softmax
  attention of the lane's head over the tile's 576 keys.
-/
module

public import proofs.«01_k».proof.Proof.BandPieces
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem

/-- The greatest of the scores. -/
def top (s : Fin 576 → EReal) : EReal := Finset.univ.fold max ⊥ s

/-- Softmax attention of one query over 576 keys from its scores and one lane of the values, as the kernel divides:
    the weighted sum first, then one quotient. -/
def attn (s v : Fin 576 → EReal) : EReal :=
  Ideal.div (∑ j, Ideal.exp (s j - top s) * v j) (∑ j, Ideal.exp (s j - top s))

/-- The factor 1/8 on the scores. -/
def eighth : EReal := Ideal.ofBits .f32 1040187392#32

theorem sum_low (f : Fin 128 → EReal) :
    (∑ x : Fin 128, Scalar.select (IntOp.cmpi .slt (BitVec.ofNat 32 x.val) 64#32) (f x) 0) = ∑ d : Fin 64, f ⟨d.val, by omega⟩ := by
  rw [Fin.sum_univ_add (a := 64) (b := 64)]
  have h2 : (∑ i : Fin 64, Scalar.select (IntOp.cmpi .slt (BitVec.ofNat 32 (Fin.natAdd 64 i : Fin 128).val) 64#32) (f (Fin.natAdd 64 i)) 0) = 0 :=
    Finset.sum_eq_zero fun i _ => by
      have : IntOp.cmpi .slt (BitVec.ofNat 32 (Fin.natAdd 64 i : Fin 128).val) 64#32 = 0#1 := by
        revert i; decide
      rw [this]; rfl
  rw [h2, add_zero]
  refine Finset.sum_congr rfl fun i _ => ?_
  have : IntOp.cmpi .slt (BitVec.ofNat 32 (Fin.castAdd 64 i : Fin 128).val) 64#32 = 1#1 := by
    revert i; decide
  rw [this]; rfl

theorem sum_high (f : Fin 128 → EReal) :
    (∑ x : Fin 128, Scalar.select (IntOp.cmpi .slt (BitVec.ofNat 32 x.val) 64#32) 0 (f x)) = ∑ d : Fin 64, f ⟨64 + d.val, by omega⟩ := by
  rw [Fin.sum_univ_add (a := 64) (b := 64)]
  have h2 : (∑ i : Fin 64, Scalar.select (IntOp.cmpi .slt (BitVec.ofNat 32 (Fin.castAdd 64 i : Fin 128).val) 64#32) 0 (f (Fin.castAdd 64 i))) = 0 :=
    Finset.sum_eq_zero fun i _ => by
      have : IntOp.cmpi .slt (BitVec.ofNat 32 (Fin.castAdd 64 i : Fin 128).val) 64#32 = 1#1 := by
        revert i; decide
      rw [this]; rfl
  rw [h2, zero_add]
  refine Finset.sum_congr rfl fun i _ => ?_
  have : IntOp.cmpi .slt (BitVec.ofNat 32 (Fin.natAdd 64 i : Fin 128).val) 64#32 = 0#1 := by
    revert i; decide
  rw [this]; rfl

/-- The mask value is −∞. -/
theorem mask_eq : (Named.named κ "mask" 4048155338#32 : Ideal .f32) = (⊥ : EReal) :=
  IdealRules.named_const.ideal_named_scalar κ "mask" (φ := .f32) 4048155338#32 ⊥ rfl

theorem negInf_eq : Ideal.ofBits FTy.f32 4286578688#32 = (⊥ : EReal) := by simp [Ideal.ofBits, Ideal.ieee]

/-- The score of query row `i` in lane `l`'s head with key `j`. -/
def tileScore (mask : IVec S1x576 1) (qp : Vec Ideal S64x128 .f32) (kp : Vec Ideal S576x128 .bf16) (bb : Vec Ideal S1x128x576 .f32)
    (i : Fin 64) (l : Fin 128) (j : Fin 576) : EReal :=
  if mask (ix2 0 j) = 1 then
    (∑ d : Fin 64, qp (ix2 i ⟨64 * (l.val / 64) + d.val, by omega⟩) * kp (ix2 j ⟨64 * (l.val / 64) + d.val, by omega⟩)) * eighth
      + bb (ix3 0 ⟨64 * (l.val / 64) + i.val, by omega⟩ j)
  else ⊥

theorem pairOut_apply (mask : IVec S1x576 1) (qp : Vec Ideal S64x128 .f32) (kp vp : Vec Ideal S576x128 .bf16) (bb : Vec Ideal S1x128x576 .f32)
    (i : Fin 64) (l : Fin 128) :
    pairOut mask qp kp vp bb (ix2 i l) = attn (tileScore mask qp kp bb i l) (fun j => vp (ix2 j l)) := by
  unfold pairOut
  pointwise [k0_pay11, k0_pay10, k0_pay9]
  simp only [sum_low (fun x => _ * _), sum_high (fun x => _ * _), mask_eq, negInf_eq]
  by_cases hl : l.val < 64
  · have hc : IntOp.cmpi .slt (BitVec.ofNat 32 l.val) 64#32 = 1#1 := by revert hl; revert l; decide
    have hd : l.val / 64 = 0 := by omega
    rw [hc]
    have hs : tileScore mask qp kp bb i l = fun j => Scalar.select (mask (ix2 0 j))
        ((∑ d : Fin 64, qp (ix2 i ⟨d.val, by omega⟩) * kp (ix2 j ⟨d.val, by omega⟩)) * Ideal.ofBits .f32 1040187392#32
          + bb (ix3 0 ⟨i.val, by omega⟩ j)) ⊥ := by
      funext j
      simp only [tileScore, hd, Nat.mul_zero, Nat.zero_add]
      rfl
    rw [hs]; rfl
  · have hc : IntOp.cmpi .slt (BitVec.ofNat 32 l.val) 64#32 = 0#1 := by revert hl; revert l; decide
    have hd : l.val / 64 = 1 := by omega
    rw [hc]
    have hs : tileScore mask qp kp bb i l = fun j => Scalar.select (mask (ix2 0 j))
        ((∑ d : Fin 64, qp (ix2 i ⟨64 + d.val, by omega⟩) * kp (ix2 j ⟨64 + d.val, by omega⟩)) * Ideal.ofBits .f32 1040187392#32
          + bb (ix3 0 ⟨64 + i.val, by omega⟩ j)) ⊥ := by
      funext j
      simp only [tileScore, hd, Nat.mul_one]
      rfl
    rw [hs]; rfl

end Cert.KernelIdeal.Band

end
-- ==== Proof.BandBlock.lean ====
/-
  What one grid point of the band-attention kernel writes to its block of the output, over the extended reals, from
  the six blocks that it is given.
-/
module

public import proofs.«01_k».proof.Proof.BandTile

@[expose] public section

set_option maxRecDepth 16384

noncomputable section

namespace Cert.KernelIdeal.Band

open Cert.KernelIdeal Cert.KernelIdeal.Gen Idealize.ShloMosaic Idealize.ShloMosaic.TcCoe Idealize.SL.Sem

/-- A matrix at a row and a column given as numbers, zero outside of it. -/
def at2 {n k : ℕ} (x : (⟨2, ![n, k]⟩ : Shape).Idx → EReal) (i j : ℕ) : EReal :=
  if h : i < n ∧ j < k then x (ix2 ⟨i, h.1⟩ ⟨j, h.2⟩) else 0

theorem at2_eq {n k : ℕ} (x : (⟨2, ![n, k]⟩ : Shape).Idx → EReal) (i : Fin n) (j : Fin k) : x (ix2 i j) = at2 x i.val j.val := by
  simp only [at2, i.isLt, j.isLt, and_self, dite_true]

/-- A three-axis array at numbers, zero outside of it. -/
def at3 {n k l : ℕ} (x : (⟨3, ![n, k, l]⟩ : Shape).Idx → EReal) (i j q : ℕ) : EReal :=
  if h : i < n ∧ j < k ∧ q < l then x (ix3 ⟨i, h.1⟩ ⟨j, h.2.1⟩ ⟨q, h.2.2⟩) else 0

theorem at3_eq {n k l : ℕ} (x : (⟨3, ![n, k, l]⟩ : Shape).Idx → EReal) (i : Fin n) (j : Fin k) (q : Fin l) :
    x (ix3 i j q) = at3 x i.val j.val q.val := by
  simp only [at3, i.isLt, j.isLt, q.isLt, and_self, dite_true]

/-- Row `R` of the window of 1024 rows that the previous and the current block make. -/
def win (prev cur : Vec Ideal S512x1024 .f32) (R C : ℕ) : EReal :=
  if R < 512 then at2 prev R C else at2 cur (R - 512) C

/-- The score of row `r` of block `t`, in the head of lane `c`, with key `j` of its window. -/
def blockScore (t : ℕ) (x0 x1 x2 : Vec Ideal S512x1024 .f32) (x5 : Vec Ideal S8x128x576 .f32) (r c : ℕ) (j : Fin 576) : EReal :=
  if t = 0 → 512 ≤ 64 * (r / 64) + j.val then
    (∑ d : Fin 64, at2 x0 r (64 * (c / 64) + d.val) * win x1 x2 (64 * (r / 64) + j.val) (64 * (c / 64) + d.val)) * eighth
      + at3 x5 (c / 128) (64 * (c / 64 % 2) + r % 64) j.val
  else ⊥

/-- Block `t` of the output at row `r` and lane `c`. -/
def blockOut (t : ℕ) (x0 x1 x2 x3 x4 : Vec Ideal S512x1024 .f32) (x5 : Vec Ideal S8x128x576 .f32) (r c : ℕ) : EReal :=
  attn (blockScore t x0 x1 x2 x5 r c) (fun j => win x3 x4 (64 * (r / 64) + j.val) c)

theorem toInt_small (a : ℕ) (ha : a < 2 ^ 31) : (BitVec.ofNat 32 a).toInt = a := by
  have h : (BitVec.ofNat 32 a).toNat = a := by rw [BitVec.toNat_ofNat]; omega
  rw [BitVec.toInt_eq_toNat_of_lt (by rw [h]; omega), h]

/-- The signed comparison of two small numbers' words is theirs. -/
theorem cmpi_sge_ofNat (a b : ℕ) (ha : a < 2 ^ 31) (hb : b < 2 ^ 31) :
    IntOp.cmpi .sge (BitVec.ofNat 32 a) (BitVec.ofNat 32 b) = 1 ↔ b ≤ a := by
  have ea : (BitVec.ofNat 32 a).toInt = a := toInt_small _ (by omega)
  have eb : (BitVec.ofNat 32 b).toInt = b := toInt_small _ (by omega)
  simp only [IntOp.cmpi, BitVec.sle, ea, eb]
  by_cases h : b ≤ a <;> simp [h]

/-- The mask lets through the keys that lie in the sequence. -/
theorem keyMask_iff (t : ℕ) (ht : t < 17) (u : Fin 2) (k : Fin k0_t1_loop.trips) (j : Fin 576) :
    keyMask (BitVec.ofNat 32 t) kernelRun0_A.sl.v26 (BitVec.ofNat 32 u.val) k (ix2 0 j) = 1
      ↔ (t = 0 → 512 ≤ 64 * (2 * k.val + u.val) + j.val) := by
  have hj : j.val < 576 := j.isLt
  have hk : k.val < 4 := k.isLt
  have hu : u.val < 2 := u.isLt
  unfold keyMask kernelRun0_A.sl.v26
  pointwise
  have hc : Scalar.select (Scalar.cmpi .eq (BitVec.ofNat 32 t) 0#32) (Scalar.subi (512#32) (Scalar.muli (Scalar.addi (Scalar.muli (Scf.iv 0#32 1#32 k.val) 2#32) (BitVec.ofNat 32 u.val)) 64#32)) 0#32
      = BitVec.ofNat 32 (if t = 0 then 512 - 64 * (2 * k.val + u.val) else 0) := by
    clear hj j hk hu
    have hk' : ∀ (k : Fin k0_t1_loop.trips) (u : Fin 2), Scalar.subi (512#32) (Scalar.muli (Scalar.addi (Scalar.muli (Scf.iv 0#32 1#32 k.val) 2#32) (BitVec.ofNat 32 u.val)) 64#32)
        = BitVec.ofNat 32 (512 - 64 * (2 * k.val + u.val)) := by decide
    rw [hk']
    have ht' : ∀ t : Fin 17, Scalar.cmpi .eq (BitVec.ofNat 32 t.val) 0#32 = if t.val = 0 then 1#1 else 0#1 := by decide
    rw [ht' ⟨t, ht⟩]
    by_cases h : t = 0
    · rw [if_pos h, if_pos h]; rfl
    · rw [if_neg h, if_neg h]; rfl
  rw [hc, cmpi_sge_ofNat j.val _ (by omega) (by split <;> omega)]
  by_cases h : t = 0
  · rw [if_pos h]; omega
  · rw [if_neg h]; omega

theorem idx_eq {n k : ℕ} (x : (⟨2, ![n, k]⟩ : Shape).Idx) : x = ix2 (x 0) (x 1) := by
  funext a; fin_cases a <;> rfl

/-- Two stores, the previous block above and the current one below, leave the window. -/
theorem canon_win (p1 p2 : Vec Ideal S512x1024 .bf16) (x1 x2 : Vec Ideal S512x1024 .f32) (h1 : p1 = x1) (h2 : p2 = x2)
    (y : S1024x1024.Idx) :
    View.canon (Val := Elt Ideal) [(⟨Rect.unit (s := S1024x1024) ![512, 0] S512x1024.size inb_S1024x1024_S512x1024_512_0, p2⟩ : View.Piece (Elt Ideal) S1024x1024 .bf16),
      ⟨Rect.unit (s := S1024x1024) ![0, 0] S512x1024.size inb_S1024x1024_S512x1024_0_0, p1⟩] y = win x1 x2 (y 0).val (y 1).val := by
  subst h1; subst h2
  refine View.canon_apply_of_pieces (Val := Elt Ideal) (e := .bf16) (fun y : S1024x1024.Idx => win p1 p2 (y 0).val (y 1).val) _ ?_ y ?_
  · simp only [List.forall_mem_cons]
    refine ⟨fun x => ?_, fun x => ?_, fun _ h => absurd h List.not_mem_nil⟩
    · show p2 x = win p1 p2 (512 + 1 * (x 0).val) (0 + 1 * (x 1).val)
      rw [win, if_neg (by omega)]
      rw [show 512 + 1 * (x 0).val - 512 = (x 0).val by omega, show 0 + 1 * (x 1).val = (x 1).val by omega]
      exact (congrArg p2 (idx_eq x)).trans (at2_eq p2 (x 0) (x 1))
    · have hx : (x 0).val < 512 := (x 0).isLt
      show p1 x = win p1 p2 (0 + 1 * (x 0).val) (0 + 1 * (x 1).val)
      rw [win, if_pos (by omega)]
      rw [show 0 + 1 * (x 0).val = (x 0).val by omega, show 0 + 1 * (x 1).val = (x 1).val by omega]
      exact (congrArg p1 (idx_eq x)).trans (at2_eq p1 (x 0) (x 1))
  · have hy0 : (y 0).val < 1024 := (y 0).isLt
    have hy1 : (y 1).val < 1024 := (y 1).isLt
    by_cases h : (y 0).val < 512
    · refine ⟨_, List.mem_cons_of_mem _ (List.mem_cons_self ..), (Rect.mem_set_unit (inb := inb_S1024x1024_S512x1024_0_0)).2 fun a => ?_⟩
      fin_cases a
      · exact ⟨Nat.zero_le _, by show (y 0).val < 0 + 512; omega⟩
      · exact ⟨Nat.zero_le _, by show (y 1).val < 0 + 1024; omega⟩
    · refine ⟨_, List.mem_cons_self .., (Rect.mem_set_unit (inb := inb_S1024x1024_S512x1024_512_0)).2 fun a => ?_⟩
      fin_cases a
      · exact ⟨by show 512 ≤ (y 0).val; omega, by show (y 0).val < 512 + 512; omega⟩
      · exact ⟨Nat.zero_le _, by show (y 1).val < 0 + 1024; omega⟩

/-- Reading a whole block gives the block. -/
theorem read_whole (a : Memref sig .tc .vmem S512x1024 .f32) (ha : a.IsWhole) (z : Vec Ideal S512x1024 .f32) :
    View.readAt (Elt Ideal) a.view (Rect.unit (s := S512x1024) ![0, 0] S512x1024.size inb_S512x1024_S512x1024_0_0).toLoadRect (ha.unread z) = z := by
  rw [View.readAt_eq_ld, ha.read_unread]
  exact View.ld_unit_zero (by funext a; fin_cases a <;> rfl) _ _

/-- The casts on the way into the window change nothing over the extended reals. -/
theorem pay2_eq (z : Vec Ideal S512x1024 .f32) : k0_pay2 z = z := by
  funext j; idx_vars j; pointwise [k0_pay2]
theorem pay3_eq (z : Vec Ideal S512x1024 .f32) : k0_pay3 z = z := by
  funext j; idx_vars j; pointwise [k0_pay3]
theorem pay4_eq (z : Vec Ideal S512x1024 .f32) : k0_pay4 z = z := by
  funext j; idx_vars j; pointwise [k0_pay4]
theorem pay5_eq (z : Vec Ideal S512x1024 .f32) : k0_pay5 z = z := by
  funext j; idx_vars j; pointwise [k0_pay5]

/-- The keys' window. -/
theorem canon_keys (c : Dev nD) (arg2 : Memref sig .tc .vmem S512x1024 .f32) (harg2 : arg2.IsWhole) (arg3 : Memref sig .tc .vmem S512x1024 .f32) (harg3 : arg3.IsWhole)
    (x1 x2 : Vec Ideal S512x1024 .f32) (y : S1024x1024.Idx) :
    View.canon (Val := Elt Ideal) (kernelRun0_A.sl.HS0_2 (F := Ideal) c arg2 harg2 arg3 harg3 x1 x2) y = win x1 x2 (y 0).val (y 1).val := by
  sl_unfold_words
  rw [read_whole, read_whole, pay2_eq, pay3_eq]
  exact canon_win x1 x2 x1 x2 rfl rfl y

/-- The values' window. -/
theorem canon_values (c : Dev nD) (arg4 : Memref sig .tc .vmem S512x1024 .f32) (harg4 : arg4.IsWhole) (arg5 : Memref sig .tc .vmem S512x1024 .f32) (harg5 : arg5.IsWhole)
    (x3 x4 : Vec Ideal S512x1024 .f32) (y : S1024x1024.Idx) :
    View.canon (Val := Elt Ideal) (kernelRun0_A.sl.HS1_2 (F := Ideal) c arg4 harg4 arg5 harg5 x3 x4) y = win x3 x4 (y 0).val (y 1).val := by
  sl_unfold_words
  rw [read_whole, read_whole, pay4_eq, pay5_eq]
  exact canon_win x3 x4 x3 x4 rfl rfl y

section
variable (arg1 : Memref sig .tc .vmem S512x1024 .f32) (harg1 : arg1.IsWhole) (arg6 : Memref sig .tc .vmem S8x128x576 .f32) (harg6 : arg6.IsWhole)
  (arg8 : Memref sig .tc .vmem S1024x1024 .bf16) (arg9 : Memref sig .tc .vmem S1024x1024 .bf16)

/-- Each tile is the block's formula at the tile's rows and lanes. -/
theorem isTile_out (t : ℕ) (ht : t < 17) (x0 x1 x2 x3 x4 : Vec Ideal S512x1024 .f32) (x5 : Vec Ideal S8x128x576 .f32)
    (X8 : BufTy.Contents (Elt Ideal) arg8.view.ty) (X9 : BufTy.Contents (Elt Ideal) arg9.view.ty)
    (h8 : ∀ y, arg8.view.read (Elt Ideal) X8 y = win x1 x2 (y 0).val (y 1).val)
    (h9 : ∀ y, arg9.view.read (Elt Ideal) X9 y = win x3 x4 (y 0).val (y 1).val)
    (k : Fin k0_t1_loop.trips) (p : View.Piece (Elt Ideal) S512x1024 .bf16)
    (hp : IsTile arg1 arg6 arg8 arg9 (harg1.unread x0) (harg6.unread x5) X8 X9 (BitVec.ofNat 32 t) kernelRun0_A.sl.v26 k p)
    (x : p.1.shape.Idx) : p.2 x = blockOut t x0 x1 x2 x3 x4 x5 (p.1.emb x 0).val (p.1.emb x 1).val := by
  obtain ⟨hp, u, inb, inbk, inbb, rfl⟩ := hp
  have hk : k.val < 4 := k.isLt
  have e0 : ((piece arg1 arg6 arg8 arg9 (harg1.unread x0) (harg6.unread x5) X8 X9 (keyMask (BitVec.ofNat 32 t) kernelRun0_A.sl.v26 (BitVec.ofNat 32 u.val) k)
      ![128 * k.val + 64 * u.val, 128 * hp.val] ![128 * k.val + 64 * u.val, 128 * hp.val] ![hp.val, 0, 0] inb inbk inbb).1.emb x 0).val
      = 128 * k.val + 64 * u.val + (x 0).val := congrArg (128 * k.val + 64 * u.val + ·) (Nat.one_mul _)
  have e1 : ((piece arg1 arg6 arg8 arg9 (harg1.unread x0) (harg6.unread x5) X8 X9 (keyMask (BitVec.ofNat 32 t) kernelRun0_A.sl.v26 (BitVec.ofNat 32 u.val) k)
      ![128 * k.val + 64 * u.val, 128 * hp.val] ![128 * k.val + 64 * u.val, 128 * hp.val] ![hp.val, 0, 0] inb inbk inbb).1.emb x 1).val
      = 128 * hp.val + (x 1).val := congrArg (128 * hp.val + ·) (Nat.one_mul _)
  rw [e0, e1]
  have hx0 : (x 0).val < 64 := (x 0).isLt
  have hx1 : (x 1).val < 128 := (x 1).isLt
  have hx : x = ix2 (⟨(x 0).val, hx0⟩ : Fin 64) (⟨(x 1).val, hx1⟩ : Fin 128) := idx_eq (n := 64) (k := 128) x
  refine (congrArg (piece arg1 arg6 arg8 arg9 (harg1.unread x0) (harg6.unread x5) X8 X9 (keyMask (BitVec.ofNat 32 t) kernelRun0_A.sl.v26 (BitVec.ofNat 32 u.val) k)
      ![128 * k.val + 64 * u.val, 128 * hp.val] ![128 * k.val + 64 * u.val, 128 * hp.val] ![hp.val, 0, 0] inb inbk inbb).2 hx).trans ?_
  refine (pairOut_apply _ _ _ _ _ _ _).trans ?_
  have hr : (128 * k.val + 64 * u.val + (x 0).val) / 64 = 2 * k.val + u.val := by omega
  have hrm : (128 * k.val + 64 * u.val + (x 0).val) % 64 = (x 0).val := by omega
  have hc : (128 * hp.val + (x 1).val) / 64 = 2 * hp.val + (x 1).val / 64 := by omega
  have hcm : (2 * hp.val + (x 1).val / 64) % 2 = (x 1).val / 64 := by omega
  have hch : (128 * hp.val + (x 1).val) / 128 = hp.val := by omega
  have rd1 : ∀ (i : Fin 64) (l : Fin 128), arg1.view.readAt (Elt Ideal) (Rect.unit (s := S512x1024) ![128 * k.val + 64 * u.val, 128 * hp.val] S64x128.size inb).toLoadRect (harg1.unread x0) (ix2 i l)
      = at2 x0 (128 * k.val + 64 * u.val + i.val) (128 * hp.val + l.val) := by
    intro i l
    rw [View.readAt_eq_ld, harg1.read_unread]
    refine Eq.trans ?_ (at2_eq x0 ⟨128 * k.val + 64 * u.val + i.val, by omega⟩ ⟨128 * hp.val + l.val, by omega⟩)
    refine congrArg x0 ?_
    funext a; apply Fin.ext
    fin_cases a
    · exact congrArg (128 * k.val + 64 * u.val + ·) (Nat.one_mul _)
    · exact congrArg (128 * hp.val + ·) (Nat.one_mul _)
  have rd8 : ∀ (i : Fin 576) (l : Fin 128), arg8.view.readAt (Elt Ideal) (Rect.unit (s := S1024x1024) ![128 * k.val + 64 * u.val, 128 * hp.val] S576x128.size inbk).toLoadRect X8 (ix2 i l)
      = win x1 x2 (128 * k.val + 64 * u.val + i.val) (128 * hp.val + l.val) := by
    intro i l
    rw [View.readAt_eq_ld]
    refine (h8 _).trans ?_
    exact congrArg₂ (win x1 x2) (congrArg (128 * k.val + 64 * u.val + ·) (Nat.one_mul _)) (congrArg (128 * hp.val + ·) (Nat.one_mul _))
  have rd9 : ∀ (i : Fin 576) (l : Fin 128), arg9.view.readAt (Elt Ideal) (Rect.unit (s := S1024x1024) ![128 * k.val + 64 * u.val, 128 * hp.val] S576x128.size inbk).toLoadRect X9 (ix2 i l)
      = win x3 x4 (128 * k.val + 64 * u.val + i.val) (128 * hp.val + l.val) := by
    intro i l
    rw [View.readAt_eq_ld]
    refine (h9 _).trans ?_
    exact congrArg₂ (win x3 x4) (congrArg (128 * k.val + 64 * u.val + ·) (Nat.one_mul _)) (congrArg (128 * hp.val + ·) (Nat.one_mul _))
  have rd6 : ∀ (i : Fin 128) (l : Fin 576), arg6.view.readAt (Elt Ideal) (Rect.unit (s := S8x128x576) ![hp.val, 0, 0] S1x128x576.size inbb).toLoadRect (harg6.unread x5) (ix3 0 i l)
      = at3 x5 hp.val i.val l.val := by
    intro i l
    rw [View.readAt_eq_ld, harg6.read_unread]
    refine Eq.trans ?_ (at3_eq x5 hp i l)
    refine congrArg x5 ?_
    funext a; apply Fin.ext
    fin_cases a
    · show hp.val + 1 * 0 = hp.val; omega
    · show 0 + 1 * i.val = i.val; omega
    · show 0 + 1 * l.val = l.val; omega
  have hs : tileScore (keyMask (BitVec.ofNat 32 t) kernelRun0_A.sl.v26 (BitVec.ofNat 32 u.val) k)
      (arg1.view.readAt (Elt Ideal) (Rect.unit (s := S512x1024) ![128 * k.val + 64 * u.val, 128 * hp.val] S64x128.size inb).toLoadRect (harg1.unread x0))
      (arg8.view.readAt (Elt Ideal) (Rect.unit (s := S1024x1024) ![128 * k.val + 64 * u.val, 128 * hp.val] S576x128.size inbk).toLoadRect X8)
      (arg6.view.readAt (Elt Ideal) (Rect.unit (s := S8x128x576) ![hp.val, 0, 0] S1x128x576.size inbb).toLoadRect (harg6.unread x5))
      (⟨(x 0).val, hx0⟩ : Fin 64) (⟨(x 1).val, hx1⟩ : Fin 128)
      = blockScore t x0 x1 x2 x5 (128 * k.val + 64 * u.val + (x 0).val) (128 * hp.val + (x 1).val) := by
    funext j
    simp only [tileScore, blockScore, keyMask_iff t ht, hr, hrm, hc, hcm, hch, rd1, rd8, rd6]
    have a1 : ∀ d : ℕ, 128 * hp.val + (64 * ((x 1).val / 64) + d) = 64 * (2 * hp.val + (x 1).val / 64) + d := fun d => by omega
    have a2 : 128 * k.val + 64 * u.val + j.val = 64 * (2 * k.val + u.val) + j.val := by omega
    simp only [a1, a2]
  have hv : (fun j : Fin 576 => arg9.view.readAt (Elt Ideal) (Rect.unit (s := S1024x1024) ![128 * k.val + 64 * u.val, 128 * hp.val] S576x128.size inbk).toLoadRect X9 (ix2 j (⟨(x 1).val, hx1⟩ : Fin 128)))
      = fun j : Fin 576 => win x3 x4 (64 * ((128 * k.val + 64 * u.val + (x 0).val) / 64) + j.val) (128 * hp.val + (x 1).val) := by
    funext j
    rw [rd9, hr, show 128 * k.val + 64 * u.val + j.val = 64 * (2 * k.val + u.val) + j.val by omega]
  exact congrArg₂ attn hs hv
end

/-- What a point of case A leaves in the output's staging buffer. -/
theorem out_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x128x576 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1024x1024 .bf16) (harg9 : arg9.IsWhole) (hc0 : ¬cond0_0 i) (hc1 : cond0_1 i)
    (x0 x1 x2 x3 x4 : Vec Ideal S512x1024 .f32) (x5 : Vec Ideal S8x128x576 .f32) (y : S512x1024.Idx) :
    out0_A_6 (F := Ideal) c i arg1 harg1 arg2 harg2 arg3 harg3 arg4 harg4 arg5 harg5 arg6 harg6 arg7 harg7 arg8 harg8 arg9 harg9 hc0 hc1 x0 x1 x2 x3 x4 x5 y
      = blockOut (i 0).val x0 x1 x2 x3 x4 x5 (y 0).val (y 1).val := by
  unfold out0_A_6
  rw [View.read_writes_junk_eq_canon]
  refine View.canon_apply_of_pieces (Val := Elt Ideal) (e := .bf16) (fun y : S512x1024.Idx => (blockOut (i 0).val x0 x1 x2 x3 x4 x5 (y 0).val (y 1).val : EReal)) _ ?_ y
    (cover0_A_6 c i arg1 harg1 arg2 harg2 arg3 harg3 arg4 harg4 arg5 harg5 arg6 harg6 arg7 harg7 arg8 harg8 arg9 harg9 hc0 hc1 x0 x1 x2 x3 x4 x5 y)
  intro p hp x
  unfold kernelRun0_A at hp
  dsimp only at hp
  obtain ⟨k, hk⟩ := pb_isTile _ _ _ _ _ _ _ _ _ _ _ _ _ _ _ _ _ _ _ _ _ _ _ _ _ _ _ _ _ _ (le_refl _) p hp
  exact isTile_out arg1 harg1 arg6 harg6 arg8 arg9 (i 0).val (i 0).isLt x0 x1 x2 x3 x4 x5 _ _
    (fun y => (congrFun (View.read_writes_junk_eq_canon _ _) y).trans (canon_keys c arg2 harg2 arg3 harg3 x1 x2 y))
    (fun y => (congrFun (View.read_writes_junk_eq_canon _ _) y).trans (canon_values c arg4 harg4 arg5 harg5 x3 x4 y)) k p hk x

end Cert.KernelIdeal.Band

end
-- ==== Proof.BandStack.lean ====
module

public import proofs.«01_k».proof.Proof.BandBlock
public import Idealize.ShloMosaic.Lib.StableHlo.ReadAt

/-!
The host stacks shifted copies of the gathered bias rows sixteen at a time: page `j` of a stack is the gathered table read
from `63 - j` (or sixteen, thirty-two, forty-eight less) on.
-/
@[expose] public section

set_option maxRecDepth 16384

noncomputable section

namespace Cert.KernelIdeal.Band

open Cert.KernelIdeal Cert.KernelIdeal.Gen Idealize.ShloMosaic Idealize.ShloMosaic.TcCoe Idealize.SL.Sem

/-- A choice equals `c` when both branches do. -/
theorem of_dite {α : Type} {p : Prop} [Decidable p] {a : p → α} {b : ¬p → α} {c : α} (h1 : ∀ h, a h = c)
    (h2 : ∀ h, b h = c) : (if h : p then a h else b h) = c := by
  by_cases h : p
  · rw [dif_pos h]; exact h1 h
  · rw [dif_neg h]; exact h2 h

variable (m : (ℓ : Loc nD τ sig) → Buf (Elt Ideal) ℓ) (c : Dev nD)

/-- The host's buffers once the table of shifted biases is gathered. -/
def Vg : Valuation τ sig (Elt Ideal) :=
  StableHlo.after (hostOps0_2.take 12) (StableHlo.after hostOps0_1 (StableHlo.after hostOps0 (fun b => m (c, b))))

/-- … and once its shifted copies are stacked sixteen at a time. -/
def Vs (V0 : Valuation τ sig (Elt Ideal)) : Valuation τ sig (Elt Ideal) :=
  StableHlo.after ((hostOps0_2.drop 12).take 132) V0

/-- The region finds the host's buffers after the stacks are joined and reshaped. -/
theorem V_eq (b : Ref sig .tc) : V m c b = StableHlo.after (hostOps0_2.drop 144) (Vs (Vg m c)) b := by
  unfold V Vs Vg
  rw [← StableHlo.after_append, ← StableHlo.after_append, ← StableHlo.after_append, ← StableHlo.after_append]
  rfl

section
set_option maxHeartbeats 2000000

/-- The first sixteen shifts. -/
theorem stack0 (V0 : Valuation τ sig (Elt Ideal)) (i : Fin 16) (j : Fin 16) (k : Fin 576) :
    (Vs V0 main_v142 : FVec Ideal S16x16x576 .f32) (ix3 i j k)
      = (V0 main_v13 : FVec Ideal S16x639 .f32) (ix2 i ⟨63 - j.val + k.val, by omega⟩) := by
  simp only [Vs, hostOps0_2, List.drop_succ_cons, List.drop_zero, List.take_succ_cons, List.take_zero]
  after_reads_simp
  simp only [Matrix.cons_val]
  after_reads_simp
  clean_types
  pointwise
  repeat' refine of_dite (fun _ => ?_) (fun _ => ?_)
  all_goals (refine congrArg (V0 main_v13) (congrArg (ix2 i) (Fin.ext ?_)); dsimp only; omega)

/-- The second sixteen shifts. -/
theorem stack1 (V0 : Valuation τ sig (Elt Ideal)) (i : Fin 16) (j : Fin 16) (k : Fin 576) :
    (Vs V0 main_v143 : FVec Ideal S16x16x576 .f32) (ix3 i j k)
      = (V0 main_v13 : FVec Ideal S16x639 .f32) (ix2 i ⟨47 - j.val + k.val, by omega⟩) := by
  simp only [Vs, hostOps0_2, List.drop_succ_cons, List.drop_zero, List.take_succ_cons, List.take_zero]
  after_reads_simp
  simp only [Matrix.cons_val]
  after_reads_simp
  clean_types
  pointwise
  repeat' refine of_dite (fun _ => ?_) (fun _ => ?_)
  all_goals (refine congrArg (V0 main_v13) (congrArg (ix2 i) (Fin.ext ?_)); dsimp only; omega)

/-- The third sixteen shifts. -/
theorem stack2 (V0 : Valuation τ sig (Elt Ideal)) (i : Fin 16) (j : Fin 16) (k : Fin 576) :
    (Vs V0 main_v144 : FVec Ideal S16x16x576 .f32) (ix3 i j k)
      = (V0 main_v13 : FVec Ideal S16x639 .f32) (ix2 i ⟨31 - j.val + k.val, by omega⟩) := by
  simp only [Vs, hostOps0_2, List.drop_succ_cons, List.drop_zero, List.take_succ_cons, List.take_zero]
  after_reads_simp
  simp only [Matrix.cons_val]
  after_reads_simp
  clean_types
  pointwise
  repeat' refine of_dite (fun _ => ?_) (fun _ => ?_)
  all_goals (refine congrArg (V0 main_v13) (congrArg (ix2 i) (Fin.ext ?_)); dsimp only; omega)

/-- The last sixteen shifts. -/
theorem stack3 (V0 : Valuation τ sig (Elt Ideal)) (i : Fin 16) (j : Fin 16) (k : Fin 576) :
    (Vs V0 main_v145 : FVec Ideal S16x16x576 .f32) (ix3 i j k)
      = (V0 main_v13 : FVec Ideal S16x639 .f32) (ix2 i ⟨15 - j.val + k.val, by omega⟩) := by
  simp only [Vs, hostOps0_2, List.drop_succ_cons, List.drop_zero, List.take_succ_cons, List.take_zero]
  after_reads_simp
  simp only [Matrix.cons_val]
  after_reads_simp
  clean_types
  pointwise
  repeat' refine of_dite (fun _ => ?_) (fun _ => ?_)
  all_goals (refine congrArg (V0 main_v13) (congrArg (ix2 i) (Fin.ext ?_)); dsimp only; omega)

end
end Cert.KernelIdeal.Band
end
-- ==== Proof.BandBias.lean ====
module

public import proofs.«01_k».proof.Proof.BandStack
public import Idealize.ShloMosaic.Lib.StableHlo.ReadAt

/-!
The relative-bias tile that the host builds for the band kernel.  Its row `64 * (h % 2) + i` of page `h / 2` holds, for the
head `h`, the bias of query row `i` against every one of the 576 keys of the window: the bias table's entry at the clipped
distance `512 + i - j`.
-/
@[expose] public section

set_option maxRecDepth 16384

noncomputable section

namespace Cert.KernelIdeal.Band

open Cert.KernelIdeal Cert.KernelIdeal.Gen Idealize.ShloMosaic Idealize.ShloMosaic.TcCoe Idealize.SL.Sem

/-- The column of the bias table that key `j` of the window reads for query row `i` of its chunk: the distance
    `512 + i - j`, clipped to `[-128, 128]`, counted from 0. -/
def biasCol (i j : Nat) : Nat := (min 128 (max (-128) ((512 : Int) + i - j)) + 128).toNat

theorem biasCol_lt (i j : Nat) : biasCol i j < 257 := by unfold biasCol; omega

/-- The gather of whole columns of a two-axis table, read at an index: row `h` of the column whose number the start index
    `t` holds, read signed and clamped into the table. -/
theorem gather_col_apply (x : S16x257.Idx → EReal) (idx : IVec S639x1 32) (h : Fin 16) (t : Fin 639) :
    Host.gather gather_S16x257_S639x1_S16x639_0_1_n_n_1_1_161 x idx (ix2 h t)
      = x (ix2 h ⟨min (idx (ix2 t 0)).toInt.toNat 256, by omega⟩) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil]
    unfold GatherDims.start
    rw [dif_neg (by decide)]
    simp only [Nat.add_zero, Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x257_S639x1_S16x639_0_1_n_n_1_1_161.startIndexMap from List.mem_singleton.mpr rfl)]
    have hsi : gather_S16x257_S639x1_S16x639_0_1_n_n_1_1_161.siIdx (ix2 h t)
        ⟨List.idxOf (1 : Fin 2) gather_S16x257_S639x1_S16x639_0_1_n_n_1_1_161.startIndexMap,
          List.idxOf_lt_length_iff.2 (List.mem_singleton.mpr rfl)⟩ = ix2 t 0 := by
      funext b; refine Fin.ext ?_
      match b with
      | ⟨0, _⟩ => rfl
      | ⟨1, _⟩ => rfl
    rw [hsi]
    rfl

variable (m : (ℓ : Loc nD τ sig) → Buf (Elt Ideal) ℓ) (c : Dev nD)

section
set_option maxHeartbeats 2000000

/-- A row of the tile is a row of the gathered table, read from its shift on. -/
theorem tile_eq (i : Fin 8) (j : Fin 128) (k : Fin 576) :
    (V m c main_v147 : FVec Ideal S8x128x576 .f32) (ix3 i j k)
      = (Vg m c main_v13 : FVec Ideal S16x639 .f32)
          (ix2 ⟨2 * i.val + j.val / 64, by omega⟩ ⟨63 - j.val % 64 + k.val, by omega⟩) := by
  rw [V_eq]
  have h0 := stack0 (Vg m c)
  have h1 := stack1 (Vg m c)
  have h2 := stack2 (Vg m c)
  have h3 := stack3 (Vg m c)
  generalize Vs (Vg m c) = V1 at *
  generalize Vg m c = V0 at *
  simp only [hostOps0_2, List.drop_succ_cons, List.drop_zero]
  after_reads_simp
  clean_types
  pointwise
  refine of_dite (fun _ => (h0 _ _ _).trans ?_) (fun _ => of_dite (fun _ => (h1 _ _ _).trans ?_)
    (fun _ => of_dite (fun _ => (h2 _ _ _).trans ?_) (fun _ => (h3 _ _ _).trans ?_)))
  all_goals (refine congrArg (V0 main_v13) ?_; congr 1 <;> (refine Fin.ext ?_; dsimp only; omega))

/-- The gathered table: entry `t` is the bias at the clipped distance `575 - t`. -/
theorem shifted_eq (h : Fin 16) (t : Fin 639) :
    (Vg m c main_v13 : FVec Ideal S16x639 .f32) (ix2 h t)
      = (m (c, Proc.tc.devRef main_arg1) : FVec Ideal S1x16x257 .f32) (ix3 0 h ⟨(min 128 (max (-128) ((575 : Int) - t.val)) + 128).toNat, by omega⟩) := by
  unfold Vg
  simp only [hostOps0_2, List.take_succ_cons, List.take_zero]
  after_reads_at
  rw [gather_col_apply]
  refine congrArg (m (c, Proc.tc.devRef main_arg1)) (congrArg (ix3 0 h) (Fin.ext ?_))
  show (min (_ : BitVec 32).toInt.toNat 256 : Nat) = (min 128 (max (-128) ((575 : Int) - t.val)) + 128).toNat
  pointwise
  revert t
  decide +kernel

/-- THE TILE: page `i`, row `j` holds the bias of head `2 * i + j / 64` for query row `j % 64` against key `k`. -/
theorem bias_tile (i : Fin 8) (j : Fin 128) (k : Fin 576) :
    (V m c main_v147 : FVec Ideal S8x128x576 .f32) (ix3 i j k)
      = (m (c, Proc.tc.devRef main_arg1) : FVec Ideal S1x16x257 .f32)
          (ix3 0 ⟨2 * i.val + j.val / 64, by omega⟩ ⟨biasCol (j.val % 64) k.val, biasCol_lt _ _⟩) := by
  rw [tile_eq, shifted_eq]
  refine congrArg (m (c, Proc.tc.devRef main_arg1)) (congrArg (ix3 0 _) (Fin.ext ?_))
  unfold biasCol
  dsimp only
  omega
end
end Cert.KernelIdeal.Band
end
-- ==== Proof.BandArray.lean ====
module

public import proofs.«01_k».proof.Proof.BandBias
public import proofs.«01_k».proof.Proof.Gen.KernelIdeal.Value

/-!
What the band kernel's result array holds: at row `r` of the prompt and lane `l`, the attention of query row `r` in the head
of lane `l` over the 576 keys of its window — its own chunk of 64 rows and the eight before it, as far as they exist —, with
the relative bias added to the scores; and zero in the rows after the prompt.
-/
@[expose] public section

set_option maxRecDepth 16384

noncomputable section

namespace Cert.KernelIdeal.Band

open Cert.KernelIdeal Cert.KernelIdeal.Gen Idealize.ShloMosaic Idealize.ShloMosaic.TcCoe Idealize.SL.Sem

/-- The score of row `r` in the head of lane `l` with key `j` of the window. -/
def bandScore (X : S8704x4096.Idx → EReal) (B : S1x16x257.Idx → EReal) (r l : ℕ) (j : Fin 576) : EReal :=
  if 512 ≤ 64 * (r / 64) + j.val then
    (∑ d : Fin 64, at2 X r (64 * (l / 64) + d.val) * at2 X (64 * (r / 64) + j.val - 512) (1024 + (64 * (l / 64) + d.val))) * eighth
      + at3 B 0 (l / 64) (biasCol (r % 64) j.val)
  else ⊥

/-- The result at row `r` and lane `l`. -/
def bandOut (X : S8704x4096.Idx → EReal) (B : S1x16x257.Idx → EReal) (r l : ℕ) : EReal :=
  if r < 8192 then attn (bandScore X B r l) (fun j => at2 X (64 * (r / 64) + j.val - 512) (2048 + l)) else 0

/-- A masked key weighs nothing, so its value does not matter. -/
theorem attn_congr (s v w : Fin 576 → EReal) (h : ∀ j, s j = ⊥ ∨ v j = w j) : attn s v = attn s w := by
  unfold attn
  congr 1
  refine Finset.sum_congr rfl fun j _ => ?_
  rcases h j with h | h
  · have : Ideal.exp (s j - top s) = 0 := by rw [h, EReal.bot_sub]; rfl
    rw [this, zero_mul, zero_mul]
  · rw [h]

section
variable (m : (ℓ : Loc nD τ sig) → Buf (Elt Ideal) ℓ) (c : Dev nD)

/-- The projected rows, as launched. -/
abbrev rows : S8704x4096.Idx → EReal := m (c, Proc.tc.devRef main_arg0)
/-- The bias table, as launched. -/
abbrev table : S1x16x257.Idx → EReal := m (c, Proc.tc.devRef main_arg1)

theorem index0 : ∀ t : Fin grid0.N, win0_0.index t 0 = t.val ∧ win0_0.index t 1 = 0 := by decide +kernel
theorem index1 : ∀ t : Fin grid0.N, win0_1.index t 0 = t.val - 1 ∧ win0_1.index t 1 = 1 := by decide +kernel
theorem index2 : ∀ t : Fin grid0.N, win0_2.index t 0 = t.val ∧ win0_2.index t 1 = 1 := by decide +kernel
theorem index3 : ∀ t : Fin grid0.N, win0_3.index t 0 = t.val - 1 ∧ win0_3.index t 1 = 2 := by decide +kernel
theorem index4 : ∀ t : Fin grid0.N, win0_4.index t 0 = t.val ∧ win0_4.index t 1 = 2 := by decide +kernel
theorem index5 : ∀ t : Fin grid0.N, win0_5.index t 0 = 0 ∧ win0_5.index t 1 = 0 ∧ win0_5.index t 2 = 0 := by decide +kernel
theorem index6 : ∀ t : Fin grid0.N, win0_6.index t 0 = t.val ∧ win0_6.index t 1 = 0 := by decide +kernel

/-- A block of the projected rows, at numbers, from its index: rows from `512 * a` on, lanes from `1024 * b` on. -/
theorem at2_block (x : S512x1024.Idx → EReal) (X : S8704x4096.Idx → EReal) (a b : ℕ) (ha : a < 17) (hb : b < 4)
    (h : ∀ (i : Fin 512) (j : Fin 1024), x (ix2 i j) = X (ix2 ⟨a * 512 + i.val, by omega⟩ ⟨b * 1024 + j.val, by omega⟩))
    (r l : ℕ) (hr : r < 512) (hl : l < 1024) : at2 x r l = at2 X (512 * a + r) (1024 * b + l) := by
  have := h ⟨r, hr⟩ ⟨l, hl⟩
  simpa only [at2_eq, Nat.mul_comm] using this

theorem block0 (t : Fin grid0.N) (r l : ℕ) (hr : r < 512) (hl : l < 1024) :
    at2 (iblk m c 0 t : Vec Ideal S512x1024 .f32) r l = at2 (rows m c) (512 * t.val + r) l := by
  have ht : t.val < 17 := t.isLt
  have := at2_block (iblk m c 0 t : Vec Ideal S512x1024 .f32) (rows m c) t.val 0 (by omega) (by omega) (fun i j => by
    unfold iblk
    rw [View.read_apply]
    show V m c main_arg0 _ = _
    rw [V_main_arg0]
    show m _ _ = m _ _
    congr 1
    funext a
    apply Fin.ext
    match a with
    | ⟨0, _⟩ => show win0_0.index t 0 * 512 + 1 * i.val = t.val * 512 + i.val; rw [(index0 t).1]; omega
    | ⟨1, _⟩ => show win0_0.index t 1 * 1024 + 1 * j.val = 0 * 1024 + j.val; rw [(index0 t).2]; omega) r l hr hl
  simpa only [Nat.mul_zero, Nat.zero_add] using this

theorem block1 (t : Fin grid0.N) (r l : ℕ) (hr : r < 512) (hl : l < 1024) :
    at2 (iblk m c 1 t : Vec Ideal S512x1024 .f32) r l = at2 (rows m c) (512 * (t.val - 1) + r) (1024 + l) := by
  have ht : t.val < 17 := t.isLt
  have := at2_block (iblk m c 1 t : Vec Ideal S512x1024 .f32) (rows m c) (t.val - 1) 1 (by omega) (by omega) (fun i j => by
    unfold iblk
    rw [View.read_apply]
    show V m c main_arg0 _ = _
    rw [V_main_arg0]
    show m _ _ = m _ _
    congr 1
    funext a
    apply Fin.ext
    match a with
    | ⟨0, _⟩ => show win0_1.index t 0 * 512 + 1 * i.val = (t.val - 1) * 512 + i.val; rw [(index1 t).1]; omega
    | ⟨1, _⟩ => show win0_1.index t 1 * 1024 + 1 * j.val = 1 * 1024 + j.val; rw [(index1 t).2]; omega) r l hr hl
  simpa only [Nat.mul_one] using this

theorem block2 (t : Fin grid0.N) (r l : ℕ) (hr : r < 512) (hl : l < 1024) :
    at2 (iblk m c 2 t : Vec Ideal S512x1024 .f32) r l = at2 (rows m c) (512 * t.val + r) (1024 + l) := by
  have ht : t.val < 17 := t.isLt
  have := at2_block (iblk m c 2 t : Vec Ideal S512x1024 .f32) (rows m c) t.val 1 (by omega) (by omega) (fun i j => by
    unfold iblk
    rw [View.read_apply]
    show V m c main_arg0 _ = _
    rw [V_main_arg0]
    show m _ _ = m _ _
    congr 1
    funext a
    apply Fin.ext
    match a with
    | ⟨0, _⟩ => show win0_2.index t 0 * 512 + 1 * i.val = t.val * 512 + i.val; rw [(index2 t).1]; omega
    | ⟨1, _⟩ => show win0_2.index t 1 * 1024 + 1 * j.val = 1 * 1024 + j.val; rw [(index2 t).2]; omega) r l hr hl
  simpa only [Nat.mul_one] using this

theorem block3 (t : Fin grid0.N) (r l : ℕ) (hr : r < 512) (hl : l < 1024) :
    at2 (iblk m c 3 t : Vec Ideal S512x1024 .f32) r l = at2 (rows m c) (512 * (t.val - 1) + r) (2048 + l) := by
  have ht : t.val < 17 := t.isLt
  exact at2_block (iblk m c 3 t : Vec Ideal S512x1024 .f32) (rows m c) (t.val - 1) 2 (by omega) (by omega) (fun i j => by
    unfold iblk
    rw [View.read_apply]
    show V m c main_arg0 _ = _
    rw [V_main_arg0]
    show m _ _ = m _ _
    congr 1
    funext a
    apply Fin.ext
    match a with
    | ⟨0, _⟩ => show win0_3.index t 0 * 512 + 1 * i.val = (t.val - 1) * 512 + i.val; rw [(index3 t).1]; omega
    | ⟨1, _⟩ => show win0_3.index t 1 * 1024 + 1 * j.val = 2 * 1024 + j.val; rw [(index3 t).2]; omega) r l hr hl

theorem block4 (t : Fin grid0.N) (r l : ℕ) (hr : r < 512) (hl : l < 1024) :
    at2 (iblk m c 4 t : Vec Ideal S512x1024 .f32) r l = at2 (rows m c) (512 * t.val + r) (2048 + l) := by
  have ht : t.val < 17 := t.isLt
  exact at2_block (iblk m c 4 t : Vec Ideal S512x1024 .f32) (rows m c) t.val 2 (by omega) (by omega) (fun i j => by
    unfold iblk
    rw [View.read_apply]
    show V m c main_arg0 _ = _
    rw [V_main_arg0]
    show m _ _ = m _ _
    congr 1
    funext a
    apply Fin.ext
    match a with
    | ⟨0, _⟩ => show win0_4.index t 0 * 512 + 1 * i.val = t.val * 512 + i.val; rw [(index4 t).1]; omega
    | ⟨1, _⟩ => show win0_4.index t 1 * 1024 + 1 * j.val = 2 * 1024 + j.val; rw [(index4 t).2]; omega) r l hr hl

/-- The bias window is the host's tile at every point. -/
theorem block5 (t : Fin grid0.N) (i j k : ℕ) (hi : i < 8) (hj : j < 128) (hk : k < 576) :
    at3 (iblk m c 5 t : Vec Ideal S8x128x576 .f32) i j k = at3 (table m c) 0 (2 * i + j / 64) (biasCol (j % 64) k) := by
  have e : (iblk m c 5 t : Vec Ideal S8x128x576 .f32) (ix3 ⟨i, hi⟩ ⟨j, hj⟩ ⟨k, hk⟩)
      = (V m c main_v147 : FVec Ideal S8x128x576 .f32) (ix3 ⟨i, hi⟩ ⟨j, hj⟩ ⟨k, hk⟩) := by
    unfold iblk
    rw [View.read_apply]
    show V m c main_v147 _ = V m c main_v147 _
    congr 1
    funext a
    apply Fin.ext
    match a with
    | ⟨0, _⟩ => show win0_5.index t 0 * 8 + 1 * i = i; rw [(index5 t).1]; omega
    | ⟨1, _⟩ => show win0_5.index t 1 * 128 + 1 * j = j; rw [(index5 t).2.1]; omega
    | ⟨2, _⟩ => show win0_5.index t 2 * 576 + 1 * k = k; rw [(index5 t).2.2]; omega
  rw [bias_tile] at e
  exact (at3_eq (iblk m c 5 t : Vec Ideal S8x128x576 .f32) ⟨i, hi⟩ ⟨j, hj⟩ ⟨k, hk⟩).symm.trans (e.trans (at3_eq (table m c) 0 _ _))

/-- A window of the keys or values, at numbers, where the row exists. -/
theorem win_rows (x p : Vec Ideal S512x1024 .f32) (X : S8704x4096.Idx → EReal) (t b R l : ℕ) (hR : R < 1024)
    (h0 : t = 0 → 512 ≤ R)
    (hp : ∀ r, r < 512 → at2 p r l = at2 X (512 * (t - 1) + r) (b + l))
    (hx : ∀ r, r < 512 → at2 x r l = at2 X (512 * t + r) (b + l)) :
    win p x R l = at2 X (512 * t + R - 512) (b + l) := by
  unfold win
  split
  · rw [hp R (by omega)]
    congr 1
    omega
  · rw [hx _ (by omega)]
    congr 1
    omega

/-- A block of the prompt from blocks of the projected rows. -/
theorem blockOut_of (t : ℕ) (ht : t < 16) (x0 x1 x2 x3 x4 : Vec Ideal S512x1024 .f32) (x5 : Vec Ideal S8x128x576 .f32)
    (X : S8704x4096.Idx → EReal) (B : S1x16x257.Idx → EReal)
    (h0 : ∀ r l, r < 512 → l < 1024 → at2 x0 r l = at2 X (512 * t + r) l)
    (h1 : ∀ r l, r < 512 → l < 1024 → at2 x1 r l = at2 X (512 * (t - 1) + r) (1024 + l))
    (h2 : ∀ r l, r < 512 → l < 1024 → at2 x2 r l = at2 X (512 * t + r) (1024 + l))
    (h3 : ∀ r l, r < 512 → l < 1024 → at2 x3 r l = at2 X (512 * (t - 1) + r) (2048 + l))
    (h4 : ∀ r l, r < 512 → l < 1024 → at2 x4 r l = at2 X (512 * t + r) (2048 + l))
    (h5 : ∀ i j k, i < 8 → j < 128 → k < 576 → at3 x5 i j k = at3 B 0 (2 * i + j / 64) (biasCol (j % 64) k))
    (r l : ℕ) (hr : r < 512) (hl : l < 1024) :
    blockOut t x0 x1 x2 x3 x4 x5 r l = bandOut X B (512 * t + r) l := by
  have e1 : 64 * ((512 * t + r) / 64) = 512 * t + 64 * (r / 64) := by omega
  have e2 : (512 * t + r) % 64 = r % 64 := by omega
  have hs : blockScore t x0 x1 x2 x5 r l
      = bandScore X B (512 * t + r) l := by
    funext j
    have hj := j.isLt
    unfold blockScore bandScore
    rw [e1, e2]
    by_cases hm : t = 0 → 512 ≤ 64 * (r / 64) + j.val
    · rw [if_pos hm, if_pos (by omega), h5 _ _ _ (by omega) (by omega) (by omega)]
      have e3 : 2 * (l / 128) + (64 * (l / 64 % 2) + r % 64) / 64 = l / 64 := by omega
      have e4 : (64 * (l / 64 % 2) + r % 64) % 64 = r % 64 := by omega
      have e5 : 512 * t + (64 * (r / 64) + j.val) - 512 = 512 * t + 64 * (r / 64) + j.val - 512 := by omega
      rw [e3, e4]
      refine congrArg (fun z => z * eighth + at3 B 0 (l / 64) (biasCol (r % 64) j.val)) (Finset.sum_congr rfl fun d _ => ?_)
      have hd := d.isLt
      rw [h0 _ _ hr (by omega), win_rows x2 x1 X t 1024 _ _ (by omega) hm
        (fun r hr => h1 r _ hr (by omega)) (fun r hr => h2 r _ hr (by omega)), e5]
    · rw [if_neg hm, if_neg (by omega)]
  unfold blockOut bandOut
  rw [if_pos (by omega), hs]
  refine attn_congr _ _ _ fun j => ?_
  have hj := j.isLt
  by_cases hm : t = 0 → 512 ≤ 64 * (r / 64) + j.val
  · right
    rw [win_rows x4 x3 X t 2048 _ _ (by omega) hm
      (fun r hr => h3 r _ hr hl) (fun r hr => h4 r _ hr hl), e1,
      show 512 * t + (64 * (r / 64) + j.val) - 512 = 512 * t + 64 * (r / 64) + j.val - 512 by omega]
  · left
    unfold bandScore
    rw [if_neg (by omega)]

/-- WHAT ONE BLOCK OF THE PROMPT IS, in the whole arrays' terms. -/
theorem blockOut_eq (t : Fin grid0.N) (ht : t.val < 16) (r l : ℕ) (hr : r < 512) (hl : l < 1024) :
    blockOut t.val (iblk m c 0 t) (iblk m c 1 t) (iblk m c 2 t) (iblk m c 3 t) (iblk m c 4 t) (iblk m c 5 t) r l
      = bandOut (rows m c) (table m c) (512 * t.val + r) l :=
  blockOut_of t.val ht _ _ _ _ _ _ _ _ (block0 m c t) (block1 m c t) (block2 m c t) (block3 m c t) (block4 m c t)
    (block5 m c t) r l hr hl

/-- Past the prompt the body stores zeros. -/
theorem out_B (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x128x576 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i) (hc1 : ¬cond0_1 i)
    (x0 x1 x2 x3 x4 : Vec Ideal S512x1024 .f32) (x5 : Vec Ideal S8x128x576 .f32) (y : S512x1024.Idx) :
    out0_B_6 (F := Ideal) c i arg1 harg1 arg2 harg2 arg3 harg3 arg4 harg4 arg5 harg5 arg6 harg6 arg7 harg7 arg8 harg8 arg9 harg9 hc0 hc1 x0 x1 x2 x3 x4 x5 y
      = (0 : EReal) := by
  unfold out0_B_6
  rw [View.read_writes_junk_eq_canon]
  unfold kernelRun0_B
  dsimp only
  rw [View.canon_unit_zero (by funext a; fin_cases a <;> rfl)]
  idx_vars y
  pointwise [k0_pay1]

/-- The result array. -/
def result : Buf (Elt Ideal) ((c : Thread nD τ).loc main_v148) :=
  fun y : S8704x1024.Idx => bandOut (rows m c) (table m c) (y 0).val (y 1).val

theorem coords0 : ∀ t : Fin grid0.N, (grid0.coords t 0).val = t.val := by decide +kernel

theorem flush_all : ∀ t : Fin cfg0.N, (cfg0.win 6).flush t = true := flush0_6

/-- Every point writes back its block of it. -/
theorem flushed_eq (t : Fin cfg0.N) (hf : (cfg0.win 6).flush t = true) :
    (dats m 0 c).flushed 6 t = ((cfg0.win 6).blk t).view.read (Elt Ideal) (result m c) := by
  have hN : cfg0.N = 17 := N_0
  have ht := t.isLt
  have hres : ∀ y : S512x1024.Idx, ((cfg0.win 6).blk t).view.read (Elt Ideal) (result m c) y
      = bandOut (rows m c) (table m c) (512 * t.val + (y 0).val) (y 1).val := by
    intro y
    rw [View.read_apply]
    show bandOut _ _ (win0_6.index t 0 * 512 + 1 * (y 0).val) (win0_6.index t 1 * 1024 + 1 * (y 1).val) = _
    rw [(index6 t).1, (index6 t).2]
    congr 1 <;> omega
  funext y
  refine Eq.trans ?_ (hres y).symm
  by_cases h16 : t.val < 16
  · rw [Value.flushed6_A m c t (by omega) h16]
    refine (out_A ..).trans ?_
    rw [coords0]
    exact blockOut_eq m c t h16 _ _ (y 0).isLt (y 1).isLt
  · rw [Value.flushed6_B m c t (by omega) h16]
    refine (out_B ..).trans ?_
    unfold bandOut
    rw [if_neg (by omega)]

/-- The array after the run. -/
theorem final : (dats m 0 c).arrAt 6 cfg0.N = result m c :=
  (dats m 0 c).arrAt_eq_of_cover 6 (result m c) (flushed_eq m c) fun i => by
    have h0 : (i 0 : Nat) < 8704 := (i 0).isLt
    have h1 : (i 1 : Nat) < 1024 := (i 1).isLt
    have hN : cfg0.N = 17 := N_0
    let t : Fin cfg0.N := ⟨(i 0 : Nat) / 512, by omega⟩
    refine ⟨t, flush_all t, ?_⟩
    show i ∈ ((View.whole main_v148).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; show (i 0 : Nat) / 512 * 512 ≤ (i 0 : Nat) ∧ (i 0 : Nat) < (i 0 : Nat) / 512 * 512 + 512; omega
    | ⟨1, _⟩ =>
      show win0_6.index t 1 * 1024 ≤ (i 1 : Nat) ∧ (i 1 : Nat) < win0_6.index t 1 * 1024 + 1024
      rw [(index6 t).2]; omega
end

end Cert.KernelIdeal.Band
end
-- ==== Proof.BandRef.lean ====
module

public import proofs.«01_k».proof.Proof.Gen.ReferenceIdeal.Run
public import Idealize.ShloMosaic.Lib.Pointwise

/-!
The reference of the band attention, in named steps: heads, the windows of keys and values, the bias rows, the scores, the
weights; and its result as those steps composed.
-/
@[expose] public section

set_option maxRecDepth 16384

noncomputable section

namespace Cert.ReferenceIdeal.Band

open Cert.ReferenceIdeal Cert.ReferenceIdeal.Gen Idealize.ShloMosaic Idealize.ShloMosaic.TcCoe Idealize.SL.Sem

/-- The prompt's queries by heads. -/
def headsQ (X : FVec Ideal S8704x4096 .f32) : FVec Ideal S1x8192x16x64 .f32 :=
  shapeCast _ (extractStridedSlice S1x8192x1024 ![0, 0, 0] (broadcastInDim S1x8192x4096 ![1, 2]
    bcast_S8192x4096_S1x8192x4096_1_2 (extractStridedSlice S8192x4096 ![0, 0] X slices_S8704x4096_S8192x4096_0_0))
    slices_S1x8192x4096_S1x8192x1024_0_0_0) shapeCasts_S1x8192x1024_S1x8192x16x64

/-- The prompt's keys by heads. -/
def headsK (X : FVec Ideal S8704x4096 .f32) : FVec Ideal S1x8192x16x64 .f32 :=
  shapeCast _ (extractStridedSlice S1x8192x1024 ![0, 0, 1024] (broadcastInDim S1x8192x4096 ![1, 2]
    bcast_S8192x4096_S1x8192x4096_1_2 (extractStridedSlice S8192x4096 ![0, 0] X slices_S8704x4096_S8192x4096_0_0))
    slices_S1x8192x4096_S1x8192x1024_0_0_1024) shapeCasts_S1x8192x1024_S1x8192x16x64

/-- The prompt's values by heads. -/
def headsV (X : FVec Ideal S8704x4096 .f32) : FVec Ideal S1x8192x16x64 .f32 :=
  shapeCast _ (extractStridedSlice S1x8192x1024 ![0, 0, 2048] (broadcastInDim S1x8192x4096 ![1, 2]
    bcast_S8192x4096_S1x8192x4096_1_2 (extractStridedSlice S8192x4096 ![0, 0] X slices_S8704x4096_S8192x4096_0_0))
    slices_S1x8192x4096_S1x8192x1024_0_0_2048) shapeCasts_S1x8192x1024_S1x8192x16x64

/-- Eight empty chunks before the prompt's. -/
def padded (x : FVec Ideal S1x8192x16x64 .f32) : FVec Ideal S1x136x64x16x64 .f32 :=
  shapeCast _ (pad S1x8704x16x64 ![0, 512, 0, 0] ![0, 0, 0, 0] ![0, 0, 0, 0] x (sitofp (F := Ideal) .f32 (constantI S_ 32 0#32))
    pads_S1x8192x16x64_S1x8704x16x64_000_51200_000_000 h_S_) shapeCasts_S1x8704x16x64_S1x136x64x16x64

/-- Every chunk's window: the eight chunks before it and itself. -/
def window (x : FVec Ideal S1x136x64x16x64 .f32) : FVec Ideal S1x128x576x16x64 .f32 :=
  concatenate S1x128x576x16x64 2 [⟨S1x128x64x16x64, (extractStridedSlice S1x128x64x16x64 ![0, 0, 0, 0, 0] x slices_S1x136x64x16x64_S1x128x64x16x64_0_0_0_0_0 : FVec Ideal S1x128x64x16x64 .f32)⟩,
    ⟨S1x128x64x16x64, (extractStridedSlice S1x128x64x16x64 ![0, 1, 0, 0, 0] x slices_S1x136x64x16x64_S1x128x64x16x64_0_1_0_0_0 : FVec Ideal S1x128x64x16x64 .f32)⟩,
    ⟨S1x128x64x16x64, (extractStridedSlice S1x128x64x16x64 ![0, 2, 0, 0, 0] x slices_S1x136x64x16x64_S1x128x64x16x64_0_2_0_0_0 : FVec Ideal S1x128x64x16x64 .f32)⟩,
    ⟨S1x128x64x16x64, (extractStridedSlice S1x128x64x16x64 ![0, 3, 0, 0, 0] x slices_S1x136x64x16x64_S1x128x64x16x64_0_3_0_0_0 : FVec Ideal S1x128x64x16x64 .f32)⟩,
    ⟨S1x128x64x16x64, (extractStridedSlice S1x128x64x16x64 ![0, 4, 0, 0, 0] x slices_S1x136x64x16x64_S1x128x64x16x64_0_4_0_0_0 : FVec Ideal S1x128x64x16x64 .f32)⟩,
    ⟨S1x128x64x16x64, (extractStridedSlice S1x128x64x16x64 ![0, 5, 0, 0, 0] x slices_S1x136x64x16x64_S1x128x64x16x64_0_5_0_0_0 : FVec Ideal S1x128x64x16x64 .f32)⟩,
    ⟨S1x128x64x16x64, (extractStridedSlice S1x128x64x16x64 ![0, 6, 0, 0, 0] x slices_S1x136x64x16x64_S1x128x64x16x64_0_6_0_0_0 : FVec Ideal S1x128x64x16x64 .f32)⟩,
    ⟨S1x128x64x16x64, (extractStridedSlice S1x128x64x16x64 ![0, 7, 0, 0, 0] x slices_S1x136x64x16x64_S1x128x64x16x64_0_7_0_0_0 : FVec Ideal S1x128x64x16x64 .f32)⟩,
    ⟨S1x128x64x16x64, (extractStridedSlice S1x128x64x16x64 ![0, 8, 0, 0, 0] x slices_S1x136x64x16x64_S1x128x64x16x64_0_8_0_0_0 : FVec Ideal S1x128x64x16x64 .f32)⟩] concatenates_S1x128x64x16x64_S1x128x64x16x64_S1x128x64x16x64_S1x128x64x16x64_S1x128x64x16x64_S1x128x64x16x64_S1x128x64x16x64_S1x128x64x16x64_S1x128x64x16x64_S1x128x576x16x64_d2

/-- The clipped distances, counted from 0. -/
def clipped : IVec S64x576 32 :=
  addi (minsi (broadcastInDim S64x576 ![] bcast_S_S64x576 (id (constantI S_ 32 128#32))) (maxsi (broadcastInDim
    S64x576 ![] bcast_S_S64x576 (id (constantI S_ 32 4294967168#32))) (subi (broadcastInDim S64x576 ![0, 1]
    bcast_S64x1_S64x576_0_1 (broadcastInDim S64x1 ![0] bcast_S64_S64x1_0 (iotaInDim S64 32 0))) (broadcastInDim
    S64x576 ![0, 1] bcast_S1x576_S64x576_0_1 (broadcastInDim S1x576 ![1] bcast_S576_S1x576_1 (subi (iotaInDim S576 32
    0) (broadcastInDim S576 ![] bcast_S_S576 (constantI S_ 32 512#32)))))))) (broadcastInDim S64x576 ![]
    bcast_S_S64x576 (constantI S_ 32 128#32))

/-- The bias of every head, query row and key of the window. -/
def biasRows (B : FVec Ideal S1x16x257 .f32) : FVec Ideal S16x64x576 .f32 :=
  Host.gather gather_S16x257_S64x576x1_S16x64x576_0_1_n_n_1_2_161 (shapeCast _ B shapeCasts_S1x16x257_S16x257)
    (broadcastInDim S64x576x1 ![0, 1] bcast_S64x576_S64x576x1_0_1 (select (cmpi .slt clipped (broadcastInDim S64x576
    ![] bcast_S_S64x576 (constantI S_ 32 0#32))) (addi clipped (broadcastInDim S64x576 ![] bcast_S_S64x576 (constantI
    S_ 32 257#32))) clipped))

/-- Which keys of a chunk's window lie in the sequence. -/
def inSequence : IVec S128x576 1 :=
  cmpi .sge (addi (broadcastInDim S128x576 ![0, 1] bcast_S128x1_S128x576_0_1 (muli (broadcastInDim S128x1 ![0]
    bcast_S128_S128x1_0 (iotaInDim S128 32 0)) (broadcastInDim S128x1 ![] bcast_S_S128x1 (constantI S_ 32 64#32))))
    (broadcastInDim S128x576 ![0, 1] bcast_S1x576_S128x576_0_1 (broadcastInDim S1x576 ![1] bcast_S576_S1x576_1 (subi
    (iotaInDim S576 32 0) (broadcastInDim S576 ![] bcast_S_S576 (constantI S_ 32 512#32)))))) (broadcastInDim S128x576
    ![] bcast_S_S128x576 (constantI S_ 32 0#32))

/-- The masked scores. -/
def scores (q : FVec Ideal S1x8192x16x64 .f32) (k : FVec Ideal S1x128x576x16x64 .f32) (b : FVec Ideal S16x64x576 .f32) :
    FVec Ideal S1x128x16x64x576 .f32 :=
  select (broadcastInDim S1x128x16x64x576 ![0, 1, 2, 3, 4] bcast_S1x128x1x1x576_S1x128x16x64x576_0_1_2_3_4
    (broadcastInDim S1x128x1x1x576 ![1, 3, 4] bcast_S128x1x576_S1x128x1x1x576_1_3_4 (broadcastInDim S128x1x576 ![0, 2]
    bcast_S128x576_S128x1x576_0_2 inSequence))) (addf (mulf (Host.dotGeneral
    dot_S1x128x64x16x64_S1x128x576x16x64_S1x128x16x64x576_4_4_2_2_013_013 none (shapeCast _ q
    shapeCasts_S1x8192x16x64_S1x128x64x16x64) k) (broadcastInDim S1x128x16x64x576 ![] bcast_S_S1x128x16x64x576
    (constant (F := Ideal) S_ .f32 0x3E000000#32))) (broadcastInDim S1x128x16x64x576 ![0, 1, 2, 3, 4]
    bcast_S1x1x16x64x576_S1x128x16x64x576_0_1_2_3_4 (broadcastInDim S1x1x16x64x576 ![2, 3, 4]
    bcast_S16x64x576_S1x1x16x64x576_2_3_4 b))) (broadcastInDim S1x128x16x64x576 ![] bcast_S_S1x128x16x64x576 (id
    (constant (F := Ideal) S_ .f32 0xFF800000#32)))

/-- Their greatest. -/
def tops (s : FVec Ideal S1x128x16x64x576 .f32) : FVec Ideal S1x128x16x64 .f32 :=
  maximumf (broadcastInDim S1x128x16x64 ![] bcast_S_S1x128x16x64 (constant (F := Ideal) S_ .f32 0xFF800000#32)) (Host.reduce
    FloatOps.maximumf s (constant (F := Ideal) S_ .f32 0xFF800000#32) reducesTo_S1x128x16x64x576_S1x128x16x64_d4 h_S_)

/-- Their exponentials, from the greatest down. -/
def exps (s : FVec Ideal S1x128x16x64x576 .f32) : FVec Ideal S1x128x16x64x576 .f32 :=
  Host.exp (subf s (broadcastInDim S1x128x16x64x576 ![0, 1, 2, 3, 4] bcast_S1x128x16x64x1_S1x128x16x64x576_0_1_2_3_4
    (broadcastInDim S1x128x16x64x1 ![0, 1, 2, 3] bcast_S1x128x16x64_S1x128x16x64x1_0_1_2_3 (tops s))))

/-- The softmax weights. -/
def weights (s : FVec Ideal S1x128x16x64x576 .f32) : FVec Ideal S1x128x16x64x576 .f32 :=
  Host.divf (exps s) (broadcastInDim S1x128x16x64x576 ![0, 1, 2, 3, 4] bcast_S1x128x16x64x1_S1x128x16x64x576_0_1_2_3_4
    (broadcastInDim S1x128x16x64x1 ![0, 1, 2, 3] bcast_S1x128x16x64_S1x128x16x64x1_0_1_2_3 (Host.reduceAdd (exps s)
    (constant (F := Ideal) S_ .f32 0x00000000#32) reducesTo_S1x128x16x64x576_S1x128x16x64_d4 h_S_)))

/-- The reference's result. -/
def out (X : FVec Ideal S8704x4096 .f32) (B : FVec Ideal S1x16x257 .f32) : FVec Ideal S8704x1024 .bf16 :=
  concatenate S8704x1024 0 [⟨S8192x1024, (truncf .bf16 (shapeCast _ (shapeCast _ (transpose S1x128x64x16x64 [0, 1, 4,
    2, 3] (Host.dotGeneral dot_S1x128x576x16x64_S1x128x16x64x576_S1x128x16x64x64_2_4_4_3_013_012 none (window (padded
    (headsV X))) (weights (scores (headsQ X) (window (padded (headsK X))) (biasRows B))))
    transposes_S1x128x16x64x64_S1x128x64x16x64_0_1_4_2_3) shapeCasts_S1x128x64x16x64_S1x8192x1024)
    shapeCasts_S1x8192x1024_S8192x1024) bitsLt_bf16_f32)⟩, ⟨S512x1024, (broadcastInDim S512x1024 ![] bcast_S_S512x1024
    (constant (F := Ideal) S_ .bf16 0x0000#16))⟩] concatenates_S8192x1024_S512x1024_S8704x1024_d0

theorem res_eq (m : (ℓ : Loc nD τ sig) → Buf (Elt Ideal) ℓ) (c : Dev nD) :
    Value.res_main_v89 m c = out (m ((c.tc : Thread nD τ).loc main_arg0)) (m ((c.tc : Thread nD τ).loc main_arg1)) := rfl

theorem headsQ_apply (X : FVec Ideal S8704x4096 .f32) (r : Fin 8192) (h : Fin 16) (d : Fin 64) :
    headsQ X (ix4 0 r h d) = X (ix2 ⟨r.val, by omega⟩ ⟨h.val * 64 + d.val, by omega⟩) := by
  pointwise [headsQ]

theorem headsK_apply (X : FVec Ideal S8704x4096 .f32) (r : Fin 8192) (h : Fin 16) (d : Fin 64) :
    headsK X (ix4 0 r h d) = X (ix2 ⟨r.val, by omega⟩ ⟨1024 + (h.val * 64 + d.val), by omega⟩) := by
  pointwise [headsK]

theorem headsV_apply (X : FVec Ideal S8704x4096 .f32) (r : Fin 8192) (h : Fin 16) (d : Fin 64) :
    headsV X (ix4 0 r h d) = X (ix2 ⟨r.val, by omega⟩ ⟨2048 + (h.val * 64 + d.val), by omega⟩) := by
  pointwise [headsV]

/-- A choice equals `c` when both branches do. -/
theorem of_dite {α : Type} {p : Prop} [Decidable p] {a : p → α} {b : ¬p → α} {c : α} (h1 : ∀ h, a h = c)
    (h2 : ∀ h, b h = c) : (if h : p then a h else b h) = c := by
  by_cases h : p
  · rw [dif_pos h]; exact h1 h
  · rw [dif_neg h]; exact h2 h

theorem padded_apply (x : FVec Ideal S1x8192x16x64 .f32) (c : Fin 136) (i : Fin 64) (h : Fin 16) (d : Fin 64) :
    padded x (ix5 0 c i h d)
      = if hc : 512 ≤ 64 * c.val + i.val then x (ix4 0 ⟨64 * c.val + i.val - 512, by omega⟩ h d) else (0 : EReal) := by
  pointwise [padded]
  by_cases hc : 512 ≤ 64 * c.val + i.val
  · rw [dif_pos hc, dif_pos (by omega)]
    exact congrArg (fun q => x (ix4 0 q h d)) (Fin.ext (by dsimp only; omega))
  · rw [dif_neg hc, dif_neg (by omega)]
    simp [FloatOps.sitofp]

theorem window_apply (x : FVec Ideal S1x136x64x16x64 .f32) (c : Fin 128) (j : Fin 576) (h : Fin 16) (d : Fin 64) :
    window x (ix5 0 c j h d) = x (ix5 0 ⟨c.val + j.val / 64, by omega⟩ ⟨j.val % 64, by omega⟩ h d) := by
  pointwise [window]
  repeat' refine of_dite (fun _ => ?_) (fun _ => ?_)
  all_goals (refine congrArg x ?_; congr 1 <;> (refine Fin.ext ?_; dsimp only; omega))

/-- A chunk's window of padded rows: the row, where it is not an empty one. -/
theorem windows_apply (x : FVec Ideal S1x8192x16x64 .f32) (c : Fin 128) (j : Fin 576) (h : Fin 16) (d : Fin 64) :
    window (padded x) (ix5 0 c j h d)
      = if hc : 512 ≤ 64 * c.val + j.val then x (ix4 0 ⟨64 * c.val + j.val - 512, by omega⟩ h d) else (0 : EReal) := by
  rw [window_apply, padded_apply]
  by_cases hc : 512 ≤ 64 * c.val + j.val
  · rw [dif_pos hc, dif_pos (by dsimp only; omega)]
    exact congrArg (fun q => x (ix4 0 q h d)) (Fin.ext (by dsimp only; omega))
  · rw [dif_neg hc, dif_neg (by dsimp only; omega)]

theorem inSequence_apply (c : Fin 128) (j : Fin 576) :
    inSequence (ix2 c j) = 1 ↔ 512 ≤ 64 * c.val + j.val := by
  have hc := c.isLt
  have hj := j.isLt
  pointwise [inSequence]
  have e : (IntOp.addi (IntOp.muli (BitVec.ofNat 32 c.val) 64#32) (IntOp.subi (BitVec.ofNat 32 j.val) 512#32)).toNat
      = (64 * c.val + j.val + (4294967296 - 512)) % 4294967296 := by
    simp only [IntOp.addi, IntOp.muli, IntOp.subi, BitVec.toNat_add, BitVec.toNat_mul, BitVec.toNat_sub, BitVec.toNat_ofNat]
    omega
  generalize IntOp.addi (IntOp.muli (BitVec.ofNat 32 c.val) 64#32) (IntOp.subi (BitVec.ofNat 32 j.val) 512#32) = w at e
  have ew : (0 ≤ w.toInt) ↔ 512 ≤ 64 * c.val + j.val := by
    rw [BitVec.toInt_eq_toNat_cond]
    split <;> omega
  rw [← ew]
  simp only [IntOp.cmpi, BitVec.sle]
  by_cases h : 0 ≤ w.toInt <;> simp [h]

theorem negInf_eq : Ideal.ofBits FTy.f32 4286578688#32 = (⊥ : EReal) := by simp [Ideal.ofBits, Ideal.ieee]

theorem scores_apply (q : FVec Ideal S1x8192x16x64 .f32) (k : FVec Ideal S1x128x576x16x64 .f32) (b : FVec Ideal S16x64x576 .f32)
    (c : Fin 128) (h : Fin 16) (i : Fin 64) (j : Fin 576) :
    scores q k b (ix5 0 c h i j) = if 512 ≤ 64 * c.val + j.val then
      (∑ d : Fin 64, q (ix4 0 ⟨64 * c.val + i.val, by omega⟩ h d) * k (ix5 0 c j h d)) * Ideal.ofBits .f32 1040187392#32 + b (ix3 h i j)
      else (⊥ : EReal) := by
  have hc : ∀ hp, (⟨c.val * 64 + i.val, hp⟩ : Fin 8192) = ⟨64 * c.val + i.val, by omega⟩ := fun _ => Fin.ext (by dsimp only; omega)
  pointwise [scores]
  simp only [hc]
  unfold Scalar.select
  by_cases h : 512 ≤ 64 * c.val + j.val
  · rw [if_pos h, if_pos ((inSequence_apply c j).mpr h)]
  · rw [if_neg h, if_neg (fun e => h ((inSequence_apply c j).mp e))]
    exact negInf_eq

theorem hred : S1x128x16x64x576.Reduces [4] S1x128x16x64 := by decide

theorem red_apply (s : FVec Ideal S1x128x16x64x576 .f32) (z : FVec Ideal S_ .f32) (y : S1x128x16x64.Idx) :
    Host.reduce FloatOps.maximumf s z reducesTo_S1x128x16x64x576_S1x128x16x64_d4 h_S_ y
      = Finset.univ.fold FloatOps.maximumf (z (Shape.Idx.first h_S_)) (s ∘ hred.lift y) :=
  Host.reduce_eq_fold_single FloatOps.maximumf s z _ hred _ _

theorem lift_eq (c : Fin 128) (h : Fin 16) (i : Fin 64) (j : Fin 576) : hred.lift (ix4 0 c h i) j = ix5 0 c h i j := by
  funext a
  apply Fin.ext
  refine (Shape.Reduces.lift_val hred _ _ _).trans ?_
  match a with
  | ⟨0, _⟩ => rfl
  | ⟨1, _⟩ => rfl
  | ⟨2, _⟩ => rfl
  | ⟨3, _⟩ => rfl
  | ⟨4, _⟩ => rfl

theorem fold_top (f : Fin 576 → EReal) :
    (FloatOps.maximumf (Ideal.ofBits FTy.f32 4286578688#32 : Ideal .f32)
      (Finset.univ.fold FloatOps.maximumf (Ideal.ofBits FTy.f32 4286578688#32 : Ideal .f32) (f : Fin 576 → Ideal .f32)))
    = Finset.univ.fold max (⊥ : EReal) f := by
  rw [negInf_eq]
  exact bot_sup_eq _

theorem top_read (b : FVec Ideal S1x128x16x64 .f32) (y : S1x128x16x64.Idx) :
    maximumf (broadcastInDim S1x128x16x64 ![] bcast_S_S1x128x16x64 (constant (F := Ideal) S_ .f32 0xFF800000#32)) b y
      = FloatOps.maximumf (Ideal.ofBits FTy.f32 4286578688#32 : Ideal .f32) (b y) := rfl

theorem start_read : constant (F := Ideal) S_ .f32 0xFF800000#32 (Shape.Idx.first h_S_) = Ideal.ofBits FTy.f32 4286578688#32 := rfl

theorem red_row (s : FVec Ideal S1x128x16x64x576 .f32) (c : Fin 128) (h : Fin 16) (i : Fin 64) :
    Host.reduce FloatOps.maximumf s (constant (F := Ideal) S_ .f32 0xFF800000#32)
      reducesTo_S1x128x16x64x576_S1x128x16x64_d4 h_S_ (ix4 0 c h i)
      = (Finset.univ : Finset (Fin 576)).fold FloatOps.maximumf (Ideal.ofBits FTy.f32 4286578688#32 : Ideal .f32)
          (fun j : Fin 576 => s (ix5 0 c h i j)) := by
  rw [red_apply, start_read]
  have e : (s ∘ hred.lift (ix4 0 c h i)) = (fun j : Fin 576 => s (ix5 0 c h i j)) :=
    funext fun j => congrArg s (lift_eq c h i j)
  rw [e]
  rfl

theorem tops_apply (s : FVec Ideal S1x128x16x64x576 .f32) (c : Fin 128) (h : Fin 16) (i : Fin 64) :
    tops s (ix4 0 c h i) = (Finset.univ.fold max (⊥ : EReal) fun j => s (ix5 0 c h i j)) := by
  unfold tops
  rw [top_read, red_row]
  exact fold_top _

theorem exps_apply (s : FVec Ideal S1x128x16x64x576 .f32) (c : Fin 128) (h : Fin 16) (i : Fin 64) (j : Fin 576) :
    exps s (ix5 0 c h i j)
      = Ideal.exp (s (ix5 0 c h i j) - (Finset.univ.fold max (⊥ : EReal) fun j => s (ix5 0 c h i j))) := by
  pointwise [exps]
  rw [tops_apply]

theorem weights_apply (s : FVec Ideal S1x128x16x64x576 .f32) (c : Fin 128) (h : Fin 16) (i : Fin 64) (j : Fin 576) :
    weights s (ix5 0 c h i j) = Ideal.div (exps s (ix5 0 c h i j)) (∑ x, exps s (ix5 0 c h i x)) := by
  pointwise [weights]

theorem out_apply (X : FVec Ideal S8704x4096 .f32) (B : FVec Ideal S1x16x257 .f32) (r : Fin 8704) (l : Fin 1024) :
    out X B (ix2 r l) = if hr : r.val < 8192 then
      ∑ j, window (padded (headsV X)) (ix5 0 ⟨r.val / 64, by omega⟩ j ⟨l.val / 64, by omega⟩ ⟨l.val % 64, by omega⟩)
        * weights (scores (headsQ X) (window (padded (headsK X))) (biasRows B))
          (ix5 0 ⟨r.val / 64, by omega⟩ ⟨l.val / 64, by omega⟩ ⟨r.val % 64, by omega⟩ j)
      else (0 : EReal) := by
  pointwise [out]

/-- The gather of whole columns of a two-axis table at a two-axis array of column numbers, read at an index. -/
theorem gather_col_apply (x : S16x257.Idx → EReal) (idx : IVec S64x576x1 32) (h : Fin 16) (i : Fin 64) (j : Fin 576) :
    Host.gather gather_S16x257_S64x576x1_S16x64x576_0_1_n_n_1_2_161 x idx (ix3 h i j)
      = x (ix2 h ⟨min (idx (ix3 i j 0)).toInt.toNat 256, by omega⟩) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil]
    unfold GatherDims.start
    rw [dif_neg (by decide)]
    simp only [Nat.add_zero, Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x257_S64x576x1_S16x64x576_0_1_n_n_1_2_161.startIndexMap from List.mem_singleton.mpr rfl)]
    have hsi : gather_S16x257_S64x576x1_S16x64x576_0_1_n_n_1_2_161.siIdx (ix3 h i j)
        ⟨List.idxOf (1 : Fin 2) gather_S16x257_S64x576x1_S16x64x576_0_1_n_n_1_2_161.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

/-- The clipped distance, counted from 0. -/
theorem clipped_toInt (i : Fin 64) (j : Fin 576) :
    (clipped (ix2 i j)).toInt = min 128 (max (-128) ((512 : Int) + i.val - j.val)) + 128 := by
  have hi := i.isLt
  have hj := j.isLt
  pointwise [clipped]
  have e : IntOp.subi (BitVec.ofNat 32 i.val) (IntOp.subi (BitVec.ofNat 32 j.val) 512#32)
      = IntOp.subi (BitVec.ofNat 32 (i.val + 575 - j.val)) 63#32 := by
    unfold IntOp.subi
    bv_omega
  rw [e]
  have hn : i.val + 575 - j.val < 640 := by omega
  have key := (show ∀ n : Fin 640, (IntOp.addi (IntOp.minsi 128#32 (IntOp.maxsi 4294967168#32 (IntOp.subi (BitVec.ofNat 32 n.val) 63#32))) 128#32).toInt
    = min 128 (max (-128) ((n.val : Int) - 63)) + 128 by decide +kernel) ⟨_, hn⟩
  refine key.trans ?_
  dsimp only
  omega

/-- The wrap of a negative index, which a clipped distance does not meet. -/
theorem wrapped_apply (w : IVec S64x576 32) (i : Fin 64) (j : Fin 576) :
    broadcastInDim S64x576x1 ![0, 1] bcast_S64x576_S64x576x1_0_1 (select (cmpi .slt w
      (broadcastInDim S64x576 ![] bcast_S_S64x576 (constantI S_ 32 0#32))) (addi w
      (broadcastInDim S64x576 ![] bcast_S_S64x576 (constantI S_ 32 257#32))) w) (ix3 i j 0)
      = Scalar.select (IntOp.cmpi .slt (w (ix2 i j)) 0#32) (IntOp.addi (w (ix2 i j)) 257#32) (w (ix2 i j)) := by
  pointwise

theorem select_nonneg (w : BitVec 32) (h : 0 ≤ w.toInt) (x y : BitVec 32) : Scalar.select (IntOp.cmpi .slt w 0#32) x y = y := by
  unfold Scalar.select
  rw [if_neg]
  simp only [IntOp.cmpi, BitVec.slt]
  rw [decide_eq_false (by simpa using h)]
  decide

theorem biasRows_apply (B : FVec Ideal S1x16x257 .f32) (h : Fin 16) (i : Fin 64) (j : Fin 576) :
    biasRows B (ix3 h i j) = B (ix3 0 h ⟨(min 128 (max (-128) ((512 : Int) + i.val - j.val)) + 128).toNat, by omega⟩) := by
  have ec := clipped_toInt i j
  unfold biasRows
  refine (gather_col_apply _ _ h i j).trans ?_
  have e2 : ∀ (x : S16x257.Idx → EReal) (u v : Fin 257), u = v → x (ix2 h u) = x (ix2 h v) := fun _ _ _ e => by rw [e]
  refine (e2 _ _ ⟨(min 128 (max (-128) ((512 : Int) + i.val - j.val)) + 128).toNat, by omega⟩ (Fin.ext ?_)).trans ?_
  · dsimp only
    rw [wrapped_apply, select_nonneg _ (by rw [ec]; omega), ec]
    omega
  · pointwise

end Cert.ReferenceIdeal.Band
end
-- ==== Proof.BandSoftmax.lean ====
module

public import proofs.«01_k».proof.Proof.BandTile

/-!
Softmax attention over scores that are real or −∞: dividing the weighted sum once is weighting by the quotients.
-/
@[expose] public section

noncomputable section

namespace Cert.KernelIdeal.Band

open Idealize.ShloMosaic

/-- The extended real is a real. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem IsReal.sum {ι : Type} (t : Finset ι) (f : ι → EReal) (h : ∀ i, IsReal (f i)) : IsReal (∑ i ∈ t, f i) := by
  choose g hg using h
  exact ⟨∑ i ∈ t, g i, by rw [coe_sum]; exact Finset.sum_congr rfl fun i _ => hg i⟩

/-- A factor that is a nonnegative real goes into a sum, whatever the terms. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (EReal.coe_nonneg.mpr hr) (EReal.coe_ne_top r)]

variable (s v : Fin 576 → EReal) (hs : ∀ j, s j = ⊥ ∨ IsReal (s j)) (j0 : Fin 576) (h0 : IsReal (s j0))
include hs h0

/-- The greatest score is a real, one score being one. -/
theorem top_real : IsReal (top s) := by
  have h1 : top s ≠ ⊥ := by
    obtain ⟨r, hr⟩ := h0
    have : s j0 ≤ top s := (Finset.le_fold_max _).mpr (Or.inr ⟨j0, Finset.mem_univ _, le_refl _⟩)
    intro e
    rw [e, hr] at this
    exact EReal.coe_ne_bot r (le_bot_iff.mp this)
  have h2 : top s ≠ ⊤ := by
    have : top s < ⊤ := (Finset.fold_max_lt _).mpr ⟨bot_lt_top, fun j _ => by
      rcases hs j with e | ⟨r, e⟩
      · rw [e]; exact bot_lt_top
      · rw [e]; exact EReal.coe_lt_top r⟩
    exact this.ne
  exact ⟨(top s).toReal, (EReal.coe_toReal h2 h1).symm⟩

/-- The exponentials are nonnegative reals, and one is positive. -/
theorem exps_real : ∃ e : Fin 576 → ℝ, (∀ j, Ideal.exp (s j - top s) = e j) ∧ (∀ j, 0 ≤ e j) ∧ 0 < e j0 := by
  obtain ⟨M, hM⟩ := top_real s hs j0 h0
  have h : ∀ j, ∃ e : ℝ, Ideal.exp (s j - top s) = e ∧ 0 ≤ e ∧ (IsReal (s j) → 0 < e) := by
    intro j
    rw [hM]
    rcases hs j with e | ⟨r, e⟩
    · refine ⟨0, ?_, le_refl _, ?_⟩
      · rw [e, EReal.bot_sub, Ideal.exp_bot, EReal.coe_zero]
      · rintro ⟨r, hr⟩
        exact absurd (hr.symm.trans e) (EReal.coe_ne_bot r)
    · refine ⟨Real.exp (r - M), ?_, (Real.exp_pos _).le, fun _ => Real.exp_pos _⟩
      rw [e, ← EReal.coe_sub, Ideal.exp_coe]
  choose e he using h
  exact ⟨e, fun j => (he j).1, fun j => (he j).2.1, (he j0).2.2 h0⟩

/-- One quotient of the weighted sum is the sum weighted by the quotients. -/
theorem attn_weights : attn s v
    = ∑ j, v j * Ideal.div (Ideal.exp (s j - top s)) (∑ x, Ideal.exp (s x - top s)) := by
  obtain ⟨e, he, hn, hp⟩ := exps_real s hs j0 h0
  unfold attn
  simp only [he]
  have hl : 0 < ∑ j, e j := lt_of_lt_of_le hp (Finset.single_le_sum (fun j _ => hn j) (Finset.mem_univ j0))
  rw [← coe_sum, Ideal.div_coe hl.ne', sum_mul_real _ _ _ (by positivity)]
  refine Finset.sum_congr rfl fun j _ => ?_
  rw [Ideal.div_coe hl.ne', mul_comm (e j : EReal) (v j), mul_assoc]

end Cert.KernelIdeal.Band
end
-- ==== Proof.BandFinite.lean ====
module

public import proofs.«01_k».proof.Pre_finite
public import Idealize.ShloMosaic.Lib.Pointwise
public import Idealize.ShloMosaic.Lib.ReduceAll

/-!
What the precondition says: every query and key entry, and every entry of the bias table, is a real.
-/
@[expose] public section

noncomputable section

namespace Cert.Pre_finite.Band

open Idealize.ShloMosaic Cert.Pre_finite Cert.Pre_finite.Facts

/-- The shape relations the predicate states. -/
theorem facts : Cert.Pre_finite.Facts where
  slices_S8704x4096_S8704x2048_0_0 := by decide
  bcast_S_S8704x2048 := by decide
  reducesTo_S8704x2048_S_d0_1 := by decide
  h_S_ := by decide
  bcast_S_S1x16x257 := by decide
  reducesTo_S1x16x257_S_d0_1_2 := by decide

/-- An absolute value below +∞ is a real's. -/
theorem real_of_lt (x : EReal) (h : max x (-x) < ⊤) : ∃ r : ℝ, x = r := by
  induction x with
  | bot => exact absurd h (by simp)
  | coe r => exact ⟨r, rfl⟩
  | top => exact absurd h (by simp)

theorem inf_eq : Ideal.ofBits FTy.f32 2139095040#32 = (⊤ : EReal) := by simp [Ideal.ofBits, Ideal.ieee]

/-- One comparison of the predicate. -/
theorem real_of_cmp (x : EReal)
    (h : FloatOps.cmpf .olt (FloatOps.absf (x : Ideal .f32)) (Ideal.ofBits FTy.f32 2139095040#32 : Ideal .f32) = 1#1) : ∃ r : ℝ, x = r := by
  rw [inf_eq] at h
  refine real_of_lt x ?_
  by_contra hn
  exact absurd h (by
    show ¬ (BitVec.ofBool (decide (max x (-x) < ⊤)) = 1#1)
    rw [decide_eq_false hn]; decide)

variable [Cert.Pre_finite.Facts]

/-- The predicate holds: queries, keys and biases are reals. -/
theorem of_pre (X : FVec Ideal S8704x4096 .f32) (B : FVec Ideal S1x16x257 .f32) (h : fn X B = fun _ => 1#1) :
    (∀ (r : Fin 8704) (k : Fin 2048), ∃ x : ℝ, X (ix2 r ⟨k.val, by omega⟩) = (x : EReal))
    ∧ ∀ (h : Fin 16) (b : Fin 257), ∃ x : ℝ, B (ix3 0 h b) = (x : EReal) := by
  have h1 := congrFun h ix0
  unfold fn at h1
  dsimp only at h1
  obtain ⟨ha, hb⟩ := (show ∀ c d : BitVec 1, IntOp.andi c d = 1#1 → c = 1#1 ∧ d = 1#1 by decide) _ _ h1
  constructor
  · intro r k
    have := Host.reduce_andi_all _ _ _ _ ix0 ha (ix2 r k)
    have e := real_of_cmp _ this
    rw [show (extractStridedSlice S8704x2048 ![0, 0] X slices_S8704x4096_S8704x2048_0_0) (ix2 r k) = X (ix2 r ⟨k.val, by omega⟩) by pointwise] at e
    exact e
  · intro h b
    exact real_of_cmp _ (Host.reduce_andi_all _ _ _ _ ix0 hb (ix3 0 h b))

end Cert.Pre_finite.Band
end
-- ==== Proof.BandEq.lean ====
module

public import proofs.«01_k».proof.Proof.BandArray
public import proofs.«01_k».proof.Proof.BandRef
public import proofs.«01_k».proof.Proof.BandSoftmax
public import proofs.«01_k».proof.Proof.BandFinite

/-!
The band attention: the kernel's result is the reference's, where queries, keys and biases are reals.
-/
@[expose] public section

set_option maxRecDepth 16384

noncomputable section

namespace Cert.KernelIdeal.Band

open Idealize.ShloMosaic
open Cert.ReferenceIdeal.Band (headsQ headsK headsV padded window biasRows scores exps weights out)

variable (X : FVec Ideal S8704x4096 .f32) (B : FVec Ideal S1x16x257 .f32)

/-- The reference's scores are the kernel's. -/
theorem scores_eq (r : Fin 8704) (l : Fin 1024) (hr : r.val < 8192) (j : Fin 576) :
    scores (headsQ X) (window (padded (headsK X))) (biasRows B)
        (ix5 0 ⟨r.val / 64, by omega⟩ ⟨l.val / 64, by omega⟩ ⟨r.val % 64, by omega⟩ j) = bandScore X B r.val l.val j := by
  rw [Cert.ReferenceIdeal.Band.scores_apply]
  unfold bandScore
  dsimp only
  by_cases hj : 512 ≤ 64 * (r.val / 64) + j.val
  · rw [if_pos hj, if_pos hj, Cert.ReferenceIdeal.Band.biasRows_apply]
    refine congrArg₂ (· + ·) (congrArg (· * eighth) (Finset.sum_congr rfl fun d _ => ?_)) ?_
    · rw [Cert.ReferenceIdeal.Band.headsQ_apply, Cert.ReferenceIdeal.Band.windows_apply, dif_pos hj,
        Cert.ReferenceIdeal.Band.headsK_apply, at2_eq X, at2_eq X]
      dsimp only
      rw [show 64 * (r.val / 64) + r.val % 64 = r.val by omega, show l.val / 64 * 64 + d.val = 64 * (l.val / 64) + d.val by omega]
    · rw [at3_eq B]
      rfl
  · rw [if_neg hj, if_neg hj]

theorem eighth_real : IsReal eighth := by
  unfold IsReal eighth
  simp only [Ideal.ofBits, Ideal.ieee]
  rw [if_neg (by decide), if_neg (by decide)]
  exact ⟨_, rfl⟩

/-- A masked or a real score, and the query's own key is not masked. -/
theorem score_real (hX : ∀ (r : Fin 8704) (k : Fin 2048), IsReal (X (ix2 r ⟨k.val, by omega⟩)))
    (hB : ∀ (h : Fin 16) (b : Fin 257), IsReal (B (ix3 0 h b))) (r : Fin 8704) (l : Fin 1024) (hr : r.val < 8192) (j : Fin 576)
    (hj : 512 ≤ 64 * (r.val / 64) + j.val) : IsReal (bandScore X B r.val l.val j) := by
  have hx : ∀ a b : ℕ, a < 8704 → b < 2048 → IsReal (at2 X a b) := fun a b ha hb => by
    have := hX ⟨a, ha⟩ ⟨b, hb⟩
    rw [at2_eq X] at this
    exact this
  unfold bandScore
  rw [if_pos hj]
  refine IsReal.add (IsReal.mul (IsReal.sum _ _ fun d => IsReal.mul (hx _ _ ?_ ?_) (hx _ _ ?_ ?_)) ?_) ?_
  · omega
  · omega
  · omega
  · omega
  · exact eighth_real
  · have := hB ⟨l.val / 64, by omega⟩ ⟨biasCol (r.val % 64) j.val, biasCol_lt _ _⟩
    rw [at3_eq B] at this
    exact this

/-- One entry of the two results. -/
theorem entry_eq (hX : ∀ (r : Fin 8704) (k : Fin 2048), IsReal (X (ix2 r ⟨k.val, by omega⟩)))
    (hB : ∀ (h : Fin 16) (b : Fin 257), IsReal (B (ix3 0 h b))) (r : Fin 8704) (l : Fin 1024) :
    out X B (ix2 r l) = bandOut X B r.val l.val := by
  rw [Cert.ReferenceIdeal.Band.out_apply]
  unfold bandOut
  by_cases hr : r.val < 8192
  · rw [dif_pos hr, if_pos hr]
    rw [attn_congr _ _ (fun j => window (padded (headsV X))
      (ix5 0 ⟨r.val / 64, by omega⟩ j ⟨l.val / 64, by omega⟩ ⟨l.val % 64, by omega⟩))]
    · rw [attn_weights (bandScore X B r.val l.val) _ ?_ ⟨512, by omega⟩ ?_]
      · refine Finset.sum_congr rfl fun j _ => congrArg _ ?_
        rw [Cert.ReferenceIdeal.Band.weights_apply]
        simp only [Cert.ReferenceIdeal.Band.exps_apply, scores_eq X B r l hr]
        rfl
      · intro j
        by_cases hj : 512 ≤ 64 * (r.val / 64) + j.val
        · exact Or.inr (score_real X B hX hB r l hr j hj)
        · left; unfold bandScore; rw [if_neg hj]
      · exact score_real X B hX hB r l hr _ (Nat.le_add_left _ _)
    · intro j
      by_cases hj : 512 ≤ 64 * (r.val / 64) + j.val
      · right
        rw [Cert.ReferenceIdeal.Band.windows_apply, dif_pos hj, Cert.ReferenceIdeal.Band.headsV_apply, at2_eq X]
        dsimp only
        rw [show l.val / 64 * 64 + l.val % 64 = l.val by omega]
      · left; unfold bandScore; rw [if_neg hj]
  · rw [dif_neg hr, if_neg hr]

end Cert.KernelIdeal.Band
end
-- ==== Proof.Swiglu.lean ====
module

public import Idealize.ShloMosaic.Lib.Pointwise

/-!
The numbers of a SwiGLU feed-forward layer over the extended reals: a row scaled by the reciprocal root of its mean square,
and one hidden unit, `a * σ(a) * b` for the row's products `a`, `b` with the unit's two columns.
-/
@[expose] public section

noncomputable section

namespace Cert.Swiglu

open Idealize.ShloMosaic

/-- Lane `k` of a row of 2048 entries, normalised and scaled by the gains. -/
def normed (y g : Fin 2048 → EReal) (k : Fin 2048) : EReal :=
  y k * Ideal.rsqrt (Ideal.div (∑ l, y l * y l) (Ideal.ofBits .f32 1157627904#32) + Ideal.ofBits .f32 897988541#32) * g k

/-- One hidden unit of a row. -/
def unit (h wg wu : Fin 2048 → EReal) : EReal :=
  (∑ k, h k * wg k) * Ideal.logistic (∑ k, h k * wg k) * ∑ k, h k * wu k

/-- Lane of the feed-forward of a row with one expert's projections: the sum over its 5632 hidden units, `wd` the
    units' entries of the down projection. -/
def expertLane (h : Fin 2048 → EReal) (wg wu : Fin 2048 → Fin 5632 → EReal) (wd : Fin 5632 → EReal) : EReal :=
  ∑ l, unit h (fun k => wg k l) (fun k => wu k l) * wd l

/-- The grouped feed-forward at row `r` and lane `k`. The rows lie in tiles of 1536; tile `t` has expert `E t` and
    its first `N t` rows are used, in blocks of 256. A row of a used block gets its tile's expert's feed-forward,
    any other row zero. -/
def groupedOut (E N : Fin 19 → BitVec 32) (X : Fin 29184 → Fin 2048 → EReal) (Wg Wu : Fin 8 → Fin 2048 → Fin 5632 → EReal)
    (Wd : Fin 8 → Fin 5632 → Fin 2048 → EReal) (r : Fin 29184) (k : Fin 2048) : EReal :=
  if ((r.val % 1536 / 256 * 256 : ℕ) : ℤ) < (N ⟨r.val / 1536, by omega⟩).toInt then
    expertLane (X r) (Wg ⟨(E ⟨r.val / 1536, by omega⟩).toNat % 8, Nat.mod_lt _ (by decide)⟩)
      (Wu ⟨(E ⟨r.val / 1536, by omega⟩).toNat % 8, Nat.mod_lt _ (by decide)⟩)
      (fun l => Wd ⟨(E ⟨r.val / 1536, by omega⟩).toNat % 8, Nat.mod_lt _ (by decide)⟩ l k)
  else 0

/-- A row, normalised and scaled by the gains, times a weight's column. -/
def projected (y g w : Fin 2048 → EReal) : EReal := ∑ k, normed y g k * w k

/-- Row `r` of the 8192 rows of one input followed by the 32 groups of 16 rows of another. -/
def stacked (X : Fin 8192 → Fin 2048 → EReal) (X' : Fin 32 → Fin 16 → Fin 2048 → EReal) (r : Fin 8704) : Fin 2048 → EReal :=
  if h : r.val < 8192 then X ⟨r.val, h⟩ else X' ⟨(r.val - 8192) / 16, by omega⟩ ⟨(r.val - 8192) % 16, by omega⟩

theorem stacked_fst (X : Fin 8192 → Fin 2048 → EReal) (X' : Fin 32 → Fin 16 → Fin 2048 → EReal) (r : Fin 8704) (n : Fin 8192)
    (h : r.val = n.val) : stacked X X' r = X n := by
  unfold stacked
  rw [dif_pos (by omega)]
  exact congrArg X (Fin.ext h)

theorem stacked_snd (X : Fin 8192 → Fin 2048 → EReal) (X' : Fin 32 → Fin 16 → Fin 2048 → EReal) (r : Fin 8704) (b : Fin 32) (s : Fin 16)
    (h : r.val = 8192 + (b.val * 16 + s.val)) : stacked X X' r = X' b s := by
  unfold stacked
  rw [dif_neg (by omega)]
  exact congrArg₂ X' (Fin.ext (by show (r.val - 8192) / 16 = b.val; omega)) (Fin.ext (by show (r.val - 8192) % 16 = s.val; omega))

end Cert.Swiglu
end
-- ==== Proof.FfnTile.lean ====
module

public import proofs.«01_k».proof.Proof.Swiglu
public import proofs.«01_k».proof.Proof.Gen.FfnIdeal.Skeleton

/-!
What the feed-forward kernel's stored tiles are over the extended reals, entry by entry.
-/
@[expose] public section

set_option maxRecDepth 16384

noncomputable section

namespace Cert.FfnIdeal.Ffn

open Cert.FfnIdeal Cert.FfnIdeal.Gen Cert.Swiglu Idealize.ShloMosaic Idealize.ShloMosaic.TcCoe Idealize.SL.Sem

/-- The normalised rows, as the kernel keeps them. -/
theorem rows_apply (y : Vec Ideal S512x2048 .f32) (g : Vec Ideal S1x2048 .f32) (i : Fin 512) (k : Fin 2048) :
    k0_pay1 y g (ix2 i k) = normed (fun k => y (ix2 i k)) (fun k => g (ix2 0 k)) k := by
  pointwise [k0_pay1]
  rfl

/-- The accumulator starts at zero. -/
theorem start_apply (i : Fin 512) (k : Fin 2048) : k0_pay2 (F := Ideal) (ix2 i k) = (0 : EReal) := by
  pointwise [k0_pay2]

/-- One point adds the contribution of its 512 hidden units. -/
theorem add_apply (acc : Vec Ideal S512x2048 .f32) (h : Vec Ideal S512x2048 .bf16) (wg wu : Vec Ideal S2048x512 .bf16)
    (wd : Vec Ideal S512x2048 .bf16) (i : Fin 512) (k : Fin 2048) :
    k0_pay3 acc h wg wu wd (ix2 i k) = acc (ix2 i k)
      + ∑ s : Fin 512, unit (fun l => h (ix2 i l)) (fun l => wg (ix2 l s)) (fun l => wu (ix2 l s)) * wd (ix2 s k) := by
  pointwise [k0_pay3]
  rfl

/-- The last point adds the rows themselves. -/
theorem last_apply (y acc : Vec Ideal S512x2048 .f32) (i : Fin 512) (k : Fin 2048) :
    k0_pay4 y acc (ix2 i k) = y (ix2 i k) + acc (ix2 i k) := by
  pointwise [k0_pay4]

end Cert.FfnIdeal.Ffn
end
-- ==== Proof.FfnArray.lean ====
module

public import proofs.«01_k».proof.Proof.FfnTile
public import proofs.«01_k».proof.Proof.Gen.FfnIdeal.Value
public import Idealize.ShloMosaic.Lib.Pipeline.ValueKit
public import Idealize.ShloMosaic.Lib.StableHlo.ReadAt

/-!
What the feed-forward kernel's result array holds: at row `r` and lane `k` the row's entry plus the sum, over all 5632 hidden
units, of the unit of the normalised row times its entry of the down projection.
-/
@[expose] public section

set_option maxRecDepth 16384

noncomputable section

namespace Cert.FfnIdeal.Ffn

open Cert.FfnIdeal Cert.FfnIdeal.Gen Cert.Swiglu Idealize.ShloMosaic Idealize.ShloMosaic.TcCoe Idealize.SL.Sem

/-- The result at row `r` and lane `k`. -/
def ffnOut (Y : S8704x2048.Idx → EReal) (G : S2x2048.Idx → EReal) (Wg Wu : S1x2048x5632.Idx → EReal)
    (Wd : S1x5632x2048.Idx → EReal) (r : Fin 8704) (k : Fin 2048) : EReal :=
  Y (ix2 r k) + ∑ l : Fin 5632, unit (normed (fun k => Y (ix2 r k)) (fun k => G (ix2 0 k)))
    (fun k => Wg (ix3 0 k l)) (fun k => Wu (ix3 0 k l)) * Wd (ix3 0 l k)

variable (m : (ℓ : Loc nD τ sig) → Buf (Elt Ideal) ℓ) (c : Dev nD)

/-- The rows, as launched. -/
abbrev argY : S8704x2048.Idx → EReal := m (c, Proc.tc.devRef main_arg0)
/-- The gains of the two layers. -/
abbrev argG : S2x2048.Idx → EReal := m (c, Proc.tc.devRef main_arg1)
/-- The gate projection. -/
abbrev argWg : S1x2048x5632.Idx → EReal := m (c, Proc.tc.devRef main_arg2)
/-- The up projection. -/
abbrev argWu : S1x2048x5632.Idx → EReal := m (c, Proc.tc.devRef main_arg3)
/-- The down projection. -/
abbrev argWd : S1x5632x2048.Idx → EReal := m (c, Proc.tc.devRef main_arg4)

theorem gains_entry (k : Fin 2048) : (V m c main_v8 : FVec Ideal S1x2048 .f32) (ix2 0 k) = argG m c (ix2 0 k) := by
  unfold V
  simp only [hostOps0]
  after_reads_simp
  clean_types
  pointwise

theorem gate_entry (k : Fin 2048) (l : Fin 5632) :
    (V m c main_v3 : FVec Ideal S2048x5632 .bf16) (ix2 k l) = argWg m c (ix3 0 k l) := by
  unfold V
  simp only [hostOps0]
  after_reads_simp
  clean_types
  pointwise

theorem up_entry (k : Fin 2048) (l : Fin 5632) :
    (V m c main_v5 : FVec Ideal S2048x5632 .bf16) (ix2 k l) = argWu m c (ix3 0 k l) := by
  unfold V
  simp only [hostOps0]
  after_reads_simp
  clean_types
  pointwise

theorem down_entry (l : Fin 5632) (k : Fin 2048) :
    (V m c main_v7 : FVec Ideal S5632x2048 .bf16) (ix2 l k) = argWd m c (ix3 0 l k) := by
  unfold V
  simp only [hostOps0]
  after_reads_simp
  clean_types
  pointwise

theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 11 := by decide +kernel
theorem index3 : ∀ t : Fin grid0.N, win0_3.index t 0 = 0 ∧ win0_3.index t 1 = t.val % 11 := by decide +kernel
theorem index4 : ∀ t : Fin grid0.N, win0_4.index t 0 = t.val % 11 ∧ win0_4.index t 1 = 0 := by decide +kernel
theorem index5 : ∀ t : Fin grid0.N, win0_5.index t 0 = t.val / 11 ∧ win0_5.index t 1 = 0 := by decide +kernel

theorem lt187 (t : Fin cfg0.N) : t.val < 187 := lt_of_lt_of_eq t.isLt N_0

/-- A block of the rows. -/
theorem blockY (t : Fin cfg0.N) (i : Fin 512) (k : Fin 2048) :
    (iblk m c 0 t : Vec Ideal S512x2048 .f32) (ix2 i k) = argY m c (ix2 ⟨t.val / 11 * 512 + i.val, by have := lt187 t; omega⟩ k) := by
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = t.val / 11 * 512 + i.val; rw [(index0 t).1]; omega
  | ⟨1, _⟩ => show win0_0.index t 1 * 2048 + 1 * k.val = k.val; rw [(index0 t).2]; omega

/-- The gains' block. -/
theorem blockG (t : Fin cfg0.N) (k : Fin 2048) :
    (iblk m c 1 t : Vec Ideal S1x2048 .f32) (ix2 0 k) = argG m c (ix2 0 k) := by
  rw [← gains_entry]
  unfold iblk
  rw [View.read_apply]
  show V m c main_v8 _ = V m c main_v8 _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

/-- A block of the gate projection. -/
theorem blockWg (t : Fin cfg0.N) (k : Fin 2048) (s : Fin 512) :
    (iblk m c 2 t : Vec Ideal S2048x512 .bf16) (ix2 k s) = argWg m c (ix3 0 k ⟨t.val % 11 * 512 + s.val, by omega⟩) := by
  rw [← gate_entry]
  unfold iblk
  rw [View.read_apply]
  show V m c main_v3 _ = V m c main_v3 _
  congr 1
  funext a
  apply Fin.ext
  match a with
  | ⟨0, _⟩ => show win0_2.index t 0 * 2048 + 1 * k.val = k.val; rw [(index2 t).1]; omega
  | ⟨1, _⟩ => show win0_2.index t 1 * 512 + 1 * s.val = t.val % 11 * 512 + s.val; rw [(index2 t).2]; omega

/-- A block of the up projection. -/
theorem blockWu (t : Fin cfg0.N) (k : Fin 2048) (s : Fin 512) :
    (iblk m c 3 t : Vec Ideal S2048x512 .bf16) (ix2 k s) = argWu m c (ix3 0 k ⟨t.val % 11 * 512 + s.val, by omega⟩) := by
  rw [← up_entry]
  unfold iblk
  rw [View.read_apply]
  show V m c main_v5 _ = V m c main_v5 _
  congr 1
  funext a
  apply Fin.ext
  match a with
  | ⟨0, _⟩ => show win0_3.index t 0 * 2048 + 1 * k.val = k.val; rw [(index3 t).1]; omega
  | ⟨1, _⟩ => show win0_3.index t 1 * 512 + 1 * s.val = t.val % 11 * 512 + s.val; rw [(index3 t).2]; omega

/-- A block of the down projection. -/
theorem blockWd (t : Fin cfg0.N) (s : Fin 512) (k : Fin 2048) :
    (iblk m c 4 t : Vec Ideal S512x2048 .bf16) (ix2 s k) = argWd m c (ix3 0 ⟨t.val % 11 * 512 + s.val, by omega⟩ k) := by
  rw [← down_entry]
  unfold iblk
  rw [View.read_apply]
  show V m c main_v7 _ = V m c main_v7 _
  congr 1
  funext a
  apply Fin.ext
  match a with
  | ⟨0, _⟩ => show win0_4.index t 0 * 512 + 1 * s.val = t.val % 11 * 512 + s.val; rw [(index4 t).1]; omega
  | ⟨1, _⟩ => show win0_4.index t 1 * 2048 + 1 * k.val = k.val; rw [(index4 t).2]; omega

/-- The normalised row that a point works on, at row `i` of its block. -/
def rowH (t : Fin cfg0.N) (i : Fin 512) : Fin 2048 → EReal :=
  normed (fun k => argY m c (ix2 ⟨t.val / 11 * 512 + i.val, by have := lt187 t; omega⟩ k)) (fun k => argG m c (ix2 0 k))

theorem rowH_eq (t : Fin cfg0.N) (i : Fin 512) (k : Fin 2048) :
    k0_pay1 (iblk m c 0 t : Vec Ideal S512x2048 .f32) (iblk m c 1 t : Vec Ideal S1x2048 .f32) (ix2 i k) = rowH m c t i k := by
  rw [rows_apply]
  simp only [blockY, blockG]
  rfl

/-- After every point the scratch holds the normalised rows of the point's row block. -/
theorem scratch_rows : ∀ (n : ℕ) (h : n < cfg0.N) (i : Fin 512) (k : Fin 2048),
    (outsAt0 m c n h).2.1 (ix2 i k) = rowH m c ⟨n, h⟩ i k := by
  intro n
  induction n with
  | zero =>
    intro h i k
    rw [outsAt0_A m c ⟨0, h⟩ (Nat.zero_mod 11) (by dsimp only; omega)]
    frame_out
    exact rowH_eq m c ⟨0, h⟩ i k
  | succ n ih =>
    intro h i k
    by_cases h0 : (n + 1) % 11 = 0
    · rw [outsAt0_A m c ⟨n + 1, h⟩ h0 (by dsimp only; omega)]
      frame_out
      exact rowH_eq m c ⟨n + 1, h⟩ i k
    · have e : rowH m c ⟨n + 1, h⟩ i k = rowH m c ⟨n, by omega⟩ i k := by
        unfold rowH
        have : (n + 1) / 11 = n / 11 := by omega
        simp only [this]
      rw [e, ← ih (by omega) i k]
      by_cases h1 : (n + 1) % 11 = 10
      · rw [outsAt0_C m c ⟨n + 1, h⟩ h0 h1]
        frame_out
        rfl
      · rw [outsAt0_B m c ⟨n + 1, h⟩ h0 h1]
        frame_out
        rfl

/-- What a point adds to the accumulator. -/
def part (t : Fin cfg0.N) (j : S512x2048.Idx) : EReal :=
  ∑ s : Fin 512, unit (rowH m c t (j 0)) (fun k => argWg m c (ix3 0 k ⟨t.val % 11 * 512 + s.val, by omega⟩))
    (fun k => argWu m c (ix3 0 k ⟨t.val % 11 * 512 + s.val, by omega⟩)) * argWd m c (ix3 0 ⟨t.val % 11 * 512 + s.val, by omega⟩ (j 1))

theorem part_eq (t : Fin cfg0.N) (acc : Vec Ideal S512x2048 .f32) (h : Vec Ideal S512x2048 .bf16)
    (hh : ∀ i k, h (ix2 i k) = rowH m c t i k) (j : S512x2048.Idx) :
    k0_pay3 acc h (iblk m c 2 t : Vec Ideal S2048x512 .bf16) (iblk m c 3 t : Vec Ideal S2048x512 .bf16)
      (iblk m c 4 t : Vec Ideal S512x2048 .bf16) j = acc j + part m c t j := by
  idx_vars j
  rw [add_apply]
  simp only [hh, blockWg, blockWu, blockWd]
  rfl

theorem acc_reset (t : Fin cfg0.N) (h0 : t.val % 11 = 0) (j : S512x2048.Idx) :
    (outsAt0 m c t.val t.isLt).2.2 j = (fun _ => (0 : EReal)) j + part m c t j := by
  rw [outsAt0_A m c t h0 (by omega)]
  frame_out
  rw [part_eq m c t _ _ (rowH_eq m c t)]
  idx_vars j
  rw [start_apply]

theorem acc_step (t : Fin cfg0.N) (h0 : ¬t.val % 11 = 0) (j : S512x2048.Idx) :
    (outsAt0 m c t.val t.isLt).2.2 j
      = (outsAt0 m c (t.val - 1) (Nat.lt_of_le_of_lt (Nat.sub_le _ _) t.isLt)).2.2 j + part m c t j := by
  have hh : ∀ i k, (outsAt0 m c (t.val - 1) (Nat.lt_of_le_of_lt (Nat.sub_le _ _) t.isLt)).2.1 (ix2 i k) = rowH m c t i k := by
    intro i k
    rw [scratch_rows]
    unfold rowH
    have : (t.val - 1) / 11 = t.val / 11 := by omega
    simp only [this]
  by_cases h1 : t.val % 11 = 10
  · rw [outsAt0_C m c t h0 h1]
    frame_out
    rw [Memref.IsWhole.read_unread (m := Memref.whole cc0_scratch0), Memref.IsWhole.read_unread (m := Memref.whole cc0_scratch1)]
    exact part_eq m c t _ _ hh j
  · rw [outsAt0_B m c t h0 h1]
    frame_out
    rw [Memref.IsWhole.read_unread (m := Memref.whole cc0_scratch0), Memref.IsWhole.read_unread (m := Memref.whole cc0_scratch1)]
    exact part_eq m c t _ _ hh j

/-- The accumulator at a row block's last point: the sum over all hidden units. -/
theorem acc_last (t : Fin cfg0.N) (h1 : t.val % 11 = 10) (i : Fin 512) (k : Fin 2048) :
    (outsAt0 m c t.val t.isLt).2.2 (ix2 i k)
      = ∑ l : Fin 5632, unit (rowH m c t i) (fun k => argWg m c (ix3 0 k l)) (fun k => argWu m c (ix3 0 k l)) * argWd m c (ix3 0 l k) := by
  rw [Pipeline.eq_sum_fin_of_reset_step_apply_of_flush (fun n h => (outsAt0 m c n h).2.2) 11 (fun _ => (0 : EReal)) (part m c)
    (acc_reset m c) (acc_step m c) t h1 (ix2 i k), zero_add]
  refine Fin.sum_mul_add_congr fun s l hl => ?_
  have hs := s.isLt
  have e1 : (11 * (t.val / 11) + s.val) % 11 = s.val := by omega
  have e2 : (11 * (t.val / 11) + s.val) / 11 = t.val / 11 := by omega
  unfold rowH
  simp only [e1, e2]
  rfl

/-- What a row block's last point leaves for the result. -/
theorem out_last (t : Fin cfg0.N) (h1 : t.val % 11 = 10) (i : Fin 512) (k : Fin 2048) :
    (outsAt0 m c t.val t.isLt).1 (ix2 i k)
      = ffnOut (argY m c) (argG m c) (argWg m c) (argWu m c) (argWd m c) ⟨t.val / 11 * 512 + i.val, by have := lt187 t; omega⟩ k := by
  have e : (outsAt0 m c t.val t.isLt).1 (ix2 i k)
      = (id ((iblk m c 0 t : Vec Ideal S512x2048 .f32) (ix2 i k)) : EReal) + (id ((outsAt0 m c t.val t.isLt).2.2 (ix2 i k)) : EReal) := by
    rw [outsAt0_C m c t (by omega) h1]
    frame_out
    exact last_apply _ _ i k
  rw [e, acc_last m c t h1, blockY]
  rfl

/-- The result array. -/
def result : Buf (Elt Ideal) ((c : Thread nD τ).loc main_v9) :=
  fun y : S8704x2048.Idx => ffnOut (argY m c) (argG m c) (argWg m c) (argWu m c) (argWd m c) (y 0) (y 1)

/-- Every point that writes back writes its block of it. -/
theorem flushed_eq (t : Fin cfg0.N) (hf : (cfg0.win 5).flush t = true) :
    (dats m 0 c).flushed 5 t = ((cfg0.win 5).blk t).view.read (Elt Ideal) (result m c) := by
  have h1 := (flush0_5 t).mp hf
  rw [Value.flushed5]
  have e := out_last m c t h1
  generalize (outsAt0 m c t.val t.isLt).1 = X at e
  funext y
  rw [View.read_apply]
  have hy : (y : S512x2048.Idx) = ix2 (y 0) (y 1) := by
    funext a
    match a with
    | ⟨0, _⟩ => rfl
    | ⟨1, _⟩ => rfl
  refine Eq.trans (b := X (ix2 (n0 := 512) (n1 := 2048) (y 0) (y 1))) (congrArg X hy) ((e (y 0) (y 1)).trans ?_)
  show ffnOut _ _ _ _ _ ⟨_, _⟩ (y 1) = ffnOut _ _ _ _ _ (((cfg0.win 5).blk t).view.emb y 0) (((cfg0.win 5).blk t).view.emb y 1)
  · refine congrArg₂ (ffnOut _ _ _ _ _) (Fin.ext ?_) (Fin.ext ?_)
    · show t.val / 11 * 512 + (y 0).val = win0_5.index t 0 * 512 + 1 * (y 0).val
      rw [(index5 t).1]; omega
    · show (y 1).val = win0_5.index t 1 * 2048 + 1 * (y 1).val
      rw [(index5 t).2]; omega

/-- The array after the run. -/
theorem final : (dats m 0 c).arrAt 5 cfg0.N = result m c :=
  (dats m 0 c).arrAt_eq_of_cover 5 (result m c) (flushed_eq m c) fun i => by
    have h0 : (i 0 : Nat) < 8704 := (i 0).isLt
    have h1 : (i 1 : Nat) < 2048 := (i 1).isLt
    have hN : cfg0.N = 187 := N_0
    let t : Fin cfg0.N := ⟨11 * ((i 0 : Nat) / 512) + 10, by omega⟩
    have ht : t.val / 11 = (i 0 : Nat) / 512 := by show (11 * ((i 0 : Nat) / 512) + 10) / 11 = _; omega
    refine ⟨t, (flush0_5 t).mpr (by show (11 * ((i 0 : Nat) / 512) + 10) % 11 = 10; omega), ?_⟩
    show i ∈ ((View.whole main_v9).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1, ht]; omega
    | ⟨1, _⟩ =>
      show win0_5.index t 1 * 2048 ≤ (i 1 : Nat) ∧ (i 1 : Nat) < win0_5.index t 1 * 2048 + 2048
      rw [(index5 t).2]; omega

end Cert.FfnIdeal.Ffn
end
-- ==== Proof.FfnRef.lean ====
module

public import proofs.«01_k».proof.Proof.Swiglu
public import proofs.«01_k».proof.Proof.Gen.FfnReferenceIdeal.Run
public import Idealize.ShloMosaic.Lib.Pointwise

/-!
What the feed-forward reference computes, entry by entry: the row's entry plus the sum over all hidden units.
-/
@[expose] public section

set_option maxRecDepth 16384

noncomputable section

namespace Cert.FfnReferenceIdeal.Ffn

open Cert.FfnReferenceIdeal Cert.FfnReferenceIdeal.Gen Cert.Swiglu Idealize.ShloMosaic Idealize.ShloMosaic.TcCoe Idealize.SL.Sem

/-- The normalised rows. -/
def rows (Y : FVec Ideal S8704x2048 .f32) (G : FVec Ideal S2x2048 .f32) : FVec Ideal S8704x2048 .f32 :=
  mulf (mulf Y (broadcastInDim S8704x2048 ![0, 1] bcast_S8704x1_S8704x2048_0_1 (Host.rsqrt (addf (Host.divf
    (broadcastInDim S8704x1 ![0] bcast_S8704_S8704x1_0 (Host.reduceAdd (mulf Y Y) (constant S_ .f32 0x00000000#32)
    reducesTo_S8704x2048_S8704_d1 h_S_)) (broadcastInDim S8704x1 ![] bcast_S_S8704x1 (constant S_ .f32 0x45000000#32)))
    (broadcastInDim S8704x1 ![] bcast_S_S8704x1 (constant S_ .f32 0x358637BD#32)))))) (broadcastInDim S8704x2048 ![0, 1]
    bcast_S1x2048_S8704x2048_0_1 (broadcastInDim S1x2048 ![1] bcast_S2048_S1x2048_1 (shapeCast _ (extractStridedSlice
    S1x2048 ![0, 0] G slices_S2x2048_S1x2048_0_0) shapeCasts_S1x2048_S2048)))

/-- A projection of the rows to the hidden units. -/
def proj (h : FVec Ideal S8704x2048 .f32) (W : FVec Ideal S1x2048x5632 .f32) : FVec Ideal S8704x5632 .f32 :=
  Host.dotGeneral dot_S8704x2048_S2048x5632_S8704x5632_1_0_0_1_n_n none h (shapeCast _ W shapeCasts_S1x2048x5632_S2048x5632)

/-- The hidden units. -/
def units (a b : FVec Ideal S8704x5632 .f32) : FVec Ideal S8704x5632 .f32 :=
  mulf (mulf a (Host.divf (broadcastInDim S8704x5632 ![] bcast_S_S8704x5632 (constant S_ .f32 0x3F800000#32)) (addf
    (broadcastInDim S8704x5632 ![] bcast_S_S8704x5632 (constant S_ .f32 0x3F800000#32)) (Host.exp (Host.negf a))))) b

/-- The reference's result. -/
def out (Y : FVec Ideal S8704x2048 .f32) (G : FVec Ideal S2x2048 .f32) (Wg Wu : FVec Ideal S1x2048x5632 .f32)
    (Wd : FVec Ideal S1x5632x2048 .f32) : FVec Ideal S8704x2048 .f32 :=
  addf Y (Host.dotGeneral dot_S8704x5632_S5632x2048_S8704x2048_1_0_0_1_n_n none (units (proj (rows Y G) Wg) (proj (rows Y G) Wu))
    (shapeCast _ Wd shapeCasts_S1x5632x2048_S5632x2048))

/-- The run ends with that result, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem rows_apply (Y : FVec Ideal S8704x2048 .f32) (G : FVec Ideal S2x2048 .f32) (r : Fin 8704) (k : Fin 2048) :
    rows Y G (ix2 r k) = normed (fun k => Y (ix2 r k)) (fun k => G (ix2 0 k)) k := by
  pointwise [rows]
  rfl

theorem proj_apply (h : FVec Ideal S8704x2048 .f32) (W : FVec Ideal S1x2048x5632 .f32) (r : Fin 8704) (l : Fin 5632) :
    proj h W (ix2 r l) = ∑ k : Fin 2048, h (ix2 r k) * W (ix3 0 k l) := by
  pointwise [proj]

theorem units_apply (a b : FVec Ideal S8704x5632 .f32) (r : Fin 8704) (l : Fin 5632) :
    units a b (ix2 r l) = a (ix2 r l) * Ideal.logistic (a (ix2 r l)) * b (ix2 r l) := by
  pointwise [units]
  rfl

theorem out_apply (Y : FVec Ideal S8704x2048 .f32) (G : FVec Ideal S2x2048 .f32) (Wg Wu : FVec Ideal S1x2048x5632 .f32)
    (Wd : FVec Ideal S1x5632x2048 .f32) (r : Fin 8704) (k : Fin 2048) :
    out Y G Wg Wu Wd (ix2 r k) = Y (ix2 r k) + ∑ l : Fin 5632, unit (normed (fun k => Y (ix2 r k)) (fun k => G (ix2 0 k)))
      (fun k => Wg (ix3 0 k l)) (fun k => Wu (ix3 0 k l)) * Wd (ix3 0 l k) := by
  pointwise [out]
  simp only [units_apply, proj_apply, rows_apply]
  rfl

end Cert.FfnReferenceIdeal.Ffn
end
-- ==== Proof.MoeBody.lean ====
module

public import proofs.«01_k».proof.Proof.Gen.MoeIdeal.Skeleton
public import proofs.«01_k».proof.Proof.Gen.MoeIdeal.Launch
public import Idealize.ShloMosaic.Lib.VecWindow
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic

@[expose] public section

set_option maxRecDepth 16384

noncomputable section

/-!
The grouped feed-forward kernel's body, read as six repetitions of one step.

A tile has 1536 rows, in six blocks of 256. The body first casts the three weight blocks into
scratch (where the tile has any row), then treats each block of rows in the same way: a block that
begins at or after the tile's row count is zeroed at the first column block of the hidden layer; one
that begins before it has its product with the weights stored there at the first column block and
added at the later ones. `block` is that step over any block of rows, followed by what comes after.
-/

namespace Cert.MoeRun

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A program of the kernel's body. -/
abbrev Code (F : FTy → Type) [FloatOps F] (α : Type) := Prog (TpuEff nD τ sig (Elt F) Λ₀ .tc) α

/-- A block of 256 rows at offsets `o`: zeroed where `p`; where `q`, its product with the weights
    stored where `r` and added where `r'`; then `k`. -/
def block {α : Type} (p q r r' : Prop) [Decidable p] [Decidable q] [Decidable r] [Decidable r']
    (o : Fin 2 → ℕ) (inb : ∀ a, o a + S256x2048.size a ≤ S1536x2048.size a)
    (x : Memref sig .tc .vmem S1536x2048 .bf16) (y : Memref sig .tc .vmem S1536x2048 .f32)
    (g u : Memref sig .tc .vmem S2048x512 .bf16) (d : Memref sig .tc .vmem S512x2048 .bf16)
    (k : Code F α) : Code F α := do
  if _h : p then do
    let _v : Vec F S256x2048 .f32 ← Prog.lift (.load y (Rect.unit (s := S1536x2048) o S256x2048.size inb).toLoadRect (View.loadsAt_vmem h_S256x2048))
    Prog.lift (.store y (Rect.unit (s := S1536x2048) o S256x2048.size inb) (k0_pay1 (F := F)) Finset.univ (View.stores_vmem_bits_univ h_S256x2048 rfl) (.inl rfl))
    pure ⟨⟩
  else do
    pure ⟨⟩
  if _h : q then do
    let v53 : Vec F S256x2048 .bf16 ← Prog.lift (.load x (Rect.unit (s := S1536x2048) o S256x2048.size inb).toLoadRect (View.loadsAt_vmem h_S256x2048))
    let v54 : Vec F S2048x512 .bf16 ← Prog.lift (.load g (Rect.unit (s := S2048x512) ![0, 0] S2048x512.size inb_S2048x512_S2048x512_0_0).toLoadRect (View.loadsAt_vmem h_S2048x512))
    let v55 : Vec F S2048x512 .bf16 ← Prog.lift (.load u (Rect.unit (s := S2048x512) ![0, 0] S2048x512.size inb_S2048x512_S2048x512_0_0).toLoadRect (View.loadsAt_vmem h_S2048x512))
    let v56 : Vec F S512x2048 .bf16 ← Prog.lift (.load d (Rect.unit (s := S512x2048) ![0, 0] S512x2048.size inb_S512x2048_S512x2048_0_0).toLoadRect (View.loadsAt_vmem h_S512x2048))
    if _h : r then do
      let _v : Vec F S256x2048 .f32 ← Prog.lift (.load y (Rect.unit (s := S1536x2048) o S256x2048.size inb).toLoadRect (View.loadsAt_vmem h_S256x2048))
      Prog.lift (.store y (Rect.unit (s := S1536x2048) o S256x2048.size inb) (k0_pay2 v53 v54 v55 v56) Finset.univ (View.stores_vmem_bits_univ h_S256x2048 rfl) (.inl rfl))
      pure ⟨⟩
    else do
      pure ⟨⟩
    if _h : r' then do
      let v70 : Vec F S256x2048 .f32 ← Prog.lift (.load y (Rect.unit (s := S1536x2048) o S256x2048.size inb).toLoadRect (View.loadsAt_vmem h_S256x2048))
      let _v : Vec F S256x2048 .f32 ← Prog.lift (.load y (Rect.unit (s := S1536x2048) o S256x2048.size inb).toLoadRect (View.loadsAt_vmem h_S256x2048))
      Prog.lift (.store y (Rect.unit (s := S1536x2048) o S256x2048.size inb) (k0_pay3 v53 v54 v55 v56 v70) Finset.univ (View.stores_vmem_bits_univ h_S256x2048 rfl) (.inl rfl))
      pure ⟨⟩
    else do
      pure ⟨⟩
    pure ⟨⟩
  else do
    pure ⟨⟩
  k

/-- The weights' blocks cast into scratch where `p`; then `k`. -/
def cast {α : Type} (p : Prop) [Decidable p]
    (g' u' : Memref sig .tc .vmem S1x2048x512 .f32) (d' : Memref sig .tc .vmem S1x512x2048 .f32)
    (g : Memref sig .tc .vmem S2048x512 .bf16) (hg : g.IsWhole) (u : Memref sig .tc .vmem S2048x512 .bf16) (hu : u.IsWhole)
    (d : Memref sig .tc .vmem S512x2048 .bf16) (hd : d.IsWhole) (k : Code F α) : Code F α := do
  if p then do
    let v53 : Vec F S1x2048x512 .f32 ← Prog.lift (.load g' (Rect.unit (s := S1x2048x512) ![0, 0, 0] S1x2048x512.size inb_S1x2048x512_S1x2048x512_0_0_0).toLoadRect (View.loadsAt_vmem h_S1x2048x512))
    let _v : Vec F S2048x512 .bf16 ← Prog.lift (.load g (Rect.unit (s := S2048x512) ![0, 0] S2048x512.size inb_S2048x512_S2048x512_0_0).toLoadRect (View.loadsAt_vmem h_S2048x512))
    Prog.lift (.store g (Rect.unit (s := S2048x512) ![0, 0] S2048x512.size inb_S2048x512_S2048x512_0_0) (k0_pay10 v53) Finset.univ (View.stores_vmem h_S2048x512 (hg.storeExact_slice rfl _ packedbf16_S2048x512_S2048x512_0_0) (fun _ => rfl)) (.inl rfl))
    let v59 : Vec F S1x2048x512 .f32 ← Prog.lift (.load u' (Rect.unit (s := S1x2048x512) ![0, 0, 0] S1x2048x512.size inb_S1x2048x512_S1x2048x512_0_0_0).toLoadRect (View.loadsAt_vmem h_S1x2048x512))
    let _v : Vec F S2048x512 .bf16 ← Prog.lift (.load u (Rect.unit (s := S2048x512) ![0, 0] S2048x512.size inb_S2048x512_S2048x512_0_0).toLoadRect (View.loadsAt_vmem h_S2048x512))
    Prog.lift (.store u (Rect.unit (s := S2048x512) ![0, 0] S2048x512.size inb_S2048x512_S2048x512_0_0) (k0_pay11 v59) Finset.univ (View.stores_vmem h_S2048x512 (hu.storeExact_slice rfl _ packedbf16_S2048x512_S2048x512_0_0) (fun _ => rfl)) (.inl rfl))
    let v65 : Vec F S1x512x2048 .f32 ← Prog.lift (.load d' (Rect.unit (s := S1x512x2048) ![0, 0, 0] S1x512x2048.size inb_S1x512x2048_S1x512x2048_0_0_0).toLoadRect (View.loadsAt_vmem h_S1x512x2048))
    let _v : Vec F S512x2048 .bf16 ← Prog.lift (.load d (Rect.unit (s := S512x2048) ![0, 0] S512x2048.size inb_S512x2048_S512x2048_0_0).toLoadRect (View.loadsAt_vmem h_S512x2048))
    Prog.lift (.store d (Rect.unit (s := S512x2048) ![0, 0] S512x2048.size inb_S512x2048_S512x2048_0_0) (k0_pay12 v65) Finset.univ (View.stores_vmem h_S512x2048 (hd.storeExact_slice rfl _ packedbf16_S512x2048_S512x2048_0_0) (fun _ => rfl)) (.inl rfl))
    pure ⟨⟩
  else do
    pure ⟨⟩
  k

/-- What follows a step may be taken into its continuation. -/
theorem block_bind {α β : Type} (p q r r' : Prop) [Decidable p] [Decidable q] [Decidable r] [Decidable r']
    (o : Fin 2 → ℕ) (inb : ∀ a, o a + S256x2048.size a ≤ S1536x2048.size a)
    (x : Memref sig .tc .vmem S1536x2048 .bf16) (y : Memref sig .tc .vmem S1536x2048 .f32)
    (g u : Memref sig .tc .vmem S2048x512 .bf16) (d : Memref sig .tc .vmem S512x2048 .bf16)
    (k : Code F α) (k' : α → Code F β) :
    (block p q r r' o inb x y g u d k >>= k') = block p q r r' o inb x y g u d (k >>= k') := by
  unfold block
  by_cases hp : p <;> by_cases hq : q <;> by_cases hr : r <;> by_cases hr' : r' <;>
    simp only [hp, hq, hr, hr', ↓reduceDIte] <;> rfl

/-- So for the casts. -/
theorem cast_bind {α β : Type} (p : Prop) [Decidable p]
    (g' u' : Memref sig .tc .vmem S1x2048x512 .f32) (d' : Memref sig .tc .vmem S1x512x2048 .f32)
    (g : Memref sig .tc .vmem S2048x512 .bf16) (hg : g.IsWhole) (u : Memref sig .tc .vmem S2048x512 .bf16) (hu : u.IsWhole)
    (d : Memref sig .tc .vmem S512x2048 .bf16) (hd : d.IsWhole) (k : Code F α) (k' : α → Code F β) :
    (cast p g' u' d' g hg u hu d hd k >>= k') = cast p g' u' d' g hg u hu d hd (k >>= k') := by
  unfold cast
  by_cases hp : p <;> simp only [hp, ↓reduceIte] <;> rfl

/-- The body: the tile's row count is read, the weights cast, the six blocks of rows treated. -/
theorem body_eq (i : grid0.Coords) (arg2 : Memref sig .tc .smem S19 .i32) (harg2 : arg2.IsWhole) (arg3 : Memref sig .tc .smem S19 .i32) (harg3 : arg3.IsWhole)
    (x : Memref sig .tc .vmem S1536x2048 .bf16) (hx : x.IsWhole) (g' : Memref sig .tc .vmem S1x2048x512 .f32) (hg' : g'.IsWhole)
    (u' : Memref sig .tc .vmem S1x2048x512 .f32) (hu' : u'.IsWhole) (d' : Memref sig .tc .vmem S1x512x2048 .f32) (hd' : d'.IsWhole)
    (y : Memref sig .tc .vmem S1536x2048 .f32) (hy : y.IsWhole) (g : Memref sig .tc .vmem S2048x512 .bf16) (hg : g.IsWhole)
    (u : Memref sig .tc .vmem S2048x512 .bf16) (hu : u.IsWhole) (d : Memref sig .tc .vmem S512x2048 .bf16) (hd : d.IsWhole) :
    cc0__grouped_ffn_kernel (F := F) i arg2 harg2 arg3 harg3 x hx g' hg' u' hu' d' hd' y hy g hg u hu d hd
      = (smemLoad arg3 (Rect.unit (s := S19) (k0_off1 i) S1.size (k0_off1_inb i)) numel1_S1 rfl >>= fun (n : Elt F .i32) =>
        cast (Scalar.cmpi .ne (Scalar.extui (Scalar.cmpi .sgt n 0#32)) 0#32 = 1#1) g' u' d' g hg u hu d hd <|
        block (k0_cond2 i n = 1#1) (k0_cond3 n = 1#1) (k0_cond4 i = 1#1) (k0_cond5 i = 1#1) ![0, 0] inb_S1536x2048_S256x2048_0_0 x y g u d <|
        block (k0_cond6 i n = 1#1) (k0_cond7 n = 1#1) (k0_cond8 i = 1#1) (k0_cond9 i = 1#1) ![256, 0] inb_S1536x2048_S256x2048_256_0 x y g u d <|
        block (k0_cond10 i n = 1#1) (k0_cond11 n = 1#1) (k0_cond12 i = 1#1) (k0_cond13 i = 1#1) ![512, 0] inb_S1536x2048_S256x2048_512_0 x y g u d <|
        block (k0_cond14 i n = 1#1) (k0_cond15 n = 1#1) (k0_cond16 i = 1#1) (k0_cond17 i = 1#1) ![768, 0] inb_S1536x2048_S256x2048_768_0 x y g u d <|
        block (k0_cond18 i n = 1#1) (k0_cond19 n = 1#1) (k0_cond20 i = 1#1) (k0_cond21 i = 1#1) ![1024, 0] inb_S1536x2048_S256x2048_1024_0 x y g u d <|
        block (k0_cond22 i n = 1#1) (k0_cond23 n = 1#1) (k0_cond24 i = 1#1) (k0_cond25 i = 1#1) ![1280, 0] inb_S1536x2048_S256x2048_1280_0 x y g u d <|
        pure ⟨⟩) := by
  have e : k0_part1 (F := F) i arg2 harg2 arg3 harg3 x hx g' hg' u' hu' d' hd' y hy g hg u hu d hd
      = (smemLoad arg3 (Rect.unit (s := S19) (k0_off1 i) S1.size (k0_off1_inb i)) numel1_S1 rfl >>= fun (n : Elt F .i32) =>
        cast (Scalar.cmpi .ne (Scalar.extui (Scalar.cmpi .sgt n 0#32)) 0#32 = 1#1) g' u' d' g hg u hu d hd <|
        block (k0_cond2 i n = 1#1) (k0_cond3 n = 1#1) (k0_cond4 i = 1#1) (k0_cond5 i = 1#1) ![0, 0] inb_S1536x2048_S256x2048_0_0 x y g u d <|
        block (k0_cond6 i n = 1#1) (k0_cond7 n = 1#1) (k0_cond8 i = 1#1) (k0_cond9 i = 1#1) ![256, 0] inb_S1536x2048_S256x2048_256_0 x y g u d <|
        block (k0_cond10 i n = 1#1) (k0_cond11 n = 1#1) (k0_cond12 i = 1#1) (k0_cond13 i = 1#1) ![512, 0] inb_S1536x2048_S256x2048_512_0 x y g u d <|
        pure ⟨BitVec.ofNat 32 (i 1).val, n, Scalar.andi (Scalar.cmpi .sle n 768#32) (Scalar.cmpi .eq (BitVec.ofNat 32 (i 1).val) 0#32)⟩) := by
    rw [k0_part1_eq_skeleton]; rfl
  rw [cc0__grouped_ffn_kernel_eq_skeleton]
  unfold cc0__grouped_ffn_kernel_skel
  rw [e, bind_assoc]
  refine congrArg _ (funext fun n => ?_)
  rw [cast_bind, block_bind, block_bind, block_bind]
  rfl

/-- A block of 256 rows of the tile's output after its step: its contents before are `D`, the tile's
    rows are `X`, the weights in scratch `G`, `U` and `W`. -/
def after (p q r r' : Prop) [Decidable p] [Decidable q] [Decidable r] [Decidable r']
    (o : Fin 2 → ℕ) (inb : ∀ a, o a + S256x2048.size a ≤ S1536x2048.size a)
    (X : S1536x2048.Idx → Elt F .bf16) (G U : S2048x512.Idx → Elt F .bf16) (W : S512x2048.Idx → Elt F .bf16)
    (D : S1536x2048.Idx → Elt F .f32) : S1536x2048.Idx → Elt F .f32 :=
  let D₁ := if p then VecWindow.put D o S256x2048.size (k0_pay1 (F := F)) else D
  if q then
    let D₂ := if r then VecWindow.put D₁ o S256x2048.size (k0_pay2 (VecWindow.window X o S256x2048.size inb) G U W) else D₁
    if r' then VecWindow.put D₂ o S256x2048.size (k0_pay3 (VecWindow.window X o S256x2048.size inb) G U W (VecWindow.window D₂ o S256x2048.size inb)) else D₂
  else D₁

local notation "𝕄" => MT nD τ sig Unit (Elt F) ℕ (UR sig nD τ) ℕ

set_option maxHeartbeats 2000000 in
/-- A block's step from the rows, the weights in scratch and the output to the output after it. -/
theorem block_wp {α : Type} (c : Dev nD) (p q r r' : Prop) [Decidable p] [Decidable q] [Decidable r] [Decidable r']
    (o : Fin 2 → ℕ) (inb : ∀ a, o a + S256x2048.size a ≤ S1536x2048.size a)
    (x : Memref sig .tc .vmem S1536x2048 .bf16) (hx : x.IsWhole) (y : Memref sig .tc .vmem S1536x2048 .f32) (hy : y.IsWhole)
    (g : Memref sig .tc .vmem S2048x512 .bf16) (hg : g.IsWhole) (u : Memref sig .tc .vmem S2048x512 .bf16) (hu : u.IsWhole)
    (d : Memref sig .tc .vmem S512x2048 .bf16) (hd : d.IsWhole) (k : Code F α)
    (X : S1536x2048.Idx → Elt F .bf16) (G U : S2048x512.Idx → Elt F .bf16) (W : S512x2048.Idx → Elt F .bf16)
    (D : S1536x2048.Idx → Elt F .f32) (K : α → sProp 𝕄) :
    iprop((x.view.loc (c : Thread nD τ) ↦[x.view.set]{fullShare} x.view.rep X)
        ∗ (g.view.loc (c : Thread nD τ) ↦[g.view.set]{fullShare} g.view.rep G)
        ∗ (u.view.loc (c : Thread nD τ) ↦[u.view.set]{fullShare} u.view.rep U)
        ∗ (d.view.loc (c : Thread nD τ) ↦[d.view.set]{fullShare} d.view.rep W)
        ∗ (y.view.loc (c : Thread nD τ) ↦[y.view.set]{fullShare} y.view.rep D)
        ∗ (iprop((x.view.loc (c : Thread nD τ) ↦[x.view.set]{fullShare} x.view.rep X)
            ∗ (g.view.loc (c : Thread nD τ) ↦[g.view.set]{fullShare} g.view.rep G)
            ∗ (u.view.loc (c : Thread nD τ) ↦[u.view.set]{fullShare} u.view.rep U)
            ∗ (d.view.loc (c : Thread nD τ) ↦[d.view.set]{fullShare} d.view.rep W)
            ∗ (y.view.loc (c : Thread nD τ) ↦[y.view.set]{fullShare} y.view.rep (after p q r r' o inb X G U W D)))
          -∗ wp frame (wpE (defs₀ (F := F)) Variants.none c none) Set.univ k K))
      ⊢ wp frame (wpE (defs₀ (F := F)) Variants.none c none) Set.univ (block p q r r' o inb x y g u d k) K := by
  unfold block after
  iintro ⟨HX, HG, HU, HW, HY, Hk⟩
  by_cases hp : p <;> by_cases hq : q <;> by_cases hr : r <;> by_cases hr' : r' <;>
    simp only [hp, hq, hr, hr', ↓reduceDIte, ↓reduceIte] <;>
    (try sl_exec) <;>
    (iapply Hk
     isplitl [HX]; · iexact HX
     isplitl [HG]; · iexact HG
     isplitl [HU]; · iexact HU
     isplitl [HW]; · iexact HW
     iapply rep_of_owns
     unfold owns
     iexists _; isplitr; swap
     · iexact HY
     · ipureintro
       try sl_unfold_run_names
       simp only [View.read_writes_cons_put (s := S1536x2048) (off := o) (off' := o) (size := S256x2048.size) _ _ inb _ _ rfl, View.writes_nil, View.read_rep,
         View.readAt_unit (s := S1536x2048) (off := o) (off' := o) (size := S256x2048.size) _ _ inb rfl inb,
         fun (v : View sig .tc .vmem S2048x512 .bf16) f => View.readAt_full (Val := Elt F) v f (off := ![0, 0]) inb_S2048x512_S2048x512_0_0,
         fun (v : View sig .tc .vmem S512x2048 .bf16) f => View.readAt_full (Val := Elt F) v f (off := ![0, 0]) inb_S512x2048_S512x2048_0_0])

set_option maxHeartbeats 2000000 in
/-- The casts, from the weights' blocks to the weights in scratch: as they were where `p` fails. -/
theorem cast_wp {α : Type} (c : Dev nD) (p : Prop) [Decidable p]
    (g' : Memref sig .tc .vmem S1x2048x512 .f32) (hg' : g'.IsWhole) (u' : Memref sig .tc .vmem S1x2048x512 .f32) (hu' : u'.IsWhole)
    (d' : Memref sig .tc .vmem S1x512x2048 .f32) (hd' : d'.IsWhole)
    (g : Memref sig .tc .vmem S2048x512 .bf16) (hg : g.IsWhole) (u : Memref sig .tc .vmem S2048x512 .bf16) (hu : u.IsWhole)
    (d : Memref sig .tc .vmem S512x2048 .bf16) (hd : d.IsWhole) (k : Code F α)
    (G' U' : S1x2048x512.Idx → Elt F .f32) (W' : S1x512x2048.Idx → Elt F .f32)
    (G U : S2048x512.Idx → Elt F .bf16) (W : S512x2048.Idx → Elt F .bf16) (K : α → sProp 𝕄) :
    iprop((g'.view.loc (c : Thread nD τ) ↦[g'.view.set]{fullShare} g'.view.rep G')
        ∗ (u'.view.loc (c : Thread nD τ) ↦[u'.view.set]{fullShare} u'.view.rep U')
        ∗ (d'.view.loc (c : Thread nD τ) ↦[d'.view.set]{fullShare} d'.view.rep W')
        ∗ (g.view.loc (c : Thread nD τ) ↦[g.view.set]{fullShare} g.view.rep G)
        ∗ (u.view.loc (c : Thread nD τ) ↦[u.view.set]{fullShare} u.view.rep U)
        ∗ (d.view.loc (c : Thread nD τ) ↦[d.view.set]{fullShare} d.view.rep W)
        ∗ (iprop((g'.view.loc (c : Thread nD τ) ↦[g'.view.set]{fullShare} g'.view.rep G')
            ∗ (u'.view.loc (c : Thread nD τ) ↦[u'.view.set]{fullShare} u'.view.rep U')
            ∗ (d'.view.loc (c : Thread nD τ) ↦[d'.view.set]{fullShare} d'.view.rep W')
            ∗ (g.view.loc (c : Thread nD τ) ↦[g.view.set]{fullShare} g.view.rep (if p then k0_pay10 G' else G))
            ∗ (u.view.loc (c : Thread nD τ) ↦[u.view.set]{fullShare} u.view.rep (if p then k0_pay11 U' else U))
            ∗ (d.view.loc (c : Thread nD τ) ↦[d.view.set]{fullShare} d.view.rep (if p then k0_pay12 W' else W)))
          -∗ wp frame (wpE (defs₀ (F := F)) Variants.none c none) Set.univ k K))
      ⊢ wp frame (wpE (defs₀ (F := F)) Variants.none c none) Set.univ (cast p g' u' d' g hg u hu d hd k) K := by
  unfold cast
  iintro ⟨HG', HU', HW', HG, HU, HW, Hk⟩
  by_cases hp : p
  · simp only [hp, ↓reduceIte]
    sl_exec
    iapply Hk
    isplitl [HG']; · iexact HG'
    isplitl [HU']; · iexact HU'
    isplitl [HW']; · iexact HW'
    isplitl [HG]
    · iapply rep_of_owns
      unfold owns
      iexists _; isplitr; swap
      · iexact HG
      · ipureintro
        exact (View.read_writes_full g.view _ (off := ![0, 0]) inb_S2048x512_S2048x512_0_0 _ _).trans (congrArg k0_pay10 (View.readAt_rep_full g'.view G' (off := ![0, 0, 0]) inb_S1x2048x512_S1x2048x512_0_0_0))
    isplitl [HU]
    · iapply rep_of_owns
      unfold owns
      iexists _; isplitr; swap
      · iexact HU
      · ipureintro
        exact (View.read_writes_full u.view _ (off := ![0, 0]) inb_S2048x512_S2048x512_0_0 _ _).trans (congrArg k0_pay11 (View.readAt_rep_full u'.view U' (off := ![0, 0, 0]) inb_S1x2048x512_S1x2048x512_0_0_0))
    iapply rep_of_owns
    unfold owns
    iexists _; isplitr; swap
    · iexact HW
    · ipureintro
      exact (View.read_writes_full d.view _ (off := ![0, 0]) inb_S512x2048_S512x2048_0_0 _ _).trans (congrArg k0_pay12 (View.readAt_rep_full d'.view W' (off := ![0, 0, 0]) inb_S1x512x2048_S1x512x2048_0_0_0))
  · simp only [if_neg hp]
    iapply Hk
    isplitl [HG']; · iexact HG'
    isplitl [HU']; · iexact HU'
    isplitl [HW']; · iexact HW'
    isplitl [HG]; · iexact HG
    isplitl [HU]; · iexact HU
    iexact HW

/-- The row count of a point's tile. -/
def count (T : S19.Idx → Elt F .i32) (i : grid0.Coords) : Elt F .i32 := T fun a => match a with | ⟨0, _⟩ => (⟨(i 0).val, (i 0).isLt⟩ : Fin 19)

/-- It is the word the body reads of the table. -/
theorem count_eq (T : S19.Idx → Elt F .i32) (i : grid0.Coords) :
    ((Memref.whole main_arg1 : Memref sig .tc .smem S19 .i32).access (Rect.unit (s := S19) (k0_off1 i) S1.size (k0_off1_inb i))).read (Elt F) T
      (Shape.Idx.first (numel1_S1.symm ▸ Nat.one_pos)) = count T i := by
  show T _ = T _
  congr 1
  funext a
  apply Fin.ext
  match a with
  | ⟨0, _⟩ => exact (congrArg (· 0) (k0_off1_eq i) : k0_off1 i 0 = _)

/-! ## The conditions the body computes from the row count and the grid point -/

/-- A signed comparison of two words as a condition. -/
theorem sgt_word (n k : BitVec 32) :
    Scalar.cmpi .ne (Scalar.extui (Scalar.cmpi .sgt n k) : BitVec 32) 0#32 = 1#1 ↔ k.toInt < n.toInt := by
  have e : Scalar.cmpi .sgt n k = BitVec.ofBool (k.slt n) := rfl
  rw [e, BitVec.slt_eq_decide]
  by_cases h : k.toInt < n.toInt <;> simp only [h, decide_true, decide_false] <;> decide

/-- At most `k` rows, at the first column block. -/
theorem zero_word (n k a : BitVec 32) :
    Scalar.cmpi .ne (Scalar.extui (Scalar.andi (Scalar.cmpi .sle n k) (Scalar.cmpi .eq a 0#32)) : BitVec 32) 0#32 = 1#1
      ↔ ¬k.toInt < n.toInt ∧ a = 0#32 := by
  have e : Scalar.cmpi .sle n k = BitVec.ofBool (n.sle k) := rfl
  have e' : Scalar.cmpi .eq a 0#32 = BitVec.ofBool (a == 0#32) := rfl
  rw [e, e', BitVec.sle_eq_decide]
  by_cases h : k.toInt < n.toInt <;> by_cases h' : a = 0#32 <;>
    simp only [h, h', not_true, not_false_eq_true, true_and, false_and, iff_true, iff_false, beq_self_eq_true, beq_iff_eq, show n.toInt ≤ k.toInt ↔ ¬k.toInt < n.toInt from Int.not_lt.symm, decide_true, decide_false, beq_eq_false_iff_ne.mpr, ne_eq] <;> decide

/-- A column block's number as a word is zero at the first one alone. -/
theorem col_zero (i : grid0.Coords) : BitVec.ofNat 32 (i 1).val = 0#32 ↔ (i 1).val = 0 :=
  (show ∀ f : Fin 11, BitVec.ofNat 32 f.val = 0#32 ↔ f.val = 0 by decide) (i 1)

theorem col_first (i : grid0.Coords) :
    Scalar.cmpi .ne (Scalar.extui (Scalar.cmpi .eq (BitVec.ofNat 32 (i 1).val) 0#32) : BitVec 32) 0#32 = 1#1 ↔ (i 1).val = 0 :=
  (show ∀ f : Fin 11, Scalar.cmpi .ne (Scalar.extui (Scalar.cmpi .eq (BitVec.ofNat 32 f.val) 0#32) : BitVec 32) 0#32 = 1#1 ↔ f.val = 0 by decide) (i 1)

theorem col_later (i : grid0.Coords) :
    Scalar.cmpi .ne (Scalar.extui (Scalar.cmpi .sgt (BitVec.ofNat 32 (i 1).val) 0#32) : BitVec 32) 0#32 = 1#1 ↔ ¬(i 1).val = 0 :=
  (show ∀ f : Fin 11, Scalar.cmpi .ne (Scalar.extui (Scalar.cmpi .sgt (BitVec.ofNat 32 f.val) 0#32) : BitVec 32) 0#32 = 1#1 ↔ ¬f.val = 0 by decide) (i 1)

/-- A block of rows after its step: at the first column block the product where the block is used and zero
    where it is not, at a later one the product added where it is used. -/
def rows (live first : Prop) [Decidable live] [Decidable first]
    (o : Fin 2 → ℕ) (inb : ∀ a, o a + S256x2048.size a ≤ S1536x2048.size a)
    (X : S1536x2048.Idx → Elt F .bf16) (G U : S2048x512.Idx → Elt F .bf16) (W : S512x2048.Idx → Elt F .bf16)
    (D : S1536x2048.Idx → Elt F .f32) : S1536x2048.Idx → Elt F .f32 :=
  if first then VecWindow.put D o S256x2048.size (if live then k0_pay2 (VecWindow.window X o S256x2048.size inb) G U W else k0_pay1 (F := F))
  else if live then VecWindow.put D o S256x2048.size (k0_pay3 (VecWindow.window X o S256x2048.size inb) G U W (VecWindow.window D o S256x2048.size inb))
  else D

/-- The step as the body's conditions have it is `rows`. -/
theorem after_eq {p q r r' live first : Prop} [Decidable p] [Decidable q] [Decidable r] [Decidable r'] [Decidable live] [Decidable first]
    (hp : p ↔ ¬live ∧ first) (hq : q ↔ live) (hr : r ↔ first) (hr' : r' ↔ ¬first)
    (o : Fin 2 → ℕ) (inb : ∀ a, o a + S256x2048.size a ≤ S1536x2048.size a)
    (X : S1536x2048.Idx → Elt F .bf16) (G U : S2048x512.Idx → Elt F .bf16) (W : S512x2048.Idx → Elt F .bf16)
    (D : S1536x2048.Idx → Elt F .f32) : after p q r r' o inb X G U W D = rows live first o inb X G U W D := by
  by_cases h : live <;> by_cases h' : first <;> simp only [after, rows, hp, hq, hr, hr', h, h', not_true, not_false_eq_true, and_self, and_true, and_false, false_and, if_true, if_false]

/-- The same, of the conditions of the block of rows from row `k` as the body computes them. -/
theorem after_words (k : BitVec 32) (s : ℤ) (hk : k.toInt = s) (i : grid0.Coords) (n : BitVec 32)
    (o : Fin 2 → ℕ) (inb : ∀ a, o a + S256x2048.size a ≤ S1536x2048.size a)
    (X : S1536x2048.Idx → Elt F .bf16) (G U : S2048x512.Idx → Elt F .bf16) (W : S512x2048.Idx → Elt F .bf16)
    (D : S1536x2048.Idx → Elt F .f32) :
    after (Scalar.cmpi .ne (Scalar.extui (Scalar.andi (Scalar.cmpi .sle n k) (Scalar.cmpi .eq (BitVec.ofNat 32 (i 1).val) 0#32)) : BitVec 32) 0#32 = 1#1)
      (Scalar.cmpi .ne (Scalar.extui (Scalar.cmpi .sgt n k) : BitVec 32) 0#32 = 1#1)
      (Scalar.cmpi .ne (Scalar.extui (Scalar.cmpi .eq (BitVec.ofNat 32 (i 1).val) 0#32) : BitVec 32) 0#32 = 1#1)
      (Scalar.cmpi .ne (Scalar.extui (Scalar.cmpi .sgt (BitVec.ofNat 32 (i 1).val) 0#32) : BitVec 32) 0#32 = 1#1) o inb X G U W D
      = rows (s < n.toInt) ((i 1).val = 0) o inb X G U W D := by
  subst hk
  exact after_eq ((zero_word n k _).trans (and_congr_right fun _ => col_zero i)) (sgt_word n k) (col_first i) (col_later i) o inb X G U W D

/-- The tile's output after the body at a point, of a tile of `n` rows: its six blocks of rows one after
    another. -/
def step (i : grid0.Coords) (n : BitVec 32) (X : S1536x2048.Idx → Elt F .bf16)
    (G U : S2048x512.Idx → Elt F .bf16) (W : S512x2048.Idx → Elt F .bf16)
    (D : S1536x2048.Idx → Elt F .f32) : S1536x2048.Idx → Elt F .f32 :=
  rows (1280 < n.toInt) ((i 1).val = 0) ![1280, 0] inb_S1536x2048_S256x2048_1280_0 X G U W <|
  rows (1024 < n.toInt) ((i 1).val = 0) ![1024, 0] inb_S1536x2048_S256x2048_1024_0 X G U W <|
  rows (768 < n.toInt) ((i 1).val = 0) ![768, 0] inb_S1536x2048_S256x2048_768_0 X G U W <|
  rows (512 < n.toInt) ((i 1).val = 0) ![512, 0] inb_S1536x2048_S256x2048_512_0 X G U W <|
  rows (256 < n.toInt) ((i 1).val = 0) ![256, 0] inb_S1536x2048_S256x2048_256_0 X G U W <|
  rows (0 < n.toInt) ((i 1).val = 0) ![0, 0] inb_S1536x2048_S256x2048_0_0 X G U W D

/-- A block that is not used does not depend on the weights. -/
theorem rows_dead {live first : Prop} [Decidable live] [Decidable first] (h : ¬live)
    (o : Fin 2 → ℕ) (inb : ∀ a, o a + S256x2048.size a ≤ S1536x2048.size a)
    (X : S1536x2048.Idx → Elt F .bf16) (G U G' U' : S2048x512.Idx → Elt F .bf16) (W W' : S512x2048.Idx → Elt F .bf16)
    (D : S1536x2048.Idx → Elt F .f32) : rows live first o inb X G U W D = rows live first o inb X G' U' W' D := by
  simp only [rows, h, if_false]

/-- A tile of no rows does not depend on the weights. -/
theorem step_dead (i : grid0.Coords) (n : BitVec 32) (h : ¬0 < n.toInt) (X : S1536x2048.Idx → Elt F .bf16)
    (G U G' U' : S2048x512.Idx → Elt F .bf16) (W W' : S512x2048.Idx → Elt F .bf16)
    (D : S1536x2048.Idx → Elt F .f32) : step i n X G U W D = step i n X G' U' W' D := by
  unfold step
  rw [rows_dead h _ _ X G U G' U' W W', rows_dead (by omega) _ _ X G U G' U' W W', rows_dead (by omega) _ _ X G U G' U' W W',
    rows_dead (by omega) _ _ X G U G' U' W W', rows_dead (by omega) _ _ X G U G' U' W W', rows_dead (by omega) _ _ X G U G' U' W W']

/-- A later column block of a tile of no rows leaves the output as it was. -/
theorem step_idle (i : grid0.Coords) (n : BitVec 32) (h : ¬0 < n.toInt) (hf : ¬(i 1).val = 0) (X : S1536x2048.Idx → Elt F .bf16)
    (G U : S2048x512.Idx → Elt F .bf16) (W : S512x2048.Idx → Elt F .bf16)
    (D : S1536x2048.Idx → Elt F .f32) : step i n X G U W D = D := by
  simp only [step, rows, hf, if_false, if_neg h, if_neg (show ¬256 < n.toInt by omega), if_neg (show ¬512 < n.toInt by omega),
    if_neg (show ¬768 < n.toInt by omega), if_neg (show ¬1024 < n.toInt by omega), if_neg (show ¬1280 < n.toInt by omega)]

/-- An entry of a block's rows after its step; an entry of other rows is as it was. -/
theorem rows_out {live first : Prop} [Decidable live] [Decidable first] {b : ℕ}
    (inb : ∀ a, (![b, 0] : Fin 2 → ℕ) a + S256x2048.size a ≤ S1536x2048.size a)
    (X : S1536x2048.Idx → Elt F .bf16) (G U : S2048x512.Idx → Elt F .bf16) (W : S512x2048.Idx → Elt F .bf16)
    (D : S1536x2048.Idx → Elt F .f32) (j : S1536x2048.Idx) (h : (j 0).val < b ∨ b + 256 ≤ (j 0).val) :
    rows live first ![b, 0] inb X G U W D j = D j := by
  have hn : ¬∀ a, (![b, 0] : Fin 2 → ℕ) a ≤ (j a).val ∧ (j a).val < (![b, 0] : Fin 2 → ℕ) a + S256x2048.size a := fun hall => by
    have := hall 0
    change b ≤ (j 0).val ∧ (j 0).val < b + 256 at this
    omega
  have hp : ∀ w, VecWindow.put D ![b, 0] S256x2048.size w j = D j := fun w => dif_neg hn
  unfold rows
  split
  · exact hp _
  · split
    · exact hp _
    · rfl

/-- A block's own rows after its step. -/
theorem rows_in {live first : Prop} [Decidable live] [Decidable first]
    (o : Fin 2 → ℕ) (inb : ∀ a, o a + S256x2048.size a ≤ S1536x2048.size a)
    (X : S1536x2048.Idx → Elt F .bf16) (G U : S2048x512.Idx → Elt F .bf16) (W : S512x2048.Idx → Elt F .bf16)
    (D : S1536x2048.Idx → Elt F .f32) :
    VecWindow.window (rows live first o inb X G U W D) o S256x2048.size inb =
      if first then (if live then k0_pay2 (VecWindow.window X o S256x2048.size inb) G U W else k0_pay1 (F := F))
      else if live then k0_pay3 (VecWindow.window X o S256x2048.size inb) G U W (VecWindow.window D o S256x2048.size inb)
      else VecWindow.window D o S256x2048.size inb := by
  unfold rows
  split
  · exact VecWindow.window_put_same (s := S1536x2048) D o S256x2048.size inb _
  · split
    · exact VecWindow.window_put_same (s := S1536x2048) D o S256x2048.size inb _
    · rfl

/-- An entry of a block's rows is one of the block's window. -/
theorem place {b : ℕ} (inb : ∀ a, (![b, 0] : Fin 2 → ℕ) a + S256x2048.size a ≤ S1536x2048.size a)
    (j : S1536x2048.Idx) (h : b ≤ (j 0).val ∧ (j 0).val < b + 256) :
    ∃ y : S256x2048.Idx, (Rect.unit (s := S1536x2048) ![b, 0] S256x2048.size inb).emb y = j
      ∧ (y 0).val = (j 0).val - b ∧ (y 1).val = (j 1).val := by
  have hj1 : (j 1).val < 2048 := (j 1).isLt
  refine ⟨fun a => match a with | ⟨0, _⟩ => (⟨(j 0).val - b, by omega⟩ : Fin 256) | ⟨1, _⟩ => (⟨(j 1).val, hj1⟩ : Fin 2048), ?_, rfl, rfl⟩
  funext a
  apply Fin.ext
  match a with
  | ⟨0, _⟩ => show b + 1 * ((j 0).val - b) = (j 0).val; omega
  | ⟨1, _⟩ => show 0 + 1 * (j 1).val = (j 1).val; omega

/-- At the first column block a block's step makes two outputs that agree above it agree on it. -/
theorem rows_first {live first : Prop} [Decidable live] [Decidable first] (hf : first) {b : ℕ}
    (inb : ∀ a, (![b, 0] : Fin 2 → ℕ) a + S256x2048.size a ≤ S1536x2048.size a)
    (X : S1536x2048.Idx → Elt F .bf16) (G U : S2048x512.Idx → Elt F .bf16) (W : S512x2048.Idx → Elt F .bf16)
    {D D' : S1536x2048.Idx → Elt F .f32} (h : ∀ j, (j 0).val < b → D j = D' j) (j : S1536x2048.Idx) (hj : (j 0).val < b + 256) :
    rows live first ![b, 0] inb X G U W D j = rows live first ![b, 0] inb X G U W D' j := by
  by_cases hb : (j 0).val < b
  · rw [rows_out inb X G U W D j (.inl hb), rows_out inb X G U W D' j (.inl hb), h j hb]
  · obtain ⟨y, rfl, -⟩ := place inb j (by omega)
    have e := (rows_in (live := live) (first := first) ![b, 0] inb X G U W D).trans
      (((if_pos hf).trans (if_pos hf).symm).trans (rows_in (live := live) (first := first) ![b, 0] inb X G U W D').symm)
    exact congrFun e y

/-- At the first column block the output does not depend on what was there. -/
theorem step_first (i : grid0.Coords) (n : BitVec 32) (hf : (i 1).val = 0) (X : S1536x2048.Idx → Elt F .bf16)
    (G U : S2048x512.Idx → Elt F .bf16) (W : S512x2048.Idx → Elt F .bf16)
    (D D' : S1536x2048.Idx → Elt F .f32) : step i n X G U W D = step i n X G U W D' := by
  funext j
  exact rows_first hf _ X G U W (fun j h => rows_first hf _ X G U W (fun j h => rows_first hf _ X G U W (fun j h =>
    rows_first hf _ X G U W (fun j h => rows_first hf _ X G U W (fun j h => rows_first hf _ X G U W (fun j h => absurd h (Nat.not_lt_zero _))
      j h) j h) j h) j h) j h) j (j 0).isLt

/-- The six blocks' steps under the body's conditions are `step`. -/
theorem step_eq (i : grid0.Coords) (n : BitVec 32) (X : S1536x2048.Idx → Elt F .bf16)
    (G U : S2048x512.Idx → Elt F .bf16) (W : S512x2048.Idx → Elt F .bf16) (D : S1536x2048.Idx → Elt F .f32) :
    after (k0_cond22 i n = 1#1) (k0_cond23 n = 1#1) (k0_cond24 i = 1#1) (k0_cond25 i = 1#1) ![1280, 0] inb_S1536x2048_S256x2048_1280_0 X G U W (
    after (k0_cond18 i n = 1#1) (k0_cond19 n = 1#1) (k0_cond20 i = 1#1) (k0_cond21 i = 1#1) ![1024, 0] inb_S1536x2048_S256x2048_1024_0 X G U W (
    after (k0_cond14 i n = 1#1) (k0_cond15 n = 1#1) (k0_cond16 i = 1#1) (k0_cond17 i = 1#1) ![768, 0] inb_S1536x2048_S256x2048_768_0 X G U W (
    after (k0_cond10 i n = 1#1) (k0_cond11 n = 1#1) (k0_cond12 i = 1#1) (k0_cond13 i = 1#1) ![512, 0] inb_S1536x2048_S256x2048_512_0 X G U W (
    after (k0_cond6 i n = 1#1) (k0_cond7 n = 1#1) (k0_cond8 i = 1#1) (k0_cond9 i = 1#1) ![256, 0] inb_S1536x2048_S256x2048_256_0 X G U W (
    after (k0_cond2 i n = 1#1) (k0_cond3 n = 1#1) (k0_cond4 i = 1#1) (k0_cond5 i = 1#1) ![0, 0] inb_S1536x2048_S256x2048_0_0 X G U W D)))))
      = step i n X G U W D := by
  refine (after_words 1280#32 1280 (by decide) i n _ _ X G U W _).trans (congrArg _ ?_)
  refine (after_words 1024#32 1024 (by decide) i n _ _ X G U W _).trans (congrArg _ ?_)
  refine (after_words 768#32 768 (by decide) i n _ _ X G U W _).trans (congrArg _ ?_)
  refine (after_words 512#32 512 (by decide) i n _ _ X G U W _).trans (congrArg _ ?_)
  refine (after_words 256#32 256 (by decide) i n _ _ X G U W _).trans (congrArg _ ?_)
  refine (after_words 0#32 0 (by decide) i n _ _ X G U W _).trans (congrArg _ ?_)
  rfl

set_option maxHeartbeats 2000000 in
/-- The body at a point, from the tile's rows, the weights' blocks, the row counts, the output and the
    scratch buffers. -/
theorem body_wp (c : Dev nD) (i : grid0.Coords)
    (x : Memref sig .tc .vmem S1536x2048 .bf16) (hx : x.IsWhole) (g' : Memref sig .tc .vmem S1x2048x512 .f32) (hg' : g'.IsWhole)
    (u' : Memref sig .tc .vmem S1x2048x512 .f32) (hu' : u'.IsWhole) (d' : Memref sig .tc .vmem S1x512x2048 .f32) (hd' : d'.IsWhole)
    (y : Memref sig .tc .vmem S1536x2048 .f32) (hy : y.IsWhole) (g : Memref sig .tc .vmem S2048x512 .bf16) (hg : g.IsWhole)
    (u : Memref sig .tc .vmem S2048x512 .bf16) (hu : u.IsWhole) (d : Memref sig .tc .vmem S512x2048 .bf16) (hd : d.IsWhole)
    (T : S19.Idx → Elt F .i32)
    (X : S1536x2048.Idx → Elt F .bf16) (G' U' : S1x2048x512.Idx → Elt F .f32) (W' : S1x512x2048.Idx → Elt F .f32)
    (D : S1536x2048.Idx → Elt F .f32)
    (G U : S2048x512.Idx → Elt F .bf16) (W : S512x2048.Idx → Elt F .bf16) (K : PUnit → sProp 𝕄) :
    iprop((x.view.loc (c : Thread nD τ) ↦[x.view.set]{fullShare} x.view.rep X)
        ∗ (g'.view.loc (c : Thread nD τ) ↦[g'.view.set]{fullShare} g'.view.rep G')
        ∗ (u'.view.loc (c : Thread nD τ) ↦[u'.view.set]{fullShare} u'.view.rep U')
        ∗ (d'.view.loc (c : Thread nD τ) ↦[d'.view.set]{fullShare} d'.view.rep W')
        ∗ ((Memref.whole main_arg1 : Memref sig .tc .smem S19 .i32).view.loc (c : Thread nD τ) ↦{fullShare.right} T)
        ∗ (y.view.loc (c : Thread nD τ) ↦[y.view.set]{fullShare} y.view.rep D)
        ∗ (g.view.loc (c : Thread nD τ) ↦[g.view.set]{fullShare} g.view.rep G)
        ∗ (u.view.loc (c : Thread nD τ) ↦[u.view.set]{fullShare} u.view.rep U)
        ∗ (d.view.loc (c : Thread nD τ) ↦[d.view.set]{fullShare} d.view.rep W)
        ∗ (iprop((x.view.loc (c : Thread nD τ) ↦[x.view.set]{fullShare} x.view.rep X)
            ∗ (g'.view.loc (c : Thread nD τ) ↦[g'.view.set]{fullShare} g'.view.rep G')
            ∗ (u'.view.loc (c : Thread nD τ) ↦[u'.view.set]{fullShare} u'.view.rep U')
            ∗ (d'.view.loc (c : Thread nD τ) ↦[d'.view.set]{fullShare} d'.view.rep W')
            ∗ ((Memref.whole main_arg1 : Memref sig .tc .smem S19 .i32).view.loc (c : Thread nD τ) ↦{fullShare.right} T)
            ∗ (y.view.loc (c : Thread nD τ) ↦[y.view.set]{fullShare}
                y.view.rep (step i (count T i) X (k0_pay10 G') (k0_pay11 U') (k0_pay12 W') D))
            ∗ (∃ f, g.view.loc (c : Thread nD τ) ↦[g.view.set]{fullShare} f)
            ∗ (∃ f, u.view.loc (c : Thread nD τ) ↦[u.view.set]{fullShare} f)
            ∗ (∃ f, d.view.loc (c : Thread nD τ) ↦[d.view.set]{fullShare} f)) -∗ K ⟨⟩))
      ⊢ wp frame (wpE (defs₀ (F := F)) Variants.none c none) Set.univ
          (cc0__grouped_ffn_kernel i (Memref.whole main_arg0) (Memref.isWhole_whole _) (Memref.whole main_arg1) (Memref.isWhole_whole _) x hx g' hg' u' hu' d' hd' y hy g hg u hu d hd) K := by
  rw [body_eq]
  iintro ⟨HX, HG', HU', HW', HT, HY, HG, HU, HW, Hk⟩
  unfold smemLoad
  rw [smemLoadElt_bind]
  iapply (wp_smemLoadElt_named Variants.none (c : Thread nD τ) none Set.univ (m := (Memref.whole main_arg1 : Memref sig .tc .smem S19 .i32)) (S := Finset.univ) (q := fullShare.right) (f := T)) $$ HT
  iintro HT %w %hw
  obtain rfl := hw.trans (count_eq T i)
  iapply (cast_wp c (Scalar.cmpi .ne (Scalar.extui (Scalar.cmpi .sgt (count T i) 0#32)) 0#32 = 1#1) g' hg' u' hu' d' hd' g hg u hu d hd)
  isplitl [HG']; · iexact HG'
  isplitl [HU']; · iexact HU'
  isplitl [HW']; · iexact HW'
  isplitl [HG]; · iexact HG
  isplitl [HU]; · iexact HU
  isplitl [HW]; · iexact HW
  iintro ⟨HG', HU', HW', HG, HU, HW⟩
  iapply (block_wp c (k0_cond2 i (count T i) = 1#1) (k0_cond3 (count T i) = 1#1) (k0_cond4 i = 1#1) (k0_cond5 i = 1#1) ![0, 0] inb_S1536x2048_S256x2048_0_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  iapply (block_wp c (k0_cond6 i (count T i) = 1#1) (k0_cond7 (count T i) = 1#1) (k0_cond8 i = 1#1) (k0_cond9 i = 1#1) ![256, 0] inb_S1536x2048_S256x2048_256_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  iapply (block_wp c (k0_cond10 i (count T i) = 1#1) (k0_cond11 (count T i) = 1#1) (k0_cond12 i = 1#1) (k0_cond13 i = 1#1) ![512, 0] inb_S1536x2048_S256x2048_512_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  iapply (block_wp c (k0_cond14 i (count T i) = 1#1) (k0_cond15 (count T i) = 1#1) (k0_cond16 i = 1#1) (k0_cond17 i = 1#1) ![768, 0] inb_S1536x2048_S256x2048_768_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  iapply (block_wp c (k0_cond18 i (count T i) = 1#1) (k0_cond19 (count T i) = 1#1) (k0_cond20 i = 1#1) (k0_cond21 i = 1#1) ![1024, 0] inb_S1536x2048_S256x2048_1024_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  iapply (block_wp c (k0_cond22 i (count T i) = 1#1) (k0_cond23 (count T i) = 1#1) (k0_cond24 i = 1#1) (k0_cond25 i = 1#1) ![1280, 0] inb_S1536x2048_S256x2048_1280_0 x hx y hy g hg u hu d hd)
  isplitl [HX]; · iexact HX
  isplitl [HG]; · iexact HG
  isplitl [HU]; · iexact HU
  isplitl [HW]; · iexact HW
  isplitl [HY]; · iexact HY
  iintro ⟨HX, HG, HU, HW, HY⟩
  have hs : ∀ (p : Prop) [Decidable p], (p ↔ 0 < (count T i).toInt) →
      step i (count T i) X (if p then k0_pay10 G' else G) (if p then k0_pay11 U' else U) (if p then k0_pay12 W' else W) D
        = step i (count T i) X (k0_pay10 G') (k0_pay11 U') (k0_pay12 W') D := fun p _ hp => by
    by_cases h : p
    · rw [if_pos h, if_pos h, if_pos h]
    · exact step_dead i _ (fun h' => h (hp.mpr h')) X _ _ _ _ _ _ D
  rewrite [step_eq, hs _ (sgt_word _ _)]
  sl_step
  iapply Hk
  isplitl [HX]; · iexact HX
  isplitl [HG']; · iexact HG'
  isplitl [HU']; · iexact HU'
  isplitl [HW']; · iexact HW'
  isplitl [HT]; · iexact HT
  isplitl [HY]; · iexact HY
  isplitl [HG]; · iexists _; iexact HG
  isplitl [HU]; · iexists _; iexact HU
  iexists _; iexact HW

end Cert.MoeRun

end
-- ==== Proof.MoeTile.lean ====
module

public import proofs.«01_k».proof.Proof.Swiglu
public import proofs.«01_k».proof.Proof.MoeBody
public import Idealize.ShloMosaic.Lib.Pointwise

/-!
What a point of the grouped feed-forward kernel leaves in the tile's output over the extended reals, entry by entry.
-/
@[expose] public section

set_option maxRecDepth 16384

noncomputable section

namespace Cert.MoeRun

open Cert.MoeIdeal Cert.MoeIdeal.Gen Cert.Swiglu Idealize.ShloMosaic

/-- The weights' blocks as the kernel keeps them. -/
theorem gate_apply (G : Vec Ideal S1x2048x512 .f32) (k : Fin 2048) (s : Fin 512) : k0_pay10 G (ix2 k s) = G (ix3 0 k s) := by
  pointwise [k0_pay10]
theorem up_apply (U : Vec Ideal S1x2048x512 .f32) (k : Fin 2048) (s : Fin 512) : k0_pay11 U (ix2 k s) = U (ix3 0 k s) := by
  pointwise [k0_pay11]
theorem down_apply (W : Vec Ideal S1x512x2048 .f32) (s : Fin 512) (k : Fin 2048) : k0_pay12 W (ix2 s k) = W (ix3 0 s k) := by
  pointwise [k0_pay12]

/-- A row's contribution of 512 hidden units to a lane. -/
def share (h : Fin 2048 → EReal) (G U : S2048x512.Idx → EReal) (W : S512x2048.Idx → EReal) (k : Fin 2048) : EReal :=
  ∑ s : Fin 512, unit h (fun l => G (ix2 l s)) (fun l => U (ix2 l s)) * W (ix2 s k)

theorem zero_apply (i : Fin 256) (k : Fin 2048) : k0_pay1 (F := Ideal) (ix2 i k) = (0 : EReal) := by
  pointwise [k0_pay1]

theorem product_apply (x : Vec Ideal S256x2048 .bf16) (G U : Vec Ideal S2048x512 .bf16) (W : Vec Ideal S512x2048 .bf16)
    (i : Fin 256) (k : Fin 2048) : k0_pay2 x G U W (ix2 i k) = share (fun l => x (ix2 i l)) G U W k := by
  pointwise [k0_pay2]
  rfl

theorem add_apply (x : Vec Ideal S256x2048 .bf16) (G U : Vec Ideal S2048x512 .bf16) (W : Vec Ideal S512x2048 .bf16)
    (acc : Vec Ideal S256x2048 .f32) (i : Fin 256) (k : Fin 2048) :
    k0_pay3 x G U W acc (ix2 i k) = acc (ix2 i k) + share (fun l => x (ix2 i l)) G U W k := by
  pointwise [k0_pay3]
  simp only [product_apply]

/-- An entry after the step of its block of rows, from the entry before it: `live` says whether the block is used,
    `first` whether this is the first column block. -/
def entry (live first : Prop) [Decidable live] [Decidable first] (x : Fin 2048 → EReal) (G U : S2048x512.Idx → EReal)
    (W : S512x2048.Idx → EReal) (k : Fin 2048) (d : EReal) : EReal :=
  if first then (if live then share x G U W k else 0) else if live then d + share x G U W k else d

/-- A block of rows' step at an entry: `entry` at the block's own rows, the entry as it was elsewhere. -/
theorem rows_apply {live first : Prop} [Decidable live] [Decidable first] {b : ℕ} (hb : b % 256 = 0) (n : BitVec 32)
    (hl : live ↔ (b : ℤ) < n.toInt) (inb : ∀ a, (![b, 0] : Fin 2 → ℕ) a + S256x2048.size a ≤ S1536x2048.size a)
    (X : Vec Ideal S1536x2048 .bf16) (G U : Vec Ideal S2048x512 .bf16) (W : Vec Ideal S512x2048 .bf16)
    (D : Vec Ideal S1536x2048 .f32) (r : Fin 1536) (k : Fin 2048) :
    rows live first ![b, 0] inb X G U W D (ix2 r k) = if r.val / 256 * 256 = b
      then entry (((r.val / 256 * 256 : ℕ) : ℤ) < n.toInt) first (fun l => X (ix2 r l)) G U W k (D (ix2 r k)) else D (ix2 r k) := by
  by_cases h : r.val / 256 * 256 = b
  · rw [if_pos h]
    have hr : b ≤ r.val ∧ r.val < b + 256 := by omega
    obtain ⟨y, hy, h0, h1⟩ := place inb (ix2 r k) hr
    have hy' : y = ix2 (n0 := 256) (n1 := 2048) ⟨r.val - b, by omega⟩ k := by
      funext a
      apply Fin.ext
      match a with
      | ⟨0, _⟩ => exact h0
      | ⟨1, _⟩ => exact h1
    have hx : ∀ (l : Fin 2048), (Rect.unit (s := S1536x2048) ![b, 0] S256x2048.size inb).emb (ix2 (n0 := 256) (n1 := 2048) ⟨r.val - b, by omega⟩ l) = ix2 r l := fun l => by
      funext a
      apply Fin.ext
      match a with
      | ⟨0, _⟩ => show b + 1 * (r.val - b) = r.val; omega
      | ⟨1, _⟩ => show 0 + 1 * l.val = l.val; omega
    have e := congrFun (rows_in (live := live) (first := first) ![b, 0] inb X G U W D) y
    rw [hy'] at e
    have e' : rows live first ![b, 0] inb X G U W D (ix2 r k) = _ := (congrArg (rows live first ![b, 0] inb X G U W D) (hx k)).symm.trans e
    rw [e']
    have hw : ∀ l : Fin 2048, VecWindow.window X ![b, 0] S256x2048.size inb (ix2 (n0 := 256) (n1 := 2048) ⟨r.val - b, by omega⟩ l) = X (ix2 r l) := fun l => congrArg X (hx l)
    have hd : VecWindow.window D ![b, 0] S256x2048.size inb (ix2 (n0 := 256) (n1 := 2048) ⟨r.val - b, by omega⟩ k) = D (ix2 r k) := congrArg D (hx k)
    unfold entry
    rw [h]
    by_cases hf : first <;> by_cases hv : live
    · rw [if_pos hf, if_pos hf, if_pos hv, if_pos (hl.mp hv)]
      refine (product_apply _ G U W _ k).trans ?_
      simp only [hw]
    · rw [if_pos hf, if_pos hf, if_neg hv, if_neg (fun h => hv (hl.mpr h))]
      exact zero_apply _ k
    · rw [if_neg hf, if_neg hf, if_pos hv, if_pos (hl.mp hv)]
      refine (add_apply _ G U W _ _ k).trans ?_
      simp only [hw, hd]
    · rw [if_neg hf, if_neg hf, if_neg hv, if_neg (fun h => hv (hl.mpr h))]
      exact hd
  · rw [if_neg h]
    exact rows_out inb X G U W D (ix2 r k) (show r.val < b ∨ b + 256 ≤ r.val by omega)

/-- The whole step at an entry. -/
theorem step_apply (i : grid0.Coords) (n : BitVec 32) (X : Vec Ideal S1536x2048 .bf16) (G U : Vec Ideal S2048x512 .bf16)
    (W : Vec Ideal S512x2048 .bf16) (D : Vec Ideal S1536x2048 .f32) (r : Fin 1536) (k : Fin 2048) :
    step i n X G U W D (ix2 r k) = entry (((r.val / 256 * 256 : ℕ) : ℤ) < n.toInt) ((i 1).val = 0) (fun l => X (ix2 r l)) G U W k (D (ix2 r k)) := by
  unfold step
  rw [rows_apply (live := 1280 < n.toInt) (b := 1280) (by decide) n Iff.rfl, rows_apply (live := 1024 < n.toInt) (b := 1024) (by decide) n Iff.rfl, rows_apply (live := 768 < n.toInt) (b := 768) (by decide) n Iff.rfl,
    rows_apply (live := 512 < n.toInt) (b := 512) (by decide) n Iff.rfl, rows_apply (live := 256 < n.toInt) (b := 256) (by decide) n Iff.rfl, rows_apply (live := 0 < n.toInt) (b := 0) (by decide) n Iff.rfl]
  have hr : r.val / 256 < 6 := by omega
  generalize r.val / 256 = q at hr
  interval_cases q <;> rfl

end Cert.MoeRun
end
-- ==== Proof.MoeTables.lean ====
module

public import proofs.«01_k».proof.Proof.MoeBody
public import proofs.«01_k».proof.Pre_in_range
public import Idealize.ShloMosaic.Lib.Pointwise
public import Idealize.ShloMosaic.Lib.ReduceAll

/-!
What the precondition says of the table of experts, and that under it every block of the weights that the
grouped feed-forward kernel reads lies in its array.
-/
@[expose] public section

set_option maxRecDepth 16384

noncomputable section

namespace Cert.Pre_in_range.Moe

open Idealize.ShloMosaic Cert.Pre_in_range Cert.Pre_in_range.Facts

/-- The shape relations the predicate states. -/
theorem facts : Cert.Pre_in_range.Facts where
  bcast_S_S19 := by decide
  reducesTo_S19_S_d0 := by decide
  h_S_ := by decide

/-- The predicate's two comparisons of a word. -/
theorem word_lt (w : BitVec 32) (h : IntOp.andi (BitVec.ofBool ((0#32).sle w)) (BitVec.ofBool (w.slt 8#32)) = 1#1) : w.toNat < 8 := by
  rw [BitVec.sle_eq_decide, BitVec.slt_eq_decide] at h
  obtain ⟨h1, h2⟩ := (show ∀ c d : Bool, IntOp.andi (BitVec.ofBool c) (BitVec.ofBool d) = 1#1 → c = true ∧ d = true by decide) _ _ h
  have h1 := of_decide_eq_true h1
  have h2 := of_decide_eq_true h2
  have e := BitVec.toInt_eq_toNat_cond w
  have e0 : (0#32).toInt = 0 := by decide
  have e8 : (8#32).toInt = 8 := by decide
  have hw := w.isLt
  rw [e0] at h1
  rw [e8] at h2
  split at e <;> omega

variable [Cert.Pre_in_range.Facts] {F : FTy → Type} [FloatOps F]

/-- The predicate holds: every word of the table of experts is below 8. -/
theorem of_pre (E N : IVec S19 32) (X : FVec F S29184x2048 .bf16) (G U : FVec F S8x2048x5632 .f32) (W : FVec F S8x5632x2048 .f32)
    (h : fn E N X G U W = fun _ => 1#1) (j : S19.Idx) : (E j).toNat < 8 :=
  word_lt (E j) (Host.reduce_andi_all _ _ _ _ ix0 (congrFun h ix0) j)

end Cert.Pre_in_range.Moe

namespace Cert.MoeRun

open Cert.MoeIdeal Cert.MoeIdeal.Gen Idealize.ShloMosaic

variable {F : FTy → Type} [FloatOps F]

/-- The word of a table that an index map reads is the tile's. -/
theorem at_tile (pf : pre0.Contents (Elt F)) (i : grid0.Coords) :
    pf.at 0 (Rect.unit (s := S19) (k0_off1 i) S1.size (k0_off1_inb i)) numel1_S1 = count (pf (0 : Fin 2)) i
    ∧ pf.at 1 (Rect.unit (s := S19) (k0_off1 i) S1.size (k0_off1_inb i)) numel1_S1 = count (pf (1 : Fin 2)) i := by
  constructor
  · refine congrArg (pf (0 : Fin 2)) (funext fun b => Fin.ext ?_)
    match b with
    | ⟨0, _⟩ => exact (congrArg (· 0) (k0_off1_eq i) : k0_off1 i 0 = _)
  · refine congrArg (pf (1 : Fin 2)) (funext fun b => Fin.ext ?_)
    match b with
    | ⟨0, _⟩ => exact (congrArg (· 0) (k0_off1_eq i) : k0_off1 i 0 = _)

/-- The column block an index map names. -/
def column (n : BitVec 32) (i : grid0.Coords) : ℕ :=
  (Scalar.select (Scalar.cmpi .sgt n 0#32) (BitVec.ofNat 32 (i 1).val) 10#32).toNat

theorem column_lt (n : BitVec 32) (i : grid0.Coords) : column n i < 11 :=
  (show ∀ (p : BitVec 1) (f : Fin 11), (Scalar.select p (BitVec.ofNat 32 f.val) 10#32).toNat < 11 by decide) _ (i 1)

/-- Of a tile with rows it is the point's own. -/
theorem column_eq (n : BitVec 32) (i : grid0.Coords) (h : 0 < n.toInt) : column n i = (i 1).val := by
  have e : Scalar.cmpi .sgt n 0#32 = BitVec.ofBool ((0#32).slt n) := rfl
  rw [column, e, BitVec.slt_eq_decide, decide_eq_true (show (0#32).toInt < n.toInt from h)]
  exact (show ∀ f : Fin 11, (Scalar.select (BitVec.ofBool true) (BitVec.ofNat 32 f.val) 10#32).toNat = f.val by decide) (i 1)

/-- The index maps of the three weights. -/
theorem map_1 (pf : pre0.Contents (Elt F)) (i : grid0.Coords) :
    cc0_transform_1 k0_off1_inb numel1_S1 pf i = ![BitVec.toNat (count (pf (0 : Fin 2)) i), 0, column (count (pf (1 : Fin 2)) i) i] := by
  rw [← (at_tile pf i).1, ← (at_tile pf i).2]; rfl
theorem map_2 (pf : pre0.Contents (Elt F)) (i : grid0.Coords) :
    cc0_transform_2 k0_off1_inb numel1_S1 pf i = ![BitVec.toNat (count (pf (0 : Fin 2)) i), 0, column (count (pf (1 : Fin 2)) i) i] := by
  rw [← (at_tile pf i).1, ← (at_tile pf i).2]; rfl
theorem map_3 (pf : pre0.Contents (Elt F)) (i : grid0.Coords) :
    cc0_transform_3 k0_off1_inb numel1_S1 pf i = ![BitVec.toNat (count (pf (0 : Fin 2)) i), column (count (pf (1 : Fin 2)) i) i, 0] := by
  rw [← (at_tile pf i).1, ← (at_tile pf i).2]; rfl

/-- With every expert below 8 the blocks lie in their arrays. -/
theorem tables_ok (pf : pre0.Contents (Elt F)) (h : ∀ j : S19.Idx, BitVec.toNat (pf (0 : Fin 2) j) < 8) : ok0 pf := by
  have hc : ∀ n i, column n i < 11 := column_lt
  refine ⟨fun i => ⟨fun a => ?_, .inl rfl⟩, fun i => ⟨fun a => ?_, .inl rfl⟩, fun i => ⟨fun a => ?_, .inl rfl⟩⟩
  · rw [map_1]
    match a with
    | ⟨0, _⟩ => exact (by omega : ∀ n, n < 8 → (n + 1) * 1 ≤ 8) _ (h _)
    | ⟨1, _⟩ => exact (by decide : (0 + 1) * 2048 ≤ 2048)
    | ⟨2, _⟩ => exact (by omega : ∀ n, n < 11 → (n + 1) * 512 ≤ 5632) _ (hc _ i)
  · rw [map_2]
    match a with
    | ⟨0, _⟩ => exact (by omega : ∀ n, n < 8 → (n + 1) * 1 ≤ 8) _ (h _)
    | ⟨1, _⟩ => exact (by decide : (0 + 1) * 2048 ≤ 2048)
    | ⟨2, _⟩ => exact (by omega : ∀ n, n < 11 → (n + 1) * 512 ≤ 5632) _ (hc _ i)
  · rw [map_3]
    match a with
    | ⟨0, _⟩ => exact (by omega : ∀ n, n < 8 → (n + 1) * 1 ≤ 8) _ (h _)
    | ⟨1, _⟩ => exact (by omega : ∀ n, n < 11 → (n + 1) * 512 ≤ 5632) _ (hc _ i)
    | ⟨2, _⟩ => exact (by decide : (0 + 1) * 2048 ≤ 2048)

end Cert.MoeRun
end
-- ==== Proof.MoeFrame.lean ====
module

public import proofs.«01_k».proof.Proof.MoeBody

@[expose] public section

set_option maxRecDepth 16384

noncomputable section

/-!
The run of the grouped feed-forward kernel, at any tables under which its blocks lie in their arrays.

The tables steer which expert's weights a tile reads and how many of its rows are used, so they stay
variables: `a` is a pair of tables together with the region's side condition on them, and the launch
memory is assumed to hold these tables.
-/

namespace Cert.MoeRun

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds' resources are all the resources. -/
abbrev rounds : Emb (UR sig nD τ) 𝕄 := emb₁

variable (a : (pcfg0 (F := F)).Adm)

/-- The pipeline at the tables. -/
abbrev cfgA : Pipeline.Cfg sig Λ₀ := cfg0 (F := F) a
/-- The program's one pipeline. -/
abbrev pcs : Fin 1 → Pipeline.Cfg sig Λ₀ := Pipeline.pin (pcfgs (F := F)) fun _ => a
/-- A point's coordinates: the tile and the column block of the hidden layer. -/
abbrev crd (t : Fin (cfgA a).N) : grid0.Coords := (cfgA a).grid.coords t
/-- The row counts. -/
abbrev counts : S19.Idx → Elt F .i32 := a.1 (1 : Fin 2)

/-! ## The grid -/

theorem crd_tile : ∀ t : Fin grid0.N, (grid0.coords t 0).val = t.val / 11 := by decide +kernel
theorem crd_col : ∀ t : Fin grid0.N, (grid0.coords t 1).val = t.val % 11 := by decide +kernel

/-- The output's block is written back at a tile's last column block. -/
theorem flush_out (t : Fin (cfgA a).N) : ((cfgA a).win (4 : Fin 5)).flush t = decide (t.val % 11 = 10) := by
  rw [Window.flush_eq_flushF]
  show (true && (decide (t.val + 1 = grid0.N) || decide (∃ h : t.val + 1 < grid0.N, ∃ b, cc0_transform_4 (grid0.coords ⟨t.val + 1, h⟩) b ≠ cc0_transform_4 (grid0.coords t) b))) = _
  exact (show ∀ t : Fin grid0.N, (true && (decide (t.val + 1 = grid0.N) || decide (∃ h : t.val + 1 < grid0.N, ∃ b, cc0_transform_4 (grid0.coords ⟨t.val + 1, h⟩) b ≠ cc0_transform_4 (grid0.coords t) b))) = decide (t.val % 11 = 10) by decide +kernel) t

/-- The word of the row counts that tells whether a point leaves the output alone is the tile's. -/
theorem idle_word (i : grid0.Coords) : a.1.atD (1 : Fin 2) (k0_off1 i) = count (counts a) i := by
  have hb : ∀ b : Fin 1, k0_off1 i b + 1 ≤ S19.size b := fun b => match b with | ⟨0, _⟩ => k0_off1_inb i 0
  refine (dif_pos (c := ∀ b : Fin 1, k0_off1 i b + 1 ≤ S19.size b) hb).trans ?_
  refine congrArg (a.1 (1 : Fin 2)) (funext fun b => Fin.ext ?_)
  match b with
  | ⟨0, _⟩ => exact (congrArg (· 0) (k0_off1_eq i) : k0_off1 i 0 = _)

/-- A point that leaves the output alone is a later column block of a tile of no rows. -/
theorem of_idle (i : grid0.Coords) (h : (cfgA a).idle (4 : Fin 5) i = true) :
    ¬0 < (count (counts a) i).toInt ∧ ¬(i 1).val = 0 := by
  change idle0 a.1 4 i = true at h
  simp only [idle0, Bool.and_eq_true, Bool.not_eq_true', Bool.and_eq_false_iff, beq_eq_false_iff_ne, ne_eq] at h
  have h2 := h.1.1.1.1.1.1.1.1.1.1.1.1.1.1.1.1.1
  have h4 := h.1.1.1.1.1.1.1.1.1.1.1.1.1.1.1.1.2
  have h5 := h.1.1.1.1.1.1.1.1.1.1.1.1.1.1.1.2
  have e2 := (zero_word (count (counts a) i) 0#32 _).trans (and_congr_right fun _ => col_zero i)
  have e3 := sgt_word (count (counts a) i) 0#32
  have e4 := col_first i
  have e5 := col_later i
  change k0_cond2 i _ = 1#1 ↔ ¬0 < (count (counts a) i).toInt ∧ _ at e2
  change k0_cond3 _ = 1#1 ↔ 0 < (count (counts a) i).toInt at e3
  change k0_cond4 i = 1#1 ↔ _ at e4
  change k0_cond5 i = 1#1 ↔ _ at e5
  rw [idle_word, e2] at h2
  rw [idle_word, e3, e4] at h4
  rw [idle_word, e3, e5] at h5
  clear e2 e3 e4 e5 h
  by_cases hf : (i 1).val = 0
  · exact absurd ⟨fun h => h4.elim (· h) (· hf), hf⟩ h2
  · exact ⟨fun h => h5.elim (· h) (· hf), hf⟩

/-- Before the first column block of each tile, and there alone, nothing of the output is known. -/
theorem fresh_out (t : Fin (cfgA a).N) : (cfgA a).fresh (4 : Fin 5) t.val = decide (t.val % 11 = 0) := by
  refine Pipeline.Cfg.fresh_tab (cfgA a) (4 : Fin 5) (fun n => decide (n % 11 = 0)) rfl (fun t => ?_) t.val (Nat.le_of_lt t.isLt)
  rw [flush_out]
  have hc : (crd a t 1).val = t.val % 11 := crd_col t
  by_cases h : t.val % 11 = 10
  · simp only [h, decide_true, Bool.true_or, decide_eq_true_eq]; omega
  · have h1 : ¬(t.val + 1) % 11 = 0 := by omega
    by_cases h0 : t.val % 11 = 0
    · have hi : (cfgA a).idle (4 : Fin 5) ((cfgA a).grid.coords t) = false := by
        cases hi : (cfgA a).idle (4 : Fin 5) ((cfgA a).grid.coords t) with
        | false => rfl
        | true => exact absurd (hc.trans h0) (of_idle a _ hi).2
      rw [hi]
      simp only [h, h1, decide_false, Bool.false_or, Bool.false_and]
    · simp only [h, h1, h0, decide_false, Bool.false_or, Bool.and_false]

variable (m : (ℓ : Loc nD τ sig) → Buf (Elt F) ℓ) (ρ : Dev nD → PrngReg)

/-! ## What the pipeline holds point by point -/

/-- The staging buffer of each window at a point. -/
abbrev stX (t : Fin (cfgA a).N) : Memref sig .tc .vmem S1536x2048 .bf16 := spec0_0.stage ((cfgA a).slots t (0 : Fin 5))
abbrev stG (t : Fin (cfgA a).N) : Memref sig .tc .vmem S1x2048x512 .f32 := spec0_1.stage ((cfgA a).slots t (1 : Fin 5))
abbrev stU (t : Fin (cfgA a).N) : Memref sig .tc .vmem S1x2048x512 .f32 := spec0_2.stage ((cfgA a).slots t (2 : Fin 5))
abbrev stW (t : Fin (cfgA a).N) : Memref sig .tc .vmem S1x512x2048 .f32 := spec0_3.stage ((cfgA a).slots t (3 : Fin 5))
abbrev stY (t : Fin (cfgA a).N) : Memref sig .tc .vmem S1536x2048 .f32 := spec0_4.stage ((cfgA a).slots t (4 : Fin 5))

/-- A window's block at a point, of the array at launch. -/
def iblk (c : Dev nD) (w : Fin (cfgA a).W) (t : Fin (cfgA a).N) :
    (((cfgA a).win w).xblock ((cfgA a).grid.coords t)).Idx → Elt F ((cfgA a).win w).elt :=
  (((cfgA a).win w).blk t).view.read (Elt F) ((s₀ m ρ).mem (((cfgA a).win w).arr.view.loc (c : Thread nD τ)))

/-- The output's staging buffer after the body at a point, from what it held. -/
def point (c : Dev nD) (t : Fin (cfgA a).N) (D : S1536x2048.Idx → Elt F .f32) : S1536x2048.Idx → Elt F .f32 :=
  step (crd a t) (count (counts a) (crd a t)) (iblk a m ρ c (0 : Fin 5) t) (k0_pay10 (iblk a m ρ c (1 : Fin 5) t))
    (k0_pay11 (iblk a m ρ c (2 : Fin 5) t)) (k0_pay12 (iblk a m ρ c (3 : Fin 5) t)) D

/-- The output's staging buffer after each point. -/
def traj (c : Dev nD) : (n : ℕ) → n < (cfgA a).N → S1536x2048.Idx → Elt F .f32
  | 0, h => point a m ρ c ⟨0, h⟩ (iblk a m ρ c (4 : Fin 5) ⟨0, h⟩)
  | n + 1, h => point a m ρ c ⟨n + 1, h⟩ (traj c n (Nat.lt_of_succ_lt h))

/-- What is held between points: the scratch buffers at anything, and the tables. -/
def between (c : Dev nD) : sProp 𝕄 :=
  iprop((∃ f, (Memref.whole cc0_scratch0 : Memref sig .tc .vmem S2048x512 .bf16).view.loc (c : Thread nD τ) ↦[(Memref.whole cc0_scratch0 : Memref sig .tc .vmem S2048x512 .bf16).view.set]{fullShare} f)
    ∗ (∃ f, (Memref.whole cc0_scratch1 : Memref sig .tc .vmem S2048x512 .bf16).view.loc (c : Thread nD τ) ↦[(Memref.whole cc0_scratch1 : Memref sig .tc .vmem S2048x512 .bf16).view.set]{fullShare} f)
    ∗ (∃ f, (Memref.whole cc0_scratch2 : Memref sig .tc .vmem S512x2048 .bf16).view.loc (c : Thread nD τ) ↦[(Memref.whole cc0_scratch2 : Memref sig .tc .vmem S512x2048 .bf16).view.set]{fullShare} f)
    ∗ ((Memref.whole main_arg0 : Memref sig .tc .smem S19 .i32).view.loc (c : Thread nD τ) ↦{fullShare.right} a.1 (0 : Fin 2))
    ∗ ((Memref.whole main_arg1 : Memref sig .tc .smem S19 .i32).view.loc (c : Thread nD τ) ↦{fullShare.right} a.1 (1 : Fin 2)))

/-- The pipeline's data: the inputs' blocks, the output's contents, and between points the scratch buffers
    at anything and the tables. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => traj a m ρ c t.val t.isLt
  Φ _ := between a c
  q _ := fullShare
  owed _ := 0

/-- The output's contents after a point, from those after the point before it. -/
theorem after_out (c : Dev nD) (t : Fin (cfgA a).N) : (dats a m ρ 0 c).after (4 : Fin 5) t = traj a m ρ c t.val t.isLt := rfl

theorem traj_pos (c : Dev nD) (t : Fin (cfgA a).N) (ht : t.val ≠ 0) :
    traj a m ρ c t.val t.isLt = point a m ρ c t (traj a m ρ c (t.val - 1) (by omega)) := by
  obtain ⟨n, hn⟩ := t
  cases n with
  | zero => exact absurd rfl ht
  | succ n => rfl

/-- At a tile's first column block the contents before it do not matter. -/
theorem traj_first (c : Dev nD) (t : Fin (cfgA a).N) (ht : t.val % 11 = 0) (D : S1536x2048.Idx → Elt F .f32) :
    traj a m ρ c t.val t.isLt = point a m ρ c t D := by
  have hc : (crd a t 1).val = 0 := (crd_col t).trans ht
  obtain ⟨n, hn⟩ := t
  cases n with
  | zero => exact step_first _ _ hc _ _ _ _ _ _
  | succ n => exact step_first _ _ hc _ _ _ _ _ _

/-- A point that leaves the output alone leaves it as it was. -/
theorem point_idle (c : Dev nD) (t : Fin (cfgA a).N) (h : (cfgA a).idle (4 : Fin 5) ((cfgA a).grid.coords t) = true)
    (D : S1536x2048.Idx → Elt F .f32) : point a m ρ c t D = D :=
  step_idle _ _ (of_idle a _ h).1 (of_idle a _ h).2 _ _ _ _ _

/-- An input window's buffer holds its block when the body runs. -/
theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun _ => rfl) t d).trans rfl
theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun _ => rfl) t d).trans rfl
theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun _ => rfl) t d).trans rfl
theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun _ => rfl) t d).trans rfl

/-- The output's buffer when the body runs: anything at a tile's first column block, else what the point
    before left. -/
theorem before_out (c : Dev nD) (t : Fin (cfgA a).N) (d) :
    (dats a m ρ 0 c).before (4 : Fin 5) t d = if t.val % 11 = 0 then d else traj a m ρ c (t.val - 1) (by omega) := by
  rw [(dats a m ρ 0 c).before_out_traj (4 : Fin 5) rfl (fun _ _ => rfl) (fun t ht hi _ => by
    rw [after_out, traj_pos a m ρ c t ht, point_idle a m ρ c t hi]; rfl) t.val t rfl d, fresh_out]
  by_cases h : t.val % 11 = 0
  · simp only [h, decide_true, ↓reduceIte]
  · simp only [h, decide_false, Bool.false_eq_true, ↓reduceIte]; rfl

/-- The body takes the output from what it held to what the data say. -/
theorem point_before (c : Dev nD) (t : Fin (cfgA a).N) (d) :
    point a m ρ c t ((dats a m ρ 0 c).before (4 : Fin 5) t d) = traj a m ρ c t.val t.isLt := by
  by_cases h : t.val % 11 = 0
  · exact (traj_first a m ρ c t h _).symm
  · rw [before_out, if_neg h, traj_pos a m ρ c t (fun h0 => h (by rw [h0]))]

/-! ## The body at a point -/

/-- The output's buffer as the body leaves it is held as the pipeline asks: as it was found where the point
    leaves it alone and does not write it back, else at what the data say. -/
theorem out_held (c : Dev nD) (t : Fin (cfgA a).N) (d) :
    (owns (c : Thread nD τ) (stY a t) fullShare (point a m ρ c t ((dats a m ρ 0 c).before (4 : Fin 5) t d)) : sProp 𝕄) ⊢
      (match (cfgA a).idle (4 : Fin 5) ((cfgA a).grid.coords t) with
        | true =>
          match ((cfgA a).win (4 : Fin 5)).flush t with
          | false => iprop(∃ d, owns (c : Thread nD τ) (stY a t) fullShare ((dats a m ρ 0 c).before (4 : Fin 5) t d))
          | true => owns (c : Thread nD τ) (stY a t) fullShare ((dats a m ρ 0 c).after (4 : Fin 5) t)
        | false => owns (c : Thread nD τ) (stY a t) fullShare ((dats a m ρ 0 c).after (4 : Fin 5) t)) := by
  rw [after_out]
  split
  · rename_i hi
    split
    · rw [point_idle a m ρ c t hi]
      iintro H
      iexists d
      iexact H
    · rw [point_before]
  · rw [point_before]

set_option maxHeartbeats 4000000 in
/-- The body at a point takes the data from before it to after it. -/
theorem sound_body (c : Dev nD) (t : Fin (cfgA a).N) :
    iprop((dats a m ρ 0 c).Φ t.castSucc ∗ (dats a m ρ 0 c).owesAt () t.castSucc
        ∗ (∃ d, owns (c : Thread nD τ) (stX a t) fullShare ((dats a m ρ 0 c).before (0 : Fin 5) t d))
        ∗ (∃ d, owns (c : Thread nD τ) (stG a t) fullShare ((dats a m ρ 0 c).before (1 : Fin 5) t d))
        ∗ (∃ d, owns (c : Thread nD τ) (stU a t) fullShare ((dats a m ρ 0 c).before (2 : Fin 5) t d))
        ∗ (∃ d, owns (c : Thread nD τ) (stW a t) fullShare ((dats a m ρ 0 c).before (3 : Fin 5) t d))
        ∗ (∃ d, owns (c : Thread nD τ) (stY a t) fullShare ((dats a m ρ 0 c).before (4 : Fin 5) t d)))
      ⊢ wp frame (wpE (defs₀ (F := F)) Variants.none c none) Set.univ
          (cc0__grouped_ffn_kernel (crd a t) (Memref.whole main_arg0) (Memref.isWhole_whole _) (Memref.whole main_arg1) (Memref.isWhole_whole _)
            (stX a t) (hstage0_0 (((cfgA a).slots t (0 : Fin 5)).cast nbuf0_0)) (stG a t) (hstage0_1 (((cfgA a).slots t (1 : Fin 5)).cast nbuf0_1))
            (stU a t) (hstage0_2 (((cfgA a).slots t (2 : Fin 5)).cast nbuf0_2)) (stW a t) (hstage0_3 (((cfgA a).slots t (3 : Fin 5)).cast nbuf0_3))
            (stY a t) (hstage0_4 (((cfgA a).slots t (4 : Fin 5)).cast nbuf0_4))
            (Memref.whole cc0_scratch0) (Memref.isWhole_whole _) (Memref.whole cc0_scratch1) (Memref.isWhole_whole _) (Memref.whole cc0_scratch2) (Memref.isWhole_whole _)) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  simp only [before_0, before_1, before_2, before_3]
  rewrite [show (dats a m ρ 0 c).Φ t.succ = between a c from rfl, show (dats a m ρ 0 c).Φ t.castSucc = between a c from rfl,
    show (dats a m ρ 0 c).owesAt () t.succ = (dats a m ρ 0 c).owesAt () t.castSucc from rfl]
  unfold between
  iintro ⟨⟨⟨%f0, HS0⟩, ⟨%f1, HS1⟩, ⟨%f2, HS2⟩, HT0, HT1⟩, Ho, ⟨%d0, H0⟩, ⟨%d1, H1⟩, ⟨%d2, H2⟩, ⟨%d3, H3⟩, ⟨%d4, H4⟩⟩
  iapply (body_wp c (crd a t) (stX a t) (hstage0_0 (((cfgA a).slots t (0 : Fin 5)).cast nbuf0_0)) (stG a t) (hstage0_1 (((cfgA a).slots t (1 : Fin 5)).cast nbuf0_1))
    (stU a t) (hstage0_2 (((cfgA a).slots t (2 : Fin 5)).cast nbuf0_2)) (stW a t) (hstage0_3 (((cfgA a).slots t (3 : Fin 5)).cast nbuf0_3))
    (stY a t) (hstage0_4 (((cfgA a).slots t (4 : Fin 5)).cast nbuf0_4))
    (Memref.whole cc0_scratch0) (Memref.isWhole_whole _) (Memref.whole cc0_scratch1) (Memref.isWhole_whole _) (Memref.whole cc0_scratch2) (Memref.isWhole_whole _)
    (counts a) (iblk a m ρ c (0 : Fin 5) t) (iblk a m ρ c (1 : Fin 5) t) (iblk a m ρ c (2 : Fin 5) t) (iblk a m ρ c (3 : Fin 5) t)
    ((dats a m ρ 0 c).before (4 : Fin 5) t d4)
    ((Memref.whole cc0_scratch0 : Memref sig .tc .vmem S2048x512 .bf16).view.read (Elt F) f0)
    ((Memref.whole cc0_scratch1 : Memref sig .tc .vmem S2048x512 .bf16).view.read (Elt F) f1)
    ((Memref.whole cc0_scratch2 : Memref sig .tc .vmem S512x2048 .bf16).view.read (Elt F) f2))
  isplitl [H0]; · iapply rep_of_owns; iexact H0
  isplitl [H1]; · iapply rep_of_owns; iexact H1
  isplitl [H2]; · iapply rep_of_owns; iexact H2
  isplitl [H3]; · iapply rep_of_owns; iexact H3
  isplitl [HT1]; · iexact HT1
  isplitl [H4]; · iapply rep_of_owns; iexact H4
  isplitl [HS0]
  · iapply rep_of_owns; unfold owns; iexists f0; isplitr; swap
    · iexact HS0
    · ipureintro; rfl
  isplitl [HS1]
  · iapply rep_of_owns; unfold owns; iexists f1; isplitr; swap
    · iexact HS1
    · ipureintro; rfl
  isplitl [HS2]
  · iapply rep_of_owns; unfold owns; iexists f2; isplitr; swap
    · iexact HS2
    · ipureintro; rfl
  iintro ⟨H0, H1, H2, H3, HT1, H4, HS0, HS1, HS2⟩
  isplitl [HS0 HS1 HS2 HT0 HT1]
  · isplitl [HS0]; · iexact HS0
    isplitl [HS1]; · iexact HS1
    isplitl [HS2]; · iexact HS2
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  rewrite [show step (crd a t) (count (counts a) (crd a t)) (iblk a m ρ c (0 : Fin 5) t) (k0_pay10 (iblk a m ρ c (1 : Fin 5) t))
    (k0_pay11 (iblk a m ρ c (2 : Fin 5) t)) (k0_pay12 (iblk a m ρ c (3 : Fin 5) t)) ((dats a m ρ 0 c).before (4 : Fin 5) t d4)
      = point a m ρ c t ((dats a m ρ 0 c).before (4 : Fin 5) t d4) from rfl]
  iapply (out_held a m ρ c t d4)
  iapply owns_of_rep; iexact H4

/-- The body's obligation, at every point. -/
theorem body_obligation (c : Dev nD) : BodyObligation (dats a m ρ 0 c) (defs₀ (F := F)) Variants.none () Set.univ := fun t => by
  rw [bigSep_W0]
  exact sound_body a m ρ c t

/-! ## The launch -/

/-- The launch's resources. -/
def start : UR sig nD τ :=
  initOf (Pipeline.cells (pcs a) ((launch0 (F := F)).cellOf_inj fun _ => a))
    (Pipeline.launchToks (pcs a) ((launch0 (F := F)).cellOf_inj fun _ => a))

theorem share_full (c : Dev nD) (w : Fin (cfgA a).W) : (dats a m ρ 0 c).share w = fullShare := by
  unfold Dat.share; split <;> rfl

/-- The tables as the region is handed them, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What is held between points, the scratch buffers held whole. -/
theorem between_eq (c : Dev nD) : between a c = iprop((∃ f, (c : Thread nD τ).loc cc0_scratch0 ↦{fullShare} f)
    ∗ (∃ f, (c : Thread nD τ).loc cc0_scratch1 ↦{fullShare} f) ∗ (∃ f, (c : Thread nD τ).loc cc0_scratch2 ↦{fullShare} f)
    ∗ ((c : Thread nD τ).loc main_arg0 ↦{fullShare.right} a.1 (0 : Fin 2))
    ∗ ((c : Thread nD τ).loc main_arg1 ↦{fullShare.right} a.1 (1 : Fin 2))) := by
  unfold between
  rw [(Memref.isWhole_whole cc0_scratch0).set_eq_univ, (Memref.isWhole_whole cc0_scratch1).set_eq_univ, (Memref.isWhole_whole cc0_scratch2).set_eq_univ]

/-- At the first point the tables and the scratch buffers are held; -/
theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = between a c from rfl, between_eq]
  iintro ⟨-, ⟨HT0, HT1⟩, HS0, HS1, HS2⟩
  isplitl [HS0]; · iexact HS0
  isplitl [HS1]; · iexact HS1
  isplitl [HS2]; · iexact HS2
  isplitl [HT0]; · iexact HT0
  iexact HT1

/-- at the last the scratch buffers are given back. -/
theorem leave (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = between a c from rfl, between_eq]
  iintro ⟨HS0, HS1, HS2, -, -⟩
  isplitr; · iempintro
  isplitl [HS0]; · iexact HS0
  isplitl [HS1]; · iexact HS1
  iexact HS2

/-- The state the run ends in: every window's array at what the pipeline leaves in it, the tables as they
    were. -/
def Final : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a launch memory that holds the tables, every weakly fair execution terminates in `Final` with every
    semaphore counter at zero. -/
theorem run_main (hp : ∀ (c : Dev nD) (j : Fin 2), m ((c : Thread nD τ).loc (pre0.ref j)) = a.1 j) :
    θ_run (defs (F := F)) (onTc (τ := τ) (main (F := F))) (s₀ m ρ) (fun r => Final a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre rounds defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with its result array named and its arguments unchanged. -/
theorem run_out (hp : ∀ (c : Dev nD) (j : Fin 2), m ((c : Thread nD τ).loc (pre0.ref j)) = a.1 j) :
    θ_run (defs (F := F)) (onTc (τ := τ) (main (F := F))) (s₀ m ρ) (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_main a m ρ hp)

end Cert.MoeRun

end
-- ==== Proof.MoeArray.lean ====
module

public import proofs.«01_k».proof.Proof.MoeTile
public import proofs.«01_k».proof.Proof.MoeTables
public import proofs.«01_k».proof.Proof.MoeFrame
public import Idealize.ShloMosaic.Lib.Pipeline.ValueKit

/-!
What the grouped feed-forward kernel's result array holds: at a row of a used block the feed-forward of its tile's expert,
the sum over all 5632 hidden units, and zero at any other row.
-/
@[expose] public section

set_option maxRecDepth 16384

noncomputable section

namespace Cert.MoeRun

open Cert.MoeIdeal Cert.MoeIdeal.Gen Cert.Swiglu Idealize.ShloMosaic Idealize.ShloMosaic.TcCoe Idealize.SL.Sem

variable (a : (pcfg0 (F := Ideal)).Adm) (m : (ℓ : Loc nD τ sig) → Buf (Elt Ideal) ℓ) (ρ : Dev nD → PrngReg) (c : Dev nD)

/-- The rows, as launched. -/
abbrev argX : S29184x2048.Idx → EReal := m ((c : Thread nD τ).loc main_arg2)
/-- The experts' gate projections. -/
abbrev argWg : S8x2048x5632.Idx → EReal := m ((c : Thread nD τ).loc main_arg3)
/-- The experts' up projections. -/
abbrev argWu : S8x2048x5632.Idx → EReal := m ((c : Thread nD τ).loc main_arg4)
/-- The experts' down projections. -/
abbrev argWd : S8x5632x2048.Idx → EReal := m ((c : Thread nD τ).loc main_arg5)
/-- The table of experts. -/
abbrev tabE (p : Fin 19) : BitVec 32 := a.1 (0 : Fin 2) (ix1 (n0 := 19) p)
/-- The table of row counts. -/
abbrev tabN (p : Fin 19) : BitVec 32 := a.1 (1 : Fin 2) (ix1 (n0 := 19) p)

theorem lt209 (t : Fin (cfgA a).N) : t.val < 209 := t.isLt

/-- A point's tile. -/
abbrev tile (t : Fin (cfgA a).N) : Fin 19 := ⟨t.val / 11, by have := lt209 a t; omega⟩
/-- A tile's expert. -/
abbrev expert (p : Fin 19) : Fin 8 := ⟨(tabE a p).toNat % 8, Nat.mod_lt _ (by decide)⟩

/-- What hidden unit `l` of its tile's expert contributes to row `i` of tile `p` at lane `k`. -/
def lane (p : Fin 19) (i : Fin 1536) (k : Fin 2048) (l : Fin 5632) : EReal :=
  unit (fun k => argX m c (ix2 ⟨p.val * 1536 + i.val, by omega⟩ k)) (fun k => argWg m c (ix3 (expert a p) k l))
    (fun k => argWu m c (ix3 (expert a p) k l)) * argWd m c (ix3 (expert a p) l k)

/-- The word of a table at a point is its tile's. -/
theorem count_tile (T : S19.Idx → Elt Ideal .i32) (t : Fin (cfgA a).N) : count T (crd a t) = T (ix1 (n0 := 19) (tile a t)) :=
  congrArg T (funext fun b => Fin.ext (match b with | ⟨0, _⟩ => crd_tile t))

theorem index0 : ∀ t : Fin grid0.N, cc0_transform_0 (grid0.coords t) 0 = t.val / 11 ∧ cc0_transform_0 (grid0.coords t) 1 = 0 := by decide +kernel
theorem index4 : ∀ t : Fin grid0.N, cc0_transform_4 (grid0.coords t) 0 = t.val / 11 ∧ cc0_transform_4 (grid0.coords t) 1 = 0 := by decide +kernel

/-- A tile's rows. -/
theorem blockX (t : Fin (cfgA a).N) (i : Fin 1536) (k : Fin 2048) :
    (iblk a m ρ c (0 : Fin 5) t : Vec Ideal S1536x2048 .bf16) (ix2 i k) = argX m c (ix2 ⟨t.val / 11 * 1536 + i.val, by have := lt209 a t; omega⟩ k) := by
  unfold iblk
  rw [View.read_apply]
  show m _ _ = m _ _
  congr 1
  funext b
  apply Fin.ext
  match b with
  | ⟨0, _⟩ => show cc0_transform_0 (grid0.coords t) 0 * 1536 + 1 * i.val = t.val / 11 * 1536 + i.val; rw [(index0 t).1]; omega
  | ⟨1, _⟩ => show cc0_transform_0 (grid0.coords t) 1 * 2048 + 1 * k.val = k.val; rw [(index0 t).2]; omega

variable (he : ∀ j : S19.Idx, BitVec.toNat (a.1 (0 : Fin 2) j) < 8)
include he

/-- The expert's index and the column block that a tile with rows reads. -/
theorem index_at (t : Fin (cfgA a).N) (hn : 0 < (tabN a (tile a t)).toInt) :
    BitVec.toNat (count (a.1 (0 : Fin 2)) (crd a t)) = (expert a (tile a t)).val ∧ column (count (a.1 (1 : Fin 2)) (crd a t)) (crd a t) = t.val % 11 := by
  constructor
  · exact (congrArg BitVec.toNat (count_tile a _ t)).trans (Nat.mod_eq_of_lt (he _)).symm
  · exact (congrArg (fun n => column n (crd a t)) (count_tile a _ t)).trans ((column_eq _ _ hn).trans (crd_col t))

/-- A block of the expert's gate projection. -/
theorem blockWg (t : Fin (cfgA a).N) (hn : 0 < (tabN a (tile a t)).toInt) (k : Fin 2048) (s : Fin 512) :
    (iblk a m ρ c (1 : Fin 5) t : Vec Ideal S1x2048x512 .f32) (ix3 0 k s)
      = argWg m c (ix3 (expert a (tile a t)) k ⟨t.val % 11 * 512 + s.val, by omega⟩) := by
  obtain ⟨h1, h2⟩ := index_at a he t hn
  unfold iblk
  rw [View.read_apply]
  show m _ _ = m _ _
  congr 1
  funext b
  apply Fin.ext
  match b with
  | ⟨0, _⟩ => show cc0_transform_1 k0_off1_inb numel1_S1 a.1 (grid0.coords t) 0 * 1 + 1 * 0 = (expert a (tile a t)).val; rw [map_1]; show BitVec.toNat _ * 1 + 1 * 0 = _; rw [h1]; omega
  | ⟨1, _⟩ => show cc0_transform_1 k0_off1_inb numel1_S1 a.1 (grid0.coords t) 1 * 2048 + 1 * k.val = k.val; rw [map_1]; show 0 * 2048 + 1 * k.val = k.val; omega
  | ⟨2, _⟩ => show cc0_transform_1 k0_off1_inb numel1_S1 a.1 (grid0.coords t) 2 * 512 + 1 * s.val = t.val % 11 * 512 + s.val; rw [map_1]; show column _ _ * 512 + 1 * s.val = _; rw [h2]; omega

/-- A block of the expert's up projection. -/
theorem blockWu (t : Fin (cfgA a).N) (hn : 0 < (tabN a (tile a t)).toInt) (k : Fin 2048) (s : Fin 512) :
    (iblk a m ρ c (2 : Fin 5) t : Vec Ideal S1x2048x512 .f32) (ix3 0 k s)
      = argWu m c (ix3 (expert a (tile a t)) k ⟨t.val % 11 * 512 + s.val, by omega⟩) := by
  obtain ⟨h1, h2⟩ := index_at a he t hn
  unfold iblk
  rw [View.read_apply]
  show m _ _ = m _ _
  congr 1
  funext b
  apply Fin.ext
  match b with
  | ⟨0, _⟩ => show cc0_transform_2 k0_off1_inb numel1_S1 a.1 (grid0.coords t) 0 * 1 + 1 * 0 = (expert a (tile a t)).val; rw [map_2]; show BitVec.toNat _ * 1 + 1 * 0 = _; rw [h1]; omega
  | ⟨1, _⟩ => show cc0_transform_2 k0_off1_inb numel1_S1 a.1 (grid0.coords t) 1 * 2048 + 1 * k.val = k.val; rw [map_2]; show 0 * 2048 + 1 * k.val = k.val; omega
  | ⟨2, _⟩ => show cc0_transform_2 k0_off1_inb numel1_S1 a.1 (grid0.coords t) 2 * 512 + 1 * s.val = t.val % 11 * 512 + s.val; rw [map_2]; show column _ _ * 512 + 1 * s.val = _; rw [h2]; omega

/-- A block of the expert's down projection. -/
theorem blockWd (t : Fin (cfgA a).N) (hn : 0 < (tabN a (tile a t)).toInt) (s : Fin 512) (k : Fin 2048) :
    (iblk a m ρ c (3 : Fin 5) t : Vec Ideal S1x512x2048 .f32) (ix3 0 s k)
      = argWd m c (ix3 (expert a (tile a t)) ⟨t.val % 11 * 512 + s.val, by omega⟩ k) := by
  obtain ⟨h1, h2⟩ := index_at a he t hn
  unfold iblk
  rw [View.read_apply]
  show m _ _ = m _ _
  congr 1
  funext b
  apply Fin.ext
  match b with
  | ⟨0, _⟩ => show cc0_transform_3 k0_off1_inb numel1_S1 a.1 (grid0.coords t) 0 * 1 + 1 * 0 = (expert a (tile a t)).val; rw [map_3]; show BitVec.toNat _ * 1 + 1 * 0 = _; rw [h1]; omega
  | ⟨1, _⟩ => show cc0_transform_3 k0_off1_inb numel1_S1 a.1 (grid0.coords t) 1 * 512 + 1 * s.val = t.val % 11 * 512 + s.val; rw [map_3]; show column _ _ * 512 + 1 * s.val = _; rw [h2]; omega
  | ⟨2, _⟩ => show cc0_transform_3 k0_off1_inb numel1_S1 a.1 (grid0.coords t) 2 * 2048 + 1 * k.val = k.val; rw [map_3]; show 0 * 2048 + 1 * k.val = k.val; omega

omit he in
/-- What a point adds to an entry of its tile: its 512 hidden units' contribution at a row of a used block, else nothing. -/
def part (t : Fin (cfgA a).N) (j : S1536x2048.Idx) : EReal :=
  if (((j 0).val / 256 * 256 : ℕ) : ℤ) < (tabN a (tile a t)).toInt then
    ∑ s : Fin 512, lane a m c (tile a t) (j 0) (j 1) ⟨t.val % 11 * 512 + s.val, by omega⟩
  else 0

/-- A point's step at an entry: from zero at the first column block, else from what was there. -/
theorem point_apply (t : Fin (cfgA a).N) (D : S1536x2048.Idx → EReal) (j : S1536x2048.Idx) :
    point a m ρ c t D j = (if t.val % 11 = 0 then 0 else D j) + part a m c t j := by
  idx_vars j
  have hf : (crd a t 1).val = t.val % 11 := crd_col t
  unfold point
  rw [step_apply, count_tile]
  unfold entry part
  rw [hf]
  by_cases hu : ((j0.val / 256 * 256 : ℕ) : ℤ) < (tabN a (tile a t)).toInt
  · have hn : 0 < (tabN a (tile a t)).toInt := by omega
    have e : share (fun l => (iblk a m ρ c (0 : Fin 5) t : Vec Ideal S1536x2048 .bf16) (ix2 j0 l)) (k0_pay10 (iblk a m ρ c (1 : Fin 5) t))
        (k0_pay11 (iblk a m ρ c (2 : Fin 5) t)) (k0_pay12 (iblk a m ρ c (3 : Fin 5) t)) j1
        = ∑ s : Fin 512, lane a m c (tile a t) j0 j1 ⟨t.val % 11 * 512 + s.val, by omega⟩ := by
      unfold share lane
      simp only [gate_apply, up_apply, down_apply, blockX, blockWg a m ρ c he t hn, blockWu a m ρ c he t hn, blockWd a m ρ c he t hn]
    rw [if_pos hu, if_pos hu, e]
    by_cases h0 : t.val % 11 = 0
    · rw [if_pos h0, if_pos h0]
      exact (if_pos hu).symm.trans (zero_add _).symm
    · rw [if_neg h0, if_neg h0]
      exact congrArg _ (if_pos hu).symm
  · rw [if_neg hu, if_neg hu]
    refine Eq.trans ?_ (congrArg _ (if_neg hu).symm)
    by_cases h0 : t.val % 11 = 0
    · rw [if_pos h0]; exact (add_zero _).symm
    · rw [if_neg h0]; exact (add_zero _).symm

theorem traj_reset (t : Fin (cfgA a).N) (h0 : t.val % 11 = 0) (j : S1536x2048.Idx) :
    traj a m ρ c t.val t.isLt j = (fun _ => (0 : EReal)) j + part a m c t j := by
  rw [traj_first a m ρ c t h0 (fun _ => (0 : EReal)), point_apply a m ρ c he, if_pos h0]

theorem traj_step (t : Fin (cfgA a).N) (h0 : ¬t.val % 11 = 0) (j : S1536x2048.Idx) :
    traj a m ρ c t.val t.isLt j = traj a m ρ c (t.val - 1) (Nat.lt_of_le_of_lt (Nat.sub_le _ _) t.isLt) j + part a m c t j := by
  rw [traj_pos a m ρ c t (fun h => h0 (by rw [h])), point_apply a m ρ c he, if_neg h0]

/-- The result at row `r` and lane `k`, of the launch memory. -/
abbrev moeOut (r : Fin 29184) (k : Fin 2048) : EReal :=
  groupedOut (tabE a) (tabN a) (fun r k => argX m c (ix2 r k)) (fun e k l => argWg m c (ix3 e k l)) (fun e k l => argWu m c (ix3 e k l))
    (fun e l k => argWd m c (ix3 e l k)) r k

omit he in
/-- The result at a tile's row. -/
theorem moeOut_at (p : Fin 19) (i : Fin 1536) (k : Fin 2048) :
    moeOut a m c ⟨p.val * 1536 + i.val, by omega⟩ k
      = if ((i.val / 256 * 256 : ℕ) : ℤ) < (tabN a p).toInt then ∑ l : Fin 5632, lane a m c p i k l else 0 := by
  have e3 : ∀ h, (⟨(p.val * 1536 + i.val) / 1536, h⟩ : Fin 19) = p := fun _ => Fin.ext (by show (p.val * 1536 + i.val) / 1536 = p.val; omega)
  have e4 : (p.val * 1536 + i.val) % 1536 = i.val := by omega
  unfold moeOut groupedOut
  simp only [e3, e4]
  rfl

omit he in
/-- What the points of a tile add, by column block. -/
theorem part_at (p : Fin 19) (s : Fin 11) (h : 11 * p.val + s.val < (cfgA a).N) (i : Fin 1536) (k : Fin 2048) :
    part a m c ⟨11 * p.val + s.val, h⟩ (ix2 i k) = if ((i.val / 256 * 256 : ℕ) : ℤ) < (tabN a p).toInt then
      ∑ q : Fin 512, lane a m c p i k ⟨s.val * 512 + q.val, by omega⟩ else 0 := by
  have e : tile a ⟨11 * p.val + s.val, h⟩ = p := Fin.ext (by show (11 * p.val + s.val) / 11 = p.val; omega)
  have e' : (11 * p.val + s.val) % 11 = s.val := by omega
  unfold part
  simp only [e, e']
  rfl

/-- A tile's output at its last column block: the sum over all hidden units at the used rows. -/
theorem traj_last (t : Fin (cfgA a).N) (h1 : t.val % 11 = 10) (i : Fin 1536) (k : Fin 2048) :
    traj a m ρ c t.val t.isLt (ix2 i k) = moeOut a m c ⟨t.val / 11 * 1536 + i.val, by have := lt209 a t; omega⟩ k := by
  rw [Pipeline.eq_sum_fin_of_reset_step_apply_of_flush (traj a m ρ c) 11 (fun _ => (0 : EReal)) (part a m c)
    (traj_reset a m ρ c he) (traj_step a m ρ c he) t h1 (ix2 i k), zero_add]
  refine (Finset.sum_congr rfl fun s _ => part_at a m c (tile a t) s _ i k).trans (Eq.trans ?_ (moeOut_at a m c (tile a t) i k).symm)
  by_cases hu : ((i.val / 256 * 256 : ℕ) : ℤ) < (tabN a (tile a t)).toInt
  · simp only [if_pos hu]
    generalize lane a m c (tile a t) i k = f
    exact Fin.sum_mul_add_congr fun s l hl => rfl
  · simp only [if_neg hu]
    exact Finset.sum_const_zero

/-- The result array. -/
def result : Buf (Elt Ideal) ((c : Thread nD τ).loc main_v0) :=
  fun y : S29184x2048.Idx => moeOut a m c (y 0) (y 1)

/-- Every point that writes back writes its block of it. -/
theorem flushed_eq (t : Fin (cfgA a).N) (hf : ((cfgA a).win (4 : Fin 5)).flush t = true) :
    (dats a m ρ 0 c).flushed (4 : Fin 5) t = (((cfgA a).win (4 : Fin 5)).blk t).view.read (Elt Ideal) (result a m c) := by
  rw [flush_out, decide_eq_true_eq] at hf
  have e := traj_last a m ρ c he t hf
  show ((cfgA a).win (4 : Fin 5)).cut ((cfgA a).grid.coords t) (traj a m ρ c t.val t.isLt) = _
  generalize traj a m ρ c t.val t.isLt = X at e
  funext y
  rw [View.read_apply]
  have hy : (y : S1536x2048.Idx) = ix2 (y 0) (y 1) := by
    funext b
    match b with
    | ⟨0, _⟩ => rfl
    | ⟨1, _⟩ => rfl
  refine Eq.trans (b := X (ix2 (n0 := 1536) (n1 := 2048) (y 0) (y 1))) (congrArg X hy) ((e (y 0) (y 1)).trans ?_)
  show moeOut a m c ⟨_, _⟩ (y 1) = moeOut a m c ((((cfgA a).win (4 : Fin 5)).blk t).view.emb y 0) ((((cfgA a).win (4 : Fin 5)).blk t).view.emb y 1)
  refine congrArg₂ (moeOut a m c) (Fin.ext ?_) (Fin.ext ?_)
  · show t.val / 11 * 1536 + (y 0).val = cc0_transform_4 (grid0.coords t) 0 * 1536 + 1 * (y 0).val
    rw [(index4 t).1]; omega
  · show (y 1).val = cc0_transform_4 (grid0.coords t) 1 * 2048 + 1 * (y 1).val
    rw [(index4 t).2]; omega

/-- The array after the run. -/
theorem final : (dats a m ρ 0 c).arrAt (4 : Fin 5) (cfgA a).N = result a m c :=
  (dats a m ρ 0 c).arrAt_eq_of_cover (4 : Fin 5) (result a m c) (flushed_eq a m ρ c he) fun i => by
    have h0 : (i 0 : Nat) < 29184 := (i 0).isLt
    have h1 : (i 1 : Nat) < 2048 := (i 1).isLt
    let t : Fin (cfgA a).N := ⟨11 * ((i 0 : Nat) / 1536) + 10, show _ < 209 by omega⟩
    have ht : t.val / 11 = (i 0 : Nat) / 1536 := by show (11 * ((i 0 : Nat) / 1536) + 10) / 11 = _; omega
    refine ⟨t, (flush_out a t).trans (decide_eq_true (by show (11 * ((i 0 : Nat) / 1536) + 10) % 11 = 10; omega)), ?_⟩
    show i ∈ ((View.whole main_v0).slice (((cfgA a).win (4 : Fin 5)).rect t)).set
    rw [View.set_slice_whole]
    refine Rect.mem_set_unit.mpr ?_
    intro b
    match b with
    | ⟨0, _⟩ =>
      show cc0_transform_4 (grid0.coords t) 0 * 1536 ≤ (i 0 : Nat) ∧ (i 0 : Nat) < cc0_transform_4 (grid0.coords t) 0 * 1536 + 1536
      rw [(index4 t).1, ht]; omega
    | ⟨1, _⟩ =>
      show cc0_transform_4 (grid0.coords t) 1 * 2048 ≤ (i 1 : Nat) ∧ (i 1 : Nat) < cc0_transform_4 (grid0.coords t) 1 * 2048 + 2048
      rw [(index4 t).2]; omega

end Cert.MoeRun
end
-- ==== Proof.MoeRef.lean ====
module

public import proofs.«01_k».proof.Proof.Swiglu
public import proofs.«01_k».proof.Proof.Gen.MoeReferenceIdeal.Run
public import Idealize.ShloMosaic.Lib.Pointwise

/-!
What the reference of the grouped feed-forward computes, entry by entry: the feed-forward of the row's expert where
the row's block is used, else zero.
-/
@[expose] public section

set_option maxRecDepth 16384

noncomputable section

namespace Cert.MoeReferenceIdeal.Moe

open Cert.MoeReferenceIdeal Cert.MoeReferenceIdeal.Gen Cert.Swiglu Idealize.ShloMosaic Idealize.ShloMosaic.TcCoe Idealize.SL.Sem

/-- A table's word at each row. -/
def perRow (T : IVec S19 32) : IVec S29184 32 :=
  shapeCast _ (broadcastInDim S19x1536 ![0] bcast_S19_S19x1536_0 T) shapeCasts_S19x1536_S29184

/-- The first row of each row's block, in its tile. -/
def blockStart : IVec S29184 32 :=
  shapeCast _ (broadcastInDim S19x1536 ![0, 1] bcast_S1x1536_S19x1536_0_1 (shapeCast _ (shapeCast _ (broadcastInDim S6x256 ![0] bcast_S6_S6x256_0
    (muli (iotaInDim S6 32 0) (broadcastInDim S6 ![] bcast_S_S6 (constantI S_ 32 256#32)))) shapeCasts_S6x256_S1536) shapeCasts_S1536_S1x1536)) shapeCasts_S19x1536_S29184

/-- A projection of the rows to expert `e`'s hidden units. -/
def proj (e : ℕ) (hs : S8x2048x5632.Slices ![e, 0, 0] S1x2048x5632) (h : FVec Ideal S29184x2048 .f32) (W : FVec Ideal S8x2048x5632 .f32) : FVec Ideal S29184x5632 .f32 :=
  Host.dotGeneral dot_S29184x2048_S2048x5632_S29184x5632_1_0_0_1_n_n none h
    (shapeCast _ (extractStridedSlice S1x2048x5632 ![e, 0, 0] W hs) shapeCasts_S1x2048x5632_S2048x5632)

/-- The hidden units. -/
def units (a b : FVec Ideal S29184x5632 .f32) : FVec Ideal S29184x5632 .f32 :=
  mulf (mulf a (Host.divf (broadcastInDim S29184x5632 ![] bcast_S_S29184x5632 (constant S_ .f32 0x3F800000#32)) (addf
    (broadcastInDim S29184x5632 ![] bcast_S_S29184x5632 (constant S_ .f32 0x3F800000#32)) (Host.exp (Host.negf a))))) b

/-- One expert's feed-forward in place of `acc` at the used rows that are the expert's. -/
def layer (e : ℕ) (hs : S8x2048x5632.Slices ![e, 0, 0] S1x2048x5632) (hd : S8x5632x2048.Slices ![e, 0, 0] S1x5632x2048)
    (E N : IVec S19 32) (X : FVec Ideal S29184x2048 .bf16) (Wg Wu : FVec Ideal S8x2048x5632 .f32) (Wd : FVec Ideal S8x5632x2048 .f32)
    (acc : FVec Ideal S29184x2048 .f32) : FVec Ideal S29184x2048 .f32 :=
  select (broadcastInDim S29184x2048 ![0, 1] bcast_S29184x1_S29184x2048_0_1 (broadcastInDim S29184x1 ![0] bcast_S29184_S29184x1_0
      (andi (cmpi .slt blockStart (perRow N)) (cmpi .eq (perRow E) (broadcastInDim S29184 ![] bcast_S_S29184 (constantI S_ 32 (BitVec.ofNat 32 e)))))))
    (Host.dotGeneral dot_S29184x5632_S5632x2048_S29184x2048_1_0_0_1_n_n none
      (units (proj e hs (extf .f32 X bitsLt_bf16_f32) Wg) (proj e hs (extf .f32 X bitsLt_bf16_f32) Wu))
      (shapeCast _ (extractStridedSlice S1x5632x2048 ![e, 0, 0] Wd hd) shapeCasts_S1x5632x2048_S5632x2048)) acc

theorem perRow_apply (T : IVec S19 32) (r : Fin 29184) : perRow T (ix1 r) = T (ix1 ⟨r.val / 1536, by omega⟩) := by
  pointwise [perRow]

theorem blockStart_apply (r : Fin 29184) : blockStart (ix1 r) = BitVec.ofNat 32 (r.val % 1536 / 256 * 256) := by
  pointwise [blockStart]
  show BitVec.ofNat 32 _ * BitVec.ofNat 32 256 = _
  rw [BitVec.ofNat_mul]

theorem proj_apply (e : Fin 8) (hs) (h : FVec Ideal S29184x2048 .f32) (W : FVec Ideal S8x2048x5632 .f32) (r : Fin 29184) (l : Fin 5632) :
    proj e.val hs h W (ix2 r l) = ∑ k : Fin 2048, h (ix2 r k) * W (ix3 e k l) := by
  pointwise [proj]

theorem units_apply (a b : FVec Ideal S29184x5632 .f32) (r : Fin 29184) (l : Fin 5632) :
    units a b (ix2 r l) = a (ix2 r l) * Ideal.logistic (a (ix2 r l)) * b (ix2 r l) := by
  pointwise [units]
  rfl

/-- The condition of an expert at a row: the row's block is used and the tile's expert is this one. -/
theorem used_word (b e : ℕ) (hb : b < 1536) (he : e < 8) (n w : BitVec 32) :
    IntOp.andi (IntOp.cmpi .slt (BitVec.ofNat 32 b) n) (IntOp.cmpi .eq w (BitVec.ofNat 32 e)) = 1#1 ↔ (b : ℤ) < n.toInt ∧ w.toNat = e := by
  have hi : (BitVec.ofNat 32 b).toInt = b := by
    rw [BitVec.toInt_eq_toNat_cond, BitVec.toNat_ofNat, Nat.mod_eq_of_lt (by omega), if_pos (by omega)]
  have hw : (w == BitVec.ofNat 32 e) = decide (w.toNat = e) := by
    rw [Bool.eq_iff_iff, beq_iff_eq, decide_eq_true_eq, ← BitVec.toNat_inj, BitVec.toNat_ofNat, Nat.mod_eq_of_lt (by omega)]
  show IntOp.andi (BitVec.ofBool ((BitVec.ofNat 32 b).slt n)) (BitVec.ofBool (w == BitVec.ofNat 32 e)) = 1#1 ↔ _
  rw [BitVec.slt_eq_decide, hi, hw]
  by_cases h : (b : ℤ) < n.toInt <;> by_cases h' : w.toNat = e <;> simp only [h, h', decide_true, decide_false, and_self, and_true, and_false] <;> decide

/-- One expert's step at an entry. -/
theorem layer_apply (e : Fin 8) (hs) (hd) (E N : IVec S19 32) (X : FVec Ideal S29184x2048 .bf16) (Wg Wu : FVec Ideal S8x2048x5632 .f32)
    (Wd : FVec Ideal S8x5632x2048 .f32) (acc : FVec Ideal S29184x2048 .f32) (r : Fin 29184) (k : Fin 2048) :
    layer e.val hs hd E N X Wg Wu Wd acc (ix2 r k) =
      if ((r.val % 1536 / 256 * 256 : ℕ) : ℤ) < (N (ix1 ⟨r.val / 1536, by omega⟩)).toInt ∧ (E (ix1 ⟨r.val / 1536, by omega⟩)).toNat = e.val
      then expertLane (fun k => X (ix2 r k)) (fun k l => Wg (ix3 e k l)) (fun k l => Wu (ix3 e k l)) (fun l => Wd (ix3 e l k))
      else acc (ix2 r k) := by
  pointwise [layer]
  simp only [perRow_apply, blockStart_apply, units_apply, proj_apply]
  exact if_congr (used_word _ e.val (by omega) e.isLt _ _) rfl rfl

/-- The reference's result: the eight experts in turn, from zero. -/
def out (E N : IVec S19 32) (X : FVec Ideal S29184x2048 .bf16) (Wg Wu : FVec Ideal S8x2048x5632 .f32) (Wd : FVec Ideal S8x5632x2048 .f32) :
    FVec Ideal S29184x2048 .f32 :=
  layer (7 : Fin 8).val slices_S8x2048x5632_S1x2048x5632_7_0_0 slices_S8x5632x2048_S1x5632x2048_7_0_0 E N X Wg Wu Wd <|
  layer (6 : Fin 8).val slices_S8x2048x5632_S1x2048x5632_6_0_0 slices_S8x5632x2048_S1x5632x2048_6_0_0 E N X Wg Wu Wd <|
  layer (5 : Fin 8).val slices_S8x2048x5632_S1x2048x5632_5_0_0 slices_S8x5632x2048_S1x5632x2048_5_0_0 E N X Wg Wu Wd <|
  layer (4 : Fin 8).val slices_S8x2048x5632_S1x2048x5632_4_0_0 slices_S8x5632x2048_S1x5632x2048_4_0_0 E N X Wg Wu Wd <|
  layer (3 : Fin 8).val slices_S8x2048x5632_S1x2048x5632_3_0_0 slices_S8x5632x2048_S1x5632x2048_3_0_0 E N X Wg Wu Wd <|
  layer (2 : Fin 8).val slices_S8x2048x5632_S1x2048x5632_2_0_0 slices_S8x5632x2048_S1x5632x2048_2_0_0 E N X Wg Wu Wd <|
  layer (1 : Fin 8).val slices_S8x2048x5632_S1x2048x5632_1_0_0 slices_S8x5632x2048_S1x5632x2048_1_0_0 E N X Wg Wu Wd <|
  layer (0 : Fin 8).val slices_S8x2048x5632_S1x2048x5632_0_0_0 slices_S8x5632x2048_S1x5632x2048_0_0_0 E N X Wg Wu Wd <|
  broadcastInDim S29184x2048 ![] bcast_S_S29184x2048 (constant S_ .f32 0x00000000#32)

/-- The run ends with that result, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v142) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The result where every expert of the table is below 8. -/
theorem out_apply (E N : IVec S19 32) (X : FVec Ideal S29184x2048 .bf16) (Wg Wu : FVec Ideal S8x2048x5632 .f32) (Wd : FVec Ideal S8x5632x2048 .f32)
    (hE : ∀ j, (E j).toNat < 8) (r : Fin 29184) (k : Fin 2048) :
    out E N X Wg Wu Wd (ix2 r k) = groupedOut (fun t => E (ix1 t)) (fun t => N (ix1 t)) (fun r k => X (ix2 r k))
      (fun e k l => Wg (ix3 e k l)) (fun e k l => Wu (ix3 e k l)) (fun e l k => Wd (ix3 e l k)) r k := by
  unfold out groupedOut
  simp only [layer_apply, show (broadcastInDim S29184x2048 ![] bcast_S_S29184x2048 (constant S_ .f32 0x00000000#32) : FVec Ideal S29184x2048 .f32) (ix2 r k) = (0 : EReal) by pointwise]
  obtain ⟨e, h1, h2⟩ : ∃ e : Fin 8, (E (ix1 ⟨r.val / 1536, by omega⟩)).toNat = e.val
      ∧ (⟨(E (ix1 ⟨r.val / 1536, by omega⟩)).toNat % 8, Nat.mod_lt _ (by decide)⟩ : Fin 8) = e :=
    ⟨⟨_, hE _⟩, rfl, Fin.ext (Nat.mod_eq_of_lt (hE _))⟩
  simp only [h2]
  by_cases hu : ((r.val % 1536 / 256 * 256 : ℕ) : ℤ) < (N (ix1 ⟨r.val / 1536, by omega⟩)).toInt
  · simp only [hu, true_and, if_true, h1]
    fin_cases e <;> rfl
  · simp only [hu, false_and, if_false]

end Cert.MoeReferenceIdeal.Moe
end
-- ==== Proof.ProjTile.lean ====
module

public import proofs.«01_k».proof.Proof.Swiglu
public import proofs.«01_k».proof.Proof.Gen.ProjIdeal.Skeleton

/-!
What the tiles of the norm-and-projection kernel are over the extended reals, entry by entry.
-/
@[expose] public section

set_option maxRecDepth 16384

noncomputable section

namespace Cert.ProjRun

open Cert.ProjIdeal Cert.ProjIdeal.Gen Cert.Swiglu Idealize.ShloMosaic Idealize.ShloMosaic.TcCoe Idealize.SL.Sem

/-- The normalised rows, as the kernel keeps them. -/
theorem rows_apply (y : Vec Ideal S512x2048 .f32) (g : Vec Ideal S1x2048 .f32) (i : Fin 512) (k : Fin 2048) :
    k0_pay2 y g (ix2 i k) = normed (fun k => y (ix2 i k)) (fun k => g (ix2 0 k)) k := by
  pointwise [k0_pay2, k0_pay1]
  rfl

/-- The product of the rows kept with the weight's columns. -/
theorem product_apply (h : Vec Ideal S512x2048 .bf16) (w : Vec Ideal S2048x1024 .bf16) (i : Fin 512) (l : Fin 1024) :
    k0_pay5 h w (ix2 i l) = ∑ k : Fin 2048, h (ix2 i k) * w (ix2 k l) := by
  pointwise [k0_pay5]

end Cert.ProjRun
end
-- ==== Proof.ProjBody.lean ====
module

public import proofs.«01_k».proof.Proof.Gen.ProjIdeal.Skeleton
public import proofs.«01_k».proof.Proof.Gen.ProjIdeal.Launch
public import Idealize.ShloMosaic.Lib.VecWindow
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic

@[expose] public section

set_option maxRecDepth 16384

noncomputable section

/-!
The body of the kernel that stacks the two inputs' rows, normalises them and projects them.

At the first column block of the weight a point takes a block of rows from the one input or the
other: it copies the rows to the stacked output and keeps them normalised in scratch. Then, at every
column block, it stores the product of the rows in scratch with the weight's columns. `take` is the
first step over either input, followed by what comes after.
-/

namespace Cert.ProjRun

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A program of the kernel's body. -/
abbrev Code (F : FTy → Type) [FloatOps F] (α : Type) := Prog (TpuEff nD τ sig (Elt F) Λ₀ .tc) α

/-- Where `p`, the rows `x` are copied to `y` and kept in `s`, normalised by the gains `g`; then `k`. -/
def take {α : Type} (p : Prop) [Decidable p]
    (x : Memref sig .tc .vmem S512x2048 .f32) (g : Memref sig .tc .vmem S1x2048 .f32)
    (y : Memref sig .tc .vmem S512x2048 .f32) (s : Memref sig .tc .vmem S512x2048 .bf16) (hs : s.IsWhole) (k : Code F α) : Code F α := do
  if _h : p then do
    let v15 : Vec F S512x2048 .f32 ← Prog.lift (.load x (Rect.unit (s := S512x2048) ![0, 0] S512x2048.size inb_S512x2048_S512x2048_0_0).toLoadRect (View.loadsAt_vmem h_S512x2048))
    let _v : Vec F S512x2048 .f32 ← Prog.lift (.load y (Rect.unit (s := S512x2048) ![0, 0] S512x2048.size inb_S512x2048_S512x2048_0_0).toLoadRect (View.loadsAt_vmem h_S512x2048))
    Prog.lift (.store y (Rect.unit (s := S512x2048) ![0, 0] S512x2048.size inb_S512x2048_S512x2048_0_0) (k0_pay1 v15) Finset.univ (View.stores_vmem_bits_univ h_S512x2048 rfl) (.inl rfl))
    let v18 : Vec F S1x2048 .f32 ← Prog.lift (.load g (Rect.unit (s := S1x2048) ![0, 0] S1x2048.size inb_S1x2048_S1x2048_0_0).toLoadRect (View.loadsAt_vmem h_S1x2048))
    let _v : Vec F S512x2048 .bf16 ← Prog.lift (.load s (Rect.unit (s := S512x2048) ![0, 0] S512x2048.size inb_S512x2048_S512x2048_0_0).toLoadRect (View.loadsAt_vmem h_S512x2048))
    Prog.lift (.store s (Rect.unit (s := S512x2048) ![0, 0] S512x2048.size inb_S512x2048_S512x2048_0_0) (k0_pay2 v15 v18) Finset.univ (View.stores_vmem h_S512x2048 (hs.storeExact_slice rfl _ packedbf16_S512x2048_S512x2048_0_0) (fun _ => rfl)) (.inl rfl))
    pure ⟨⟩
  else do
    pure ⟨⟩
  k

/-- The rows in scratch times the weight's columns, stored. -/
def project (s : Memref sig .tc .vmem S512x2048 .bf16) (w : Memref sig .tc .vmem S2048x1024 .bf16)
    (o : Memref sig .tc .vmem S512x1024 .f32) : Code F PUnit := do
  let v10 : Vec F S512x2048 .bf16 ← Prog.lift (.load s (Rect.unit (s := S512x2048) ![0, 0] S512x2048.size inb_S512x2048_S512x2048_0_0).toLoadRect (View.loadsAt_vmem h_S512x2048))
  let v11 : Vec F S2048x1024 .bf16 ← Prog.lift (.load w (Rect.unit (s := S2048x1024) ![0, 0] S2048x1024.size inb_S2048x1024_S2048x1024_0_0).toLoadRect (View.loadsAt_vmem h_S2048x1024))
  let _v : Vec F S512x1024 .f32 ← Prog.lift (.load o (Rect.unit (s := S512x1024) ![0, 0] S512x1024.size inb_S512x1024_S512x1024_0_0).toLoadRect (View.loadsAt_vmem h_S512x1024))
  Prog.lift (.store o (Rect.unit (s := S512x1024) ![0, 0] S512x1024.size inb_S512x1024_S512x1024_0_0) (k0_pay5 v10 v11) Finset.univ (View.stores_vmem_bits_univ h_S512x1024 rfl) (.inl rfl))
  pure ⟨⟩

/-- The body takes rows of the first input or of the second, then projects. -/
theorem body_eq (i : grid0.Coords) (x : Memref sig .tc .vmem S512x2048 .f32) (hx : x.IsWhole) (x' : Memref sig .tc .vmem S512x2048 .f32) (hx' : x'.IsWhole)
    (g : Memref sig .tc .vmem S1x2048 .f32) (hg : g.IsWhole) (w : Memref sig .tc .vmem S2048x1024 .bf16) (hw : w.IsWhole)
    (o : Memref sig .tc .vmem S512x1024 .f32) (ho : o.IsWhole) (y : Memref sig .tc .vmem S512x2048 .f32) (hy : y.IsWhole)
    (s : Memref sig .tc .vmem S512x2048 .bf16) (hs : s.IsWhole) :
    cc0__stack_norm_proj_kernel (F := F) i x hx x' hx' g hg w hw o ho y hy s hs
      = take (k0_cond1 i = 1#1) x g y s hs (take (k0_cond2 i = 1#1) x' g y s hs (project s w o)) := by
  rw [cc0__stack_norm_proj_kernel_eq_skeleton]
  rfl

local notation "𝕄" => MT nD τ sig Unit (Elt F) ℕ (UR sig nD τ) ℕ

set_option maxHeartbeats 2000000 in
/-- What `take` does to the copied rows and to the rows in scratch: as they were where `p` fails. -/
theorem take_wp {α : Type} (c : Dev nD) (p : Prop) [Decidable p]
    (x : Memref sig .tc .vmem S512x2048 .f32) (hx : x.IsWhole) (g : Memref sig .tc .vmem S1x2048 .f32) (hg : g.IsWhole)
    (y : Memref sig .tc .vmem S512x2048 .f32) (hy : y.IsWhole) (s : Memref sig .tc .vmem S512x2048 .bf16) (hs : s.IsWhole) (k : Code F α)
    (X Y : S512x2048.Idx → Elt F .f32) (G : S1x2048.Idx → Elt F .f32) (S : S512x2048.Idx → Elt F .bf16) (K : α → sProp 𝕄) :
    iprop((x.view.loc (c : Thread nD τ) ↦[x.view.set]{fullShare} x.view.rep X)
        ∗ (g.view.loc (c : Thread nD τ) ↦[g.view.set]{fullShare} g.view.rep G)
        ∗ (y.view.loc (c : Thread nD τ) ↦[y.view.set]{fullShare} y.view.rep Y)
        ∗ (s.view.loc (c : Thread nD τ) ↦[s.view.set]{fullShare} s.view.rep S)
        ∗ (iprop((x.view.loc (c : Thread nD τ) ↦[x.view.set]{fullShare} x.view.rep X)
            ∗ (g.view.loc (c : Thread nD τ) ↦[g.view.set]{fullShare} g.view.rep G)
            ∗ (y.view.loc (c : Thread nD τ) ↦[y.view.set]{fullShare} y.view.rep (if p then k0_pay1 X else Y))
            ∗ (s.view.loc (c : Thread nD τ) ↦[s.view.set]{fullShare} s.view.rep (if p then k0_pay2 X G else S)))
          -∗ wp frame (wpE (defs₀ (F := F)) Variants.none c none) Set.univ k K))
      ⊢ wp frame (wpE (defs₀ (F := F)) Variants.none c none) Set.univ (take p x g y s hs k) K := by
  unfold take
  iintro ⟨HX, HG, HY, HS, Hk⟩
  by_cases hp : p
  · simp only [hp, ↓reduceIte, ↓reduceDIte]
    sl_exec
    iapply Hk
    isplitl [HX]; · iexact HX
    isplitl [HG]; · iexact HG
    isplitl [HY]
    · iapply rep_of_owns
      unfold owns
      iexists _; isplitr; swap
      · iexact HY
      · ipureintro
        exact (View.read_writes_full y.view _ (off := ![0, 0]) inb_S512x2048_S512x2048_0_0 _ _).trans
          (congrArg k0_pay1 (View.readAt_rep_full x.view X (off := ![0, 0]) inb_S512x2048_S512x2048_0_0))
    iapply rep_of_owns
    unfold owns
    iexists _; isplitr; swap
    · iexact HS
    · ipureintro
      exact (View.read_writes_full s.view _ (off := ![0, 0]) inb_S512x2048_S512x2048_0_0 _ _).trans
        (congrArg₂ k0_pay2 (View.readAt_rep_full x.view X (off := ![0, 0]) inb_S512x2048_S512x2048_0_0)
          (View.readAt_rep_full g.view G (off := ![0, 0]) inb_S1x2048_S1x2048_0_0))
  · simp only [hp, ↓reduceIte, ↓reduceDIte]
    iapply Hk
    isplitl [HX]; · iexact HX
    isplitl [HG]; · iexact HG
    isplitl [HY]; · iexact HY
    iexact HS

set_option maxHeartbeats 2000000 in
/-- What `project` stores. -/
theorem project_wp (c : Dev nD)
    (s : Memref sig .tc .vmem S512x2048 .bf16) (hs : s.IsWhole) (w : Memref sig .tc .vmem S2048x1024 .bf16) (hw : w.IsWhole)
    (o : Memref sig .tc .vmem S512x1024 .f32) (ho : o.IsWhole)
    (S : S512x2048.Idx → Elt F .bf16) (W : S2048x1024.Idx → Elt F .bf16) (O : S512x1024.Idx → Elt F .f32) (K : PUnit → sProp 𝕄) :
    iprop((s.view.loc (c : Thread nD τ) ↦[s.view.set]{fullShare} s.view.rep S)
        ∗ (w.view.loc (c : Thread nD τ) ↦[w.view.set]{fullShare} w.view.rep W)
        ∗ (o.view.loc (c : Thread nD τ) ↦[o.view.set]{fullShare} o.view.rep O)
        ∗ (iprop((s.view.loc (c : Thread nD τ) ↦[s.view.set]{fullShare} s.view.rep S)
            ∗ (w.view.loc (c : Thread nD τ) ↦[w.view.set]{fullShare} w.view.rep W)
            ∗ (o.view.loc (c : Thread nD τ) ↦[o.view.set]{fullShare} o.view.rep (k0_pay5 S W)))
          -∗ K ⟨⟩))
      ⊢ wp frame (wpE (defs₀ (F := F)) Variants.none c none) Set.univ (project s w o) K := by
  unfold project
  iintro ⟨HS, HW, HO, Hk⟩
  sl_exec
  sl_step
  iapply Hk
  isplitl [HS]; · iexact HS
  isplitl [HW]; · iexact HW
  iapply rep_of_owns
  unfold owns
  iexists _; isplitr; swap
  · iexact HO
  · ipureintro
    exact (View.read_writes_full o.view _ (off := ![0, 0]) inb_S512x1024_S512x1024_0_0 _ _).trans
      (congrArg₂ k0_pay5 (View.readAt_rep_full s.view S (off := ![0, 0]) inb_S512x2048_S512x2048_0_0)
        (View.readAt_rep_full w.view W (off := ![0, 0]) inb_S2048x1024_S2048x1024_0_0))

/-- The copied rows after a point, from the two inputs' blocks and what was there. -/
def copied (i : grid0.Coords) (X X' Y : S512x2048.Idx → Elt F .f32) : S512x2048.Idx → Elt F .f32 :=
  if k0_cond2 i = 1#1 then k0_pay1 X' else if k0_cond1 i = 1#1 then k0_pay1 X else Y

/-- The rows in scratch after a point, from the two inputs' blocks, the gains and what was there. -/
def kept (i : grid0.Coords) (X X' : S512x2048.Idx → Elt F .f32) (G : S1x2048.Idx → Elt F .f32)
    (S : S512x2048.Idx → Elt F .bf16) : S512x2048.Idx → Elt F .bf16 :=
  if k0_cond2 i = 1#1 then k0_pay2 X' G else if k0_cond1 i = 1#1 then k0_pay2 X G else S

/-- What the body leaves: the inputs as they were, the product of the rows kept with the weight's
    columns, the rows copied, the rows kept. -/
theorem body_wp (c : Dev nD) (i : grid0.Coords) (x : Memref sig .tc .vmem S512x2048 .f32) (hx : x.IsWhole) (x' : Memref sig .tc .vmem S512x2048 .f32) (hx' : x'.IsWhole)
    (g : Memref sig .tc .vmem S1x2048 .f32) (hg : g.IsWhole) (w : Memref sig .tc .vmem S2048x1024 .bf16) (hw : w.IsWhole)
    (o : Memref sig .tc .vmem S512x1024 .f32) (ho : o.IsWhole) (y : Memref sig .tc .vmem S512x2048 .f32) (hy : y.IsWhole)
    (s : Memref sig .tc .vmem S512x2048 .bf16) (hs : s.IsWhole)
    (X X' Y : S512x2048.Idx → Elt F .f32) (G : S1x2048.Idx → Elt F .f32) (W : S2048x1024.Idx → Elt F .bf16)
    (O : S512x1024.Idx → Elt F .f32) (S : S512x2048.Idx → Elt F .bf16) (K : PUnit → sProp 𝕄) :
    iprop((x.view.loc (c : Thread nD τ) ↦[x.view.set]{fullShare} x.view.rep X)
        ∗ (x'.view.loc (c : Thread nD τ) ↦[x'.view.set]{fullShare} x'.view.rep X')
        ∗ (g.view.loc (c : Thread nD τ) ↦[g.view.set]{fullShare} g.view.rep G)
        ∗ (w.view.loc (c : Thread nD τ) ↦[w.view.set]{fullShare} w.view.rep W)
        ∗ (o.view.loc (c : Thread nD τ) ↦[o.view.set]{fullShare} o.view.rep O)
        ∗ (y.view.loc (c : Thread nD τ) ↦[y.view.set]{fullShare} y.view.rep Y)
        ∗ (s.view.loc (c : Thread nD τ) ↦[s.view.set]{fullShare} s.view.rep S)
        ∗ (iprop((x.view.loc (c : Thread nD τ) ↦[x.view.set]{fullShare} x.view.rep X)
            ∗ (x'.view.loc (c : Thread nD τ) ↦[x'.view.set]{fullShare} x'.view.rep X')
            ∗ (g.view.loc (c : Thread nD τ) ↦[g.view.set]{fullShare} g.view.rep G)
            ∗ (w.view.loc (c : Thread nD τ) ↦[w.view.set]{fullShare} w.view.rep W)
            ∗ (o.view.loc (c : Thread nD τ) ↦[o.view.set]{fullShare} o.view.rep (k0_pay5 (kept i X X' G S) W))
            ∗ (y.view.loc (c : Thread nD τ) ↦[y.view.set]{fullShare} y.view.rep (copied i X X' Y))
            ∗ (s.view.loc (c : Thread nD τ) ↦[s.view.set]{fullShare} s.view.rep (kept i X X' G S)))
          -∗ K ⟨⟩))
      ⊢ wp frame (wpE (defs₀ (F := F)) Variants.none c none) Set.univ
          (cc0__stack_norm_proj_kernel i x hx x' hx' g hg w hw o ho y hy s hs) K := by
  rw [body_eq]
  iintro ⟨HX, HX', HG, HW, HO, HY, HS, Hk⟩
  iapply (take_wp c (k0_cond1 i = 1#1) x hx g hg y hy s hs)
  isplitl [HX]; · iexact HX
  isplitl [HG]; · iexact HG
  isplitl [HY]; · iexact HY
  isplitl [HS]; · iexact HS
  iintro ⟨HX, HG, HY, HS⟩
  iapply (take_wp c (k0_cond2 i = 1#1) x' hx' g hg y hy s hs)
  isplitl [HX']; · iexact HX'
  isplitl [HG]; · iexact HG
  isplitl [HY]; · iexact HY
  isplitl [HS]; · iexact HS
  iintro ⟨HX', HG, HY, HS⟩
  iapply (project_wp c s hs w hw o ho)
  isplitl [HS]; · iexact HS
  isplitl [HW]; · iexact HW
  isplitl [HO]; · iexact HO
  iintro ⟨HS, HW, HO⟩
  iapply Hk
  isplitl [HX]; · iexact HX
  isplitl [HX']; · iexact HX'
  isplitl [HG]; · iexact HG
  isplitl [HW]; · iexact HW
  isplitl [HO]; · iexact HO
  isplitl [HY]; · iexact HY
  iexact HS

end Cert.ProjRun

end
-- ==== Proof.ProjFrame.lean ====
module

public import proofs.«01_k».proof.Proof.ProjBody
public import Idealize.ShloMosaic.Lib.Pipeline.FrameSuffix

@[expose] public section

set_option maxRecDepth 16384

noncomputable section

/-!
The run of the kernel that stacks the two inputs' rows, normalises them and projects them, with the host
operations before and after it.

A row block takes four points, one for each column block of the weight. Its rows are copied and
normalised at the first of them; the later three leave the copied rows alone, and the last of them is
where the copy is written back.
-/

namespace Cert.ProjRun

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem points : cfg0.N = 68 := N_0

/-- Rows of the first input are taken at the first column block of its row blocks. -/
theorem takes_first : ∀ t : Fin cfg0.N, k0_cond1 (grid0.coords t) = 1#1 ↔ t.val % 4 = 0 ∧ t.val / 4 < 16 :=
  (by decide +kernel : ∀ t : Fin grid0.N, k0_cond1 (grid0.coords t) = 1#1 ↔ t.val % 4 = 0 ∧ t.val / 4 < 16)
/-- Rows of the second input are taken at the first column block of the row blocks after those. -/
theorem takes_second : ∀ t : Fin cfg0.N, k0_cond2 (grid0.coords t) = 1#1 ↔ t.val % 4 = 0 ∧ ¬t.val / 4 < 16 :=
  (by decide +kernel : ∀ t : Fin grid0.N, k0_cond2 (grid0.coords t) = 1#1 ↔ t.val % 4 = 0 ∧ ¬t.val / 4 < 16)
/-- The later column blocks leave the copied rows alone. -/
theorem idle_copy : ∀ t : Fin cfg0.N, cfg0.idle 5 (grid0.coords t) = decide (t.val % 4 ≠ 0) :=
  (by decide +kernel : ∀ t : Fin grid0.N, cfg0.idle 5 (grid0.coords t) = decide (t.val % 4 ≠ 0))
/-- The copied rows are written back at the last column block. -/
theorem flush_copy : ∀ t : Fin cfg0.N, (cfg0.win 5).flush t = decide (t.val % 4 = 3) := by decide +kernel

/-- Before the first column block of each row block, and there alone, nothing of the copy is known. -/
theorem fresh_copy (t : Fin cfg0.N) : cfg0.fresh 5 t.val = decide (t.val % 4 = 0) := by
  refine Pipeline.Cfg.fresh_tab cfg0 5 (fun n => decide (n % 4 = 0)) rfl (fun t => ?_) t.val (Nat.le_of_lt t.isLt)
  rw [flush_copy, idle_copy t]
  by_cases h : t.val % 4 = 3
  · simp only [h, decide_true, Bool.true_or, decide_eq_true_eq]; omega
  · have h1 : ¬(t.val + 1) % 4 = 0 := by omega
    by_cases h0 : t.val % 4 = 0 <;> simp [h, h1, h0]

variable (m : (ℓ : Loc nD τ sig) → Buf (Elt F) ℓ) (ρ : Dev nD → PrngReg)

/-! ## What the pipeline holds point by point -/

/-- A core's buffers when the region is entered. -/
def V0 (c : Dev nD) : Valuation τ sig (Elt F) := StableHlo.after hostOps0 (fun b => m (c, b))

/-- A window's block at a point, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- The first point of a point's row block. -/
def first (t : Fin cfg0.N) : Fin cfg0.N := ⟨t.val / 4 * 4, by have := t.isLt; omega⟩

/-- The rows of a point's row block, of the first input or of the second. -/
def taken (c : Dev nD) (t : Fin cfg0.N) : S512x2048.Idx → Elt F .f32 :=
  if t.val / 4 < 16 then iblk m c 0 (first t) else iblk m c 1 (first t)

/-- The same rows normalised. -/
def rows (c : Dev nD) (t : Fin cfg0.N) : S512x2048.Idx → Elt F .bf16 := k0_pay2 (taken m c t) (iblk m c 2 (first t))

theorem first_pred (t : Fin cfg0.N) (h : t.val % 4 ≠ 0) : first ⟨t.val - 1, by omega⟩ = first t :=
  Fin.ext (show (t.val - 1) / 4 * 4 = t.val / 4 * 4 by omega)

theorem first_of (t : Fin cfg0.N) (h : t.val % 4 = 0) : first t = t :=
  Fin.ext (show t.val / 4 * 4 = t.val by omega)

/-- The rows are those of the point before, past a row block's first point. -/
theorem taken_pred (c : Dev nD) (t : Fin cfg0.N) (h : t.val % 4 ≠ 0) : taken m c ⟨t.val - 1, by omega⟩ = taken m c t := by
  unfold taken
  rw [first_pred t h, show (⟨t.val - 1, by omega⟩ : Fin cfg0.N).val / 4 = t.val / 4 from (by omega : (t.val - 1) / 4 = t.val / 4)]

theorem rows_pred (c : Dev nD) (t : Fin cfg0.N) (h : t.val % 4 ≠ 0) : rows m c ⟨t.val - 1, by omega⟩ = rows m c t := by
  unfold rows
  rw [taken_pred m c t h, first_pred t h]

/-- What a point leaves copied is its row block's rows, if the later points find them so. -/
theorem copied_eq (c : Dev nD) (t : Fin cfg0.N) (Y : S512x2048.Idx → Elt F .f32) (hY : t.val % 4 ≠ 0 → Y = k0_pay1 (taken m c t)) :
    copied (grid0.coords t) (iblk m c 0 t) (iblk m c 1 t) Y = k0_pay1 (taken m c t) := by
  unfold copied
  by_cases h : t.val % 4 = 0
  · unfold taken
    rw [first_of t h]
    by_cases h' : t.val / 4 < 16 <;> simp only [takes_first, takes_second, h, h', not_true, not_false_eq_true, and_true, and_false, ↓reduceIte]
  · simp only [takes_first, takes_second, h, false_and, ↓reduceIte]
    exact hY h

/-- The same of the rows in scratch. -/
theorem kept_eq (c : Dev nD) (t : Fin cfg0.N) (S : S512x2048.Idx → Elt F .bf16) (hS : t.val % 4 ≠ 0 → S = rows m c t) :
    kept (grid0.coords t) (iblk m c 0 t) (iblk m c 1 t) (iblk m c 2 t) S = rows m c t := by
  unfold kept
  by_cases h : t.val % 4 = 0
  · unfold rows taken
    rw [first_of t h]
    by_cases h' : t.val / 4 < 16 <;> simp only [takes_first, takes_second, h, h', not_true, not_false_eq_true, and_true, and_false, ↓reduceIte]
  · simp only [takes_first, takes_second, h, false_and, ↓reduceIte]
    exact hS h

/-- The scratch buffer. -/
abbrev scratch : Memref sig .tc .vmem S512x2048 .bf16 := Memref.whole cc0_scratch0

/-- What is held before a point: before the first, the scratch at anything; before a later one, the rows the
    point before it kept. -/
def between (c : Dev nD) : (n : ℕ) → n ≤ cfg0.N → sProp 𝕄
  | 0, _ => Pipeline.ΦA spec0 c
  | n + 1, h => iprop(owns (c : Thread nD τ) scratch fullShare (rows m c ⟨n, h⟩) ∗ (∃ r, prngReg c r))

/-- The pipeline's data: the inputs' blocks, the product, the copied rows, and the rows kept between points. -/
def dats (_ : Fin 1) (c : Dev nD) : Dat τ (Elt F) Unit ℕ (UR sig nD τ) ℕ cfg0 c where
  A w := V0 m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (rows m c t) (iblk m c 3 t)
    | ⟨5, _⟩ => k0_pay1 (taken m c t)
  Φ t := between m c t.val (Nat.le_of_lt_succ t.isLt)
  q _ := fullShare
  owed _ := 0

theorem A_eq (c : Dev nD) (w : Fin cfg0.W) : (dats m 0 c).A w = V0 m c (Proc.devRef .tc (Pipeline.arrRef spec0 w)) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay5 (rows m c t) (iblk m c 3 t) := by dsimp only [dats]
theorem after_5 (c : Dev nD) (t : Fin cfg0.N) : (dats m 0 c).after 5 t = k0_pay1 (taken m c t) := by dsimp only [dats]

/-- An input window's buffer holds its block when the body runs. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The copy's buffer when the body runs past a row block's first point: that block's rows. -/
theorem before_5 (c : Dev nD) (t : Fin cfg0.N) (d) (h : t.val % 4 ≠ 0) : (dats m 0 c).before 5 t d = k0_pay1 (taken m c t) := by
  rw [(dats m 0 c).before_out_traj 5 rfl (fun _ _ => rfl) (fun t _ hi _ => by
    rw [after_5, after_5, taken_pred m c t]
    have := (idle_copy t).symm.trans hi
    exact of_decide_eq_true this) t.val t rfl d, fresh_copy]
  simp only [h, decide_false, Bool.false_eq_true, ↓reduceIte]
  rw [after_5, taken_pred m c t h]

/-! ## The body at a point -/

/-- The staging buffer of each window at a point. -/
abbrev stX (t : Fin cfg0.N) : Memref sig .tc .vmem S512x2048 .f32 := win0_0.stage (cfg0.slots t 0)
abbrev stX' (t : Fin cfg0.N) : Memref sig .tc .vmem S512x2048 .f32 := win0_1.stage (cfg0.slots t 1)
abbrev stG (t : Fin cfg0.N) : Memref sig .tc .vmem S1x2048 .f32 := win0_2.stage (cfg0.slots t 2)
abbrev stW (t : Fin cfg0.N) : Memref sig .tc .vmem S2048x1024 .bf16 := win0_3.stage (cfg0.slots t 3)
abbrev stO (t : Fin cfg0.N) : Memref sig .tc .vmem S512x1024 .f32 := win0_4.stage (cfg0.slots t 4)
abbrev stY (t : Fin cfg0.N) : Memref sig .tc .vmem S512x2048 .f32 := win0_5.stage (cfg0.slots t 5)

/-- The kernel's body as the pipeline calls it at a point. -/
abbrev bodyAt (t : Fin cfg0.N) : Code F PUnit :=
  cc0__stack_norm_proj_kernel (grid0.coords t) (stX t) (hstage0_0 ((cfg0.slots t 0).cast nbuf0_0)) (stX' t) (hstage0_1 ((cfg0.slots t 1).cast nbuf0_1))
    (stG t) (hstage0_2 ((cfg0.slots t 2).cast nbuf0_2)) (stW t) (hstage0_3 ((cfg0.slots t 3).cast nbuf0_3))
    (stO t) (hstage0_4 ((cfg0.slots t 4).cast nbuf0_4)) (stY t) (hstage0_5 ((cfg0.slots t 5).cast nbuf0_5)) scratch (Memref.isWhole_whole _)

/-- Outside the launch's own wording: the scratch buffer at anything, and the generator's register. -/
theorem launch_rest (c : Dev nD) : (Pipeline.ΦA spec0 c : sProp 𝕄) = iprop((∃ d, owns (c : Thread nD τ) scratch fullShare d) ∗ (∃ r, prngReg c r)) := by
  unfold Pipeline.ΦA
  rw [scopedRest0_eq]
  simp only [owns_whole]
  rfl

/-- Before a point the scratch holds its row block's rows, or anything at a row block's first point. -/
theorem between_open (c : Dev nD) (t : Fin cfg0.N) :
    (dats m 0 c).Φ t.castSucc ⊢ (iprop(∃ S, ⌜t.val % 4 ≠ 0 → S = rows m c t⌝ ∗ owns (c : Thread nD τ) scratch fullShare S ∗ (∃ r, prngReg c r)) : sProp 𝕄) := by
  change between m c t.val (Nat.le_of_lt t.isLt) ⊢ _
  obtain ⟨n, hn⟩ := t
  cases n with
  | zero =>
    change (Pipeline.ΦA spec0 c : sProp 𝕄) ⊢ _
    rw [launch_rest]
    iintro ⟨⟨%S, HS⟩, Hg⟩
    iexists S
    isplitr
    · ipureintro; intro h; exact absurd rfl h
    isplitl [HS]; · iexact HS
    iexact Hg
  | succ n =>
    change iprop(owns (c : Thread nD τ) scratch fullShare (rows m c ⟨n, Nat.lt_of_succ_lt hn⟩) ∗ (∃ r, prngReg c r)) ⊢ _
    iintro ⟨HS, Hg⟩
    iexists rows m c ⟨n, Nat.lt_of_succ_lt hn⟩
    isplitr
    · ipureintro; intro h; exact rows_pred m c ⟨n + 1, hn⟩ h
    isplitl [HS]; · iexact HS
    iexact Hg

/-- A window the body never leaves alone is left at what the data say. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

/-- The copied rows are left as the pipeline asks. -/
theorem copy_held (c : Dev nD) (t : Fin cfg0.N) (d) :
    (owns (c : Thread nD τ) (stY t) fullShare (copied (grid0.coords t) (iblk m c 0 t) (iblk m c 1 t) ((dats m 0 c).before 5 t d)) : sProp 𝕄)
      ⊢ (dats m 0 c).leavesExact 5 t := by
  rw [copied_eq m c t _ (before_5 m c t d)]
  by_cases h : t.val % 4 = 0
  · rw [leaves_live m c t 5 (by rw [idle_copy t]; simp [h]), after_5]
  · by_cases h' : t.val % 4 = 3
    · unfold Dat.leavesExact
      rw [show cfg0.idle 5 (cfg0.grid.coords t) = true from by rw [show cfg0.grid.coords t = grid0.coords t from rfl, idle_copy t]; simp [h],
        show (cfg0.win 5).flush t = true from by rw [flush_copy]; simp [h']]
      rw [after_5]
    · rw [Dat.leavesExact_idle (dats m 0 c) 5 t (by rw [show cfg0.grid.coords t = grid0.coords t from rfl, idle_copy t]; simp [h]) (by rw [flush_copy]; simp [h'])]
      iintro H
      iexists d
      rw [before_5 m c t d h]
      iexact H

set_option maxHeartbeats 4000000 in
/-- The body at a point takes the data from before it to after it. -/
theorem sound_body (c : Dev nD) (t : Fin cfg0.N) :
    iprop((dats m 0 c).Φ t.castSucc ∗ (dats m 0 c).owesAt () t.castSucc
        ∗ (∃ d, owns (c : Thread nD τ) (stX t) fullShare ((dats m 0 c).before 0 t d))
        ∗ (∃ d, owns (c : Thread nD τ) (stX' t) fullShare ((dats m 0 c).before 1 t d))
        ∗ (∃ d, owns (c : Thread nD τ) (stG t) fullShare ((dats m 0 c).before 2 t d))
        ∗ (∃ d, owns (c : Thread nD τ) (stW t) fullShare ((dats m 0 c).before 3 t d))
        ∗ (∃ d, owns (c : Thread nD τ) (stO t) fullShare ((dats m 0 c).before 4 t d))
        ∗ (∃ d, owns (c : Thread nD τ) (stY t) fullShare ((dats m 0 c).before 5 t d)))
      ⊢ wp frame (wpE (defs₀ (F := F)) Variants.none c none) Set.univ (bodyAt t) fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t ∗ (dats m 0 c).leavesExact 5 t) := by
  simp only [before_0, before_1, before_2, before_3]
  rw [show (dats m 0 c).owesAt () t.succ = (dats m 0 c).owesAt () t.castSucc from rfl,
    show (dats m 0 c).Φ t.succ = iprop(owns (c : Thread nD τ) scratch fullShare (rows m c t) ∗ (∃ r, prngReg c r)) from rfl,
    leaves_live m c t 0 rfl, leaves_live m c t 1 rfl, leaves_live m c t 2 rfl, leaves_live m c t 3 rfl, leaves_live m c t 4 rfl,
    after_0, after_1, after_2, after_3, after_4]
  refine (Idealize.SL.BI.Laws.sep_mono_left (between_open m c t)).trans ?_
  iintro ⟨⟨%S, %hS, HS, Hg⟩, Ho, ⟨%d0, H0⟩, ⟨%d1, H1⟩, ⟨%d2, H2⟩, ⟨%d3, H3⟩, ⟨%d4, H4⟩, ⟨%d5, H5⟩⟩
  iapply (body_wp c (grid0.coords t) (stX t) (hstage0_0 ((cfg0.slots t 0).cast nbuf0_0)) (stX' t) (hstage0_1 ((cfg0.slots t 1).cast nbuf0_1))
    (stG t) (hstage0_2 ((cfg0.slots t 2).cast nbuf0_2)) (stW t) (hstage0_3 ((cfg0.slots t 3).cast nbuf0_3))
    (stO t) (hstage0_4 ((cfg0.slots t 4).cast nbuf0_4)) (stY t) (hstage0_5 ((cfg0.slots t 5).cast nbuf0_5)) scratch (Memref.isWhole_whole _)
    (iblk m c 0 t) (iblk m c 1 t) ((dats m 0 c).before 5 t d5) (iblk m c 2 t) (iblk m c 3 t) ((dats m 0 c).before 4 t d4) S)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HS]; · iapply rep_of_owns; iexact HS
  rw [kept_eq m c t S hS]
  iintro ⟨H0, H1, H2, H3, H4, H5, HS⟩
  isplitl [HS Hg]
  · isplitl [HS]
    · iapply owns_of_rep; iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (copy_held m c t d5)
  iapply owns_of_rep; iexact H5

/-- The body table's row at a point is the body there. -/
theorem defs₀_row (t : Fin cfg0.N) : defs₀ (F := F) .tc cfg0.body (cfg0.bodyArgs t (cfg0.slots t)) = bodyAt t := by
  unfold defs₀; rw [Defs.onTc_tc]

/-- The body's obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [launch_rest]
  change between m c 68 _ ⊢ _
  unfold between
  iintro ⟨HS, Hg⟩
  isplitl [HS]
  · iexists _; iexact HS
  iexact Hg

/-! ## The host operations -/

/-- What the operations before the region write. -/
def written0 : List (Ref sig .tc) := [main_v0, main_v1, main_v2, main_v3, main_v4, main_v5, main_v6]
/-- What those after it write. -/
def written1 : List (Ref sig .tc) := [main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]

theorem hostOps0_writes : (hostOps0 : List (HloOp τ sig (Elt F))).Forall fun op => ∃ r ∈ written0, op.writes = {Proc.devRef .tc r} := by
  simp only [List.Forall]
  repeat' apply And.intro
  all_goals (refine ⟨_, ?_, rfl⟩; decide)

theorem hostOps1_writes : (hostOps1 : List (HloOp τ sig (Elt F))).Forall fun op => ∃ r ∈ written1, op.writes = {Proc.devRef .tc r} := by
  simp only [List.Forall]
  repeat' apply And.intro
  all_goals (refine ⟨_, ?_, rfl⟩; decide)

theorem not_written {l : List (HloOp τ sig (Elt F))} {W : List (Ref sig .tc)}
    (h : l.Forall fun op => ∃ r ∈ W, op.writes = {Proc.devRef .tc r}) (b : Ref sig .tc) (hb : b ∉ W) :
    ∀ op ∈ l, Proc.devRef .tc b ∉ op.writes := fun op hop => by
  obtain ⟨r, hr, e⟩ := List.forall_iff_forall_mem.mp h op hop
  rw [e, Finset.mem_singleton]
  exact StableHlo.devRef_ne_of_ne fun e => hb (e ▸ hr)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The run -/

/-- A core's buffers at the end: the operations after the region, on the region's outputs. -/
def final (c : Dev nD) (b : Ref sig .tc) : Buf (Elt F) ((c.tc : Thread nD τ).loc b) :=
  Pipeline.afterTail₀ cfgs (dats m) (0 : Fin 1) (V0 m) [hostOps1] c b

/-- A buffer no operation writes and no window stages ends as it was launched. -/
theorem final_unwritten (c : Dev nD) (b : Ref sig .tc) (h0 : b ∉ written0) (h1 : b ∉ written1) (ha : ∀ w, Pipeline.arrRef spec0 w ≠ b) :
    final m c b = m ((c.tc : Thread nD τ).loc b) := by
  unfold final Pipeline.afterTail₀
  refine (StableHlo.after_of_forall_not_mem (b := Proc.devRef .tc b) _ _ (fun op hop => not_written hostOps1_writes b h1 op (by simpa using hop))).trans ?_
  refine (Pipeline.withArrays_of_ne _ c _ _ b ha).trans ?_
  exact StableHlo.after_of_forall_not_mem (b := Proc.devRef .tc b) _ _ (not_written hostOps0_writes b h0)

set_option backward.isDefEq.respectTransparency.types false in
set_option maxHeartbeats 4000000 in
/-- From any memory with zero counters the program terminates, on every device; every buffer no window
    stages ends at `final`, and the counters end at zero. -/
theorem run_all : θ_run defs (onTc (τ := τ) (main (F := F))) (s₀ m ρ)
    (fun r => (Pipeline.FramePost cfgs (dats m) (0 : Fin 1) (Pipeline.afterTail₀ cfgs (dats m) (0 : Fin 1) (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := by
      rw [Pipeline.tailRefs_none spec0 launch0.win.arr_unscoped]
      intro ops hops op hop
      obtain rfl := List.mem_singleton.mp hops
      exact Pipeline.sub_ucRefs op ((List.forall_iff_forall_mem.mp hostOps1_sub) op hop))
    (hfresh := fun ops hops op hop => by
      obtain rfl := List.mem_singleton.mp hops
      exact (List.forall_iff_forall_mem.mp hostOps1_fresh) op hop)
    (hkeep := fun ops hops op hop w => by
      obtain rfl := List.mem_singleton.mp hops
      exact not_written hostOps1_writes _ ((by decide +kernel : ∀ w : Fin 6, Pipeline.arrRef spec0 w ∉ written1) w) op hop)
    (hmain := Pipeline.hmain_around cfgs 0 defs₀ Variants.none m main [hostOps0] [hostOps1] hostOps0_sub hostOps0_fresh main_chain)
    (hA := A_eq m) (hin := enter m) (hout := leave m)

/-- The same of each result and each argument. -/
theorem run : θ_run defs (onTc (τ := τ) (main (F := F))) ⟨m, fun _ => 0, ρ⟩ (fun r => (∀ c : Dev nD,
      (r.2.mem ((c.tc : Thread nD τ).loc main_v7_0) = (dats m 0 c).arrAt 4 cfg0.N
      ∧ r.2.mem ((c.tc : Thread nD τ).loc main_v16) = final m c main_v16
      ∧ r.2.mem ((c.tc : Thread nD τ).loc main_v18) = final m c main_v18
      ∧ r.2.mem ((c.tc : Thread nD τ).loc main_v20) = final m c main_v20
      ∧ r.2.mem ((c.tc : Thread nD τ).loc main_v26) = final m c main_v26
      ∧ r.2.mem ((c.tc : Thread nD τ).loc main_v32) = final m c main_v32
      ∧ r.2.mem ((c.tc : Thread nD τ).loc main_v34) = final m c main_v34)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
      ∧ r.2.sem = fun _ => 0) :=
  (θ_run defs _ _).mono (fun r h => ⟨fun c => by
    have rest (b : Ref sig .tc) (hs : b.isScoped = false) (ha : ∀ w, (spec0 w).arr.view.ref ≠ b) :
        r.2.mem ((c.tc : Thread nD τ).loc b) = final m c b := (h.1 c).2 b (Pipeline.mem_restRefs_of b hs ha)
    have kept (b : Ref sig .tc) (hs : b.isScoped = false) (ha : ∀ w, (spec0 w).arr.view.ref ≠ b) (h0 : b ∉ written0) (h1 : b ∉ written1) :
        r.2.mem ((c.tc : Thread nD τ).loc b) = m ((c.tc : Thread nD τ).loc b) := (rest b hs ha).trans (final_unwritten m c b h0 h1 ha)
    exact ⟨⟨(h.1 c).1 4, rest main_v16 (by decide) (by decide), rest main_v18 (by decide) (by decide), rest main_v20 (by decide) (by decide),
      rest main_v26 (by decide) (by decide), rest main_v32 (by decide) (by decide), rest main_v34 (by decide) (by decide)⟩,
      kept main_arg0 (by decide) (by decide) (by decide) (by decide), kept main_arg1 (by decide) (by decide) (by decide) (by decide),
      kept main_arg2 (by decide) (by decide) (by decide) (by decide), kept main_arg3 (by decide) (by decide) (by decide) (by decide),
      kept main_arg4 (by decide) (by decide) (by decide) (by decide), kept main_arg5 (by decide) (by decide) (by decide) (by decide),
      kept main_arg6 (by decide) (by decide) (by decide) (by decide)⟩, h.2⟩) (run_all m ρ)

end Cert.ProjRun

end
-- ==== Proof.ProjArray.lean ====
module

public import proofs.«01_k».proof.Proof.ProjTile
public import proofs.«01_k».proof.Proof.ProjFrame
public import Idealize.ShloMosaic.Lib.Pipeline.ValueKit
public import Idealize.ShloMosaic.Lib.StableHlo.ReadAt

/-!
What the projection's array holds after the run: at row `r` and column `l` the product of the normalised row with the
weight's column, the rows being those of the first input and then those of the second.
-/
@[expose] public section

set_option maxRecDepth 16384

noncomputable section

namespace Cert.ProjRun

open Cert.ProjIdeal Cert.ProjIdeal.Gen Cert.Swiglu Idealize.ShloMosaic Idealize.ShloMosaic.TcCoe Idealize.SL.Sem

variable (m : (ℓ : Loc nD τ sig) → Buf (Elt Ideal) ℓ) (c : Dev nD)

/-- The prompt's rows, as launched. -/
abbrev argX : S1x8192x2048.Idx → EReal := m (c, Proc.tc.devRef main_arg0)
/-- The samples' rows. -/
abbrev argX' : S32x16x2048.Idx → EReal := m (c, Proc.tc.devRef main_arg1)
/-- The gains of the two layers. -/
abbrev argG : S2x2048.Idx → EReal := m (c, Proc.tc.devRef main_arg5)
/-- The weight. -/
abbrev argW : S1x2048x4096.Idx → EReal := m (c, Proc.tc.devRef main_arg6)

theorem prompt_entry (r : Fin 8192) (k : Fin 2048) :
    (V0 m c (Proc.tc.devRef main_v0) : FVec Ideal S8192x2048 .f32) (ix2 r k) = argX m c (ix3 0 r k) := by
  unfold V0
  simp only [hostOps0]
  after_reads_simp
  clean_types
  pointwise

theorem sample_entry (b : Fin 32) (s : Fin 16) (k : Fin 2048) :
    (V0 m c (Proc.tc.devRef main_v1) : FVec Ideal S512x2048 .f32) (ix2 ⟨b.val * 16 + s.val, by omega⟩ k) = argX' m c (ix3 b s k) := by
  unfold V0
  simp only [hostOps0]
  after_reads_simp
  clean_types
  pointwise

theorem gains_entry (k : Fin 2048) : (V0 m c (Proc.tc.devRef main_v6) : FVec Ideal S1x2048 .f32) (ix2 0 k) = argG m c (ix2 0 k) := by
  unfold V0
  simp only [hostOps0]
  after_reads_simp
  clean_types
  pointwise

theorem weight_entry (k : Fin 2048) (l : Fin 4096) :
    (V0 m c (Proc.tc.devRef main_v5) : FVec Ideal S2048x4096 .bf16) (ix2 k l) = argW m c (ix3 0 k l) := by
  unfold V0
  simp only [hostOps0]
  after_reads_simp
  clean_types
  pointwise

theorem index0 : ∀ t : Fin grid0.N, win0_0.index t 0 = min (t.val / 4) 15 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = t.val % 4 := by decide +kernel
/-- The product's block is written back at every point. -/
theorem flush_product : ∀ t : Fin cfg0.N, (cfg0.win 4).flush t = true := by decide +kernel

theorem lt68 (t : Fin cfg0.N) : t.val < 68 := lt_of_lt_of_eq t.isLt points

/-- A block of the prompt's rows, at the points that take it. -/
theorem block_prompt (t : Fin cfg0.N) (h : t.val / 4 < 16) (i : Fin 512) (k : Fin 2048) :
    (iblk m c 0 t : Vec Ideal S512x2048 .f32) (ix2 i k) = argX m c (ix3 0 ⟨t.val / 4 * 512 + i.val, by omega⟩ k) := by
  rw [← prompt_entry]
  unfold iblk
  rw [View.read_apply]
  show V0 m c (Proc.tc.devRef main_v0) _ = V0 m c (Proc.tc.devRef main_v0) _
  congr 1
  funext a
  apply Fin.ext
  match a with
  | ⟨0, _⟩ => show win0_0.index t 0 * 512 + 1 * i.val = t.val / 4 * 512 + i.val; rw [(index0 t).1]; omega
  | ⟨1, _⟩ => show win0_0.index t 1 * 2048 + 1 * k.val = k.val; rw [(index0 t).2]; omega

/-- The samples' rows, all of them one block. -/
theorem block_sample (t : Fin cfg0.N) (b : Fin 32) (s : Fin 16) (k : Fin 2048) :
    (iblk m c 1 t : Vec Ideal S512x2048 .f32) (ix2 ⟨b.val * 16 + s.val, by omega⟩ k) = argX' m c (ix3 b s k) := by
  rw [← sample_entry]
  unfold iblk
  rw [View.read_apply]
  show V0 m c (Proc.tc.devRef main_v1) _ = V0 m c (Proc.tc.devRef main_v1) _
  congr 1
  funext a
  apply Fin.ext
  match a with
  | ⟨0, _⟩ => show win0_1.index t 0 * 512 + 1 * (b.val * 16 + s.val) = b.val * 16 + s.val; rw [(index1 t).1]; omega
  | ⟨1, _⟩ => show win0_1.index t 1 * 2048 + 1 * k.val = k.val; rw [(index1 t).2]; omega

/-- The gains' block. -/
theorem block_gains (t : Fin cfg0.N) (k : Fin 2048) : (iblk m c 2 t : Vec Ideal S1x2048 .f32) (ix2 0 k) = argG m c (ix2 0 k) := by
  rw [← gains_entry]
  unfold iblk
  rw [View.read_apply]
  show V0 m c (Proc.tc.devRef main_v6) _ = V0 m c (Proc.tc.devRef main_v6) _
  congr 1
  funext a
  apply Fin.ext
  match a with
  | ⟨0, _⟩ => show win0_2.index t 0 * 1 + 1 * 0 = 0; rw [(index2 t).1]
  | ⟨1, _⟩ => show win0_2.index t 1 * 2048 + 1 * k.val = k.val; rw [(index2 t).2]; omega

/-- A block of the weight's columns. -/
theorem block_weight (t : Fin cfg0.N) (k : Fin 2048) (l : Fin 1024) :
    (iblk m c 3 t : Vec Ideal S2048x1024 .bf16) (ix2 k l) = argW m c (ix3 0 k ⟨t.val % 4 * 1024 + l.val, by omega⟩) := by
  rw [← weight_entry]
  unfold iblk
  rw [View.read_apply]
  show V0 m c (Proc.tc.devRef main_v5) _ = V0 m c (Proc.tc.devRef main_v5) _
  congr 1
  funext a
  apply Fin.ext
  match a with
  | ⟨0, _⟩ => show win0_3.index t 0 * 2048 + 1 * k.val = k.val; rw [(index3 t).1]; omega
  | ⟨1, _⟩ => show win0_3.index t 1 * 1024 + 1 * l.val = t.val % 4 * 1024 + l.val; rw [(index3 t).2]; omega

/-- The stacked rows of the two inputs. -/
def stack (r : Fin 8704) : Fin 2048 → EReal := stacked (fun n k => argX m c (ix3 0 n k)) (fun b s k => argX' m c (ix3 b s k)) r

/-- Entry `(r, l)` of the projection. -/
def entry (r : Fin 8704) (l : Fin 4096) : EReal :=
  projected (stack m c r) (fun k => argG m c (ix2 0 k)) (fun k => argW m c (ix3 0 k l))

/-- The rows of a point's row block are those of the stack. -/
theorem taken_entry (t : Fin cfg0.N) (i : Fin 512) :
    (fun k => taken m c t (ix2 i k)) = stack m c ⟨t.val / 4 * 512 + i.val, by have := lt68 t; omega⟩ := by
  have h4 : (first t).val / 4 = t.val / 4 := by show t.val / 4 * 4 / 4 = _; omega
  have h68 := lt68 t
  unfold taken stack
  by_cases h : t.val / 4 < 16
  · rw [if_pos h, stacked_fst _ _ _ ⟨t.val / 4 * 512 + i.val, by omega⟩ rfl]
    funext k
    rw [block_prompt m c (first t) (by omega)]
    simp only [h4]
  · rw [if_neg h, stacked_snd _ _ _ ⟨i.val / 16, by omega⟩ ⟨i.val % 16, by omega⟩
      (by show t.val / 4 * 512 + i.val = 8192 + (i.val / 16 * 16 + i.val % 16); omega)]
    funext k
    rw [← block_sample m c (first t)]
    exact congrArg (fun r : Fin 512 => (iblk m c 1 (first t) : Vec Ideal S512x2048 .f32) (ix2 r k))
      (Fin.ext (by show i.val = i.val / 16 * 16 + i.val % 16; omega))

/-- What a point leaves for the product. -/
theorem product_entry (t : Fin cfg0.N) (i : Fin 512) (l : Fin 1024) :
    k0_pay5 (rows m c t) (iblk m c 3 t : Vec Ideal S2048x1024 .bf16) (ix2 i l)
      = entry m c ⟨t.val / 4 * 512 + i.val, by have := lt68 t; omega⟩ ⟨t.val % 4 * 1024 + l.val, by omega⟩ := by
  rw [product_apply]
  unfold rows
  simp only [rows_apply, block_gains, block_weight]
  rw [taken_entry]
  rfl

/-- The projection's array. -/
def projection : Buf (Elt Ideal) ((c : Thread nD τ).loc main_v7_0) := fun y : S8704x4096.Idx => entry m c (y 0) (y 1)

/-- Every point writes back its block of it. -/
theorem flushed_eq (t : Fin cfg0.N) (_ : (cfg0.win 4).flush t = true) :
    (dats m 0 c).flushed 4 t = ((cfg0.win 4).blk t).view.read (Elt Ideal) (projection m c) := by
  have hv : (dats m 0 c).flushed 4 t = (dats m 0 c).after 4 t := rfl
  rw [hv, after_4]
  have e := product_entry m c t
  generalize k0_pay5 (rows m c t) (iblk m c 3 t : Vec Ideal S2048x1024 .bf16) = X at e
  funext y
  rw [View.read_apply]
  have hy : (y : S512x1024.Idx) = ix2 (y 0) (y 1) := by
    funext a
    match a with
    | ⟨0, _⟩ => rfl
    | ⟨1, _⟩ => rfl
  refine Eq.trans (b := X (ix2 (n0 := 512) (n1 := 1024) (y 0) (y 1))) (congrArg X hy) ((e (y 0) (y 1)).trans ?_)
  show entry m c ⟨_, _⟩ ⟨_, _⟩ = entry m c (((cfg0.win 4).blk t).view.emb y 0) (((cfg0.win 4).blk t).view.emb y 1)
  refine congrArg₂ (entry m c) (Fin.ext ?_) (Fin.ext ?_)
  · show t.val / 4 * 512 + (y 0).val = win0_4.index t 0 * 512 + 1 * (y 0).val
    rw [(index4 t).1]; omega
  · show t.val % 4 * 1024 + (y 1).val = win0_4.index t 1 * 1024 + 1 * (y 1).val
    rw [(index4 t).2]; omega

/-- The array after the region. -/
theorem array : (dats m 0 c).arrAt 4 cfg0.N = projection m c :=
  (dats m 0 c).arrAt_eq_of_cover 4 (projection m c) (flushed_eq m c) fun i => by
    have h0 : (i 0 : Nat) < 8704 := (i 0).isLt
    have h1 : (i 1 : Nat) < 4096 := (i 1).isLt
    have hN := points
    let t : Fin cfg0.N := ⟨(i 0 : Nat) / 512 * 4 + (i 1 : Nat) / 1024, by omega⟩
    have hr : t.val / 4 = (i 0 : Nat) / 512 := by show ((i 0 : Nat) / 512 * 4 + (i 1 : Nat) / 1024) / 4 = _; omega
    have hl : t.val % 4 = (i 1 : Nat) / 1024 := by show ((i 0 : Nat) / 512 * 4 + (i 1 : Nat) / 1024) % 4 = _; omega
    refine ⟨t, flush_product t, ?_⟩
    show i ∈ ((View.whole main_v7_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1, hr]; omega
    | ⟨1, _⟩ =>
      show win0_4.index t 1 * 1024 ≤ (i 1 : Nat) ∧ (i 1 : Nat) < win0_4.index t 1 * 1024 + 1024
      rw [(index4 t).2, hl]; omega

end Cert.ProjRun
end
-- ==== Proof.ProjResults.lean ====
module

public import proofs.«01_k».proof.Proof.ProjArray

/-!
The results of the run: the new window of keys and values and the new pool state, which are parts of the projection's
array, behind the kept part of the old ones for the samples.
-/
@[expose] public section

set_option maxRecDepth 16384

noncomputable section

namespace Cert.ProjRun

open Cert.ProjIdeal Cert.ProjIdeal.Gen Cert.Swiglu Idealize.ShloMosaic Idealize.ShloMosaic.TcCoe Idealize.SL.Sem

variable (m : (ℓ : Loc nD τ sig) → Buf (Elt Ideal) ℓ) (c : Dev nD)

/-- A core's buffers when the region is left. -/
def left : Valuation τ sig (Elt Ideal) := Pipeline.withArrays spec0 c (V0 m c) fun w => (dats m 0 c).arrAt w cfg0.N

theorem final_eq (b : Ref sig .tc) : final m c b = StableHlo.after hostOps1 (left m c) (Proc.tc.devRef b) := rfl

theorem left_projection : left m c (Proc.tc.devRef main_v7_0) = projection m c :=
  (Pipeline.withArrays_arr spec0 launch0.win.arr_inj c (V0 m c) _ 4).trans (array m c)

/-- A buffer that no operation writes is left as launched. -/
theorem left_launched (b : Ref sig .tc) (h0 : b ∉ written0) (ha : ∀ w, Pipeline.arrRef spec0 w ≠ b) :
    left m c (Proc.tc.devRef b) = m (c, Proc.tc.devRef b) :=
  (Pipeline.withArrays_of_ne _ c _ _ b ha).trans (StableHlo.after_of_forall_not_mem (b := Proc.devRef .tc b) _ _ (not_written hostOps0_writes b h0))

variable (W : Valuation τ sig (Elt Ideal))

/-- The operations after the region: the keys of the prompt's last 576 rows, in heads, are columns of the projection; -/
theorem keys_prompt (n : Fin 576) (h : Fin 16) (d : Fin 64) :
    (StableHlo.after hostOps1 W (Proc.tc.devRef main_v16) : FVec Ideal S1x1x576x16x64 .f32) (ix5 0 0 n h d)
      = (W (Proc.tc.devRef main_v7_0) : FVec Ideal S8704x4096 .f32) (ix2 ⟨7616 + n.val, by omega⟩ ⟨1024 + (h.val * 64 + d.val), by omega⟩) := by
  simp only [hostOps1]
  after_reads_simp
  clean_types
  pointwise

/-- its values, the next columns; -/
theorem values_prompt (n : Fin 576) (h : Fin 16) (d : Fin 64) :
    (StableHlo.after hostOps1 W (Proc.tc.devRef main_v18) : FVec Ideal S1x1x576x16x64 .f32) (ix5 0 0 n h d)
      = (W (Proc.tc.devRef main_v7_0) : FVec Ideal S8704x4096 .f32) (ix2 ⟨7616 + n.val, by omega⟩ ⟨2048 + (h.val * 64 + d.val), by omega⟩) := by
  simp only [hostOps1]
  after_reads_simp
  clean_types
  pointwise

/-- its pool state, of the last 15 rows, the last columns. -/
theorem pool_prompt (n : Fin 15) (l : Fin 1024) :
    (StableHlo.after hostOps1 W (Proc.tc.devRef main_v20) : FVec Ideal S1x1x15x1024 .f32) (ix4 0 0 n l)
      = (W (Proc.tc.devRef main_v7_0) : FVec Ideal S8704x4096 .f32) (ix2 ⟨8177 + n.val, by omega⟩ ⟨3072 + l.val, by omega⟩) := by
  simp only [hostOps1]
  after_reads_simp
  clean_types
  pointwise

/-- The samples' pool state is that of their last 15 rows, -/
theorem pool_sample (b : Fin 32) (n : Fin 15) (l : Fin 1024) :
    (StableHlo.after hostOps1 W (Proc.tc.devRef main_v34) : FVec Ideal S1x32x15x1024 .f32) (ix4 0 b n l)
      = (W (Proc.tc.devRef main_v7_0) : FVec Ideal S8704x4096 .f32) (ix2 ⟨8192 + (b.val * 16 + (16 + n.val - 15)), by omega⟩ ⟨3072 + l.val, by omega⟩) := by
  simp only [hostOps1]
  after_reads_simp
  clean_types
  pointwise
  after_reads_simp
  clean_types
  pointwise
  exact dif_neg (by omega)

/-- and their keys are the kept ones moved on by 16 and then those of their 16 rows, -/
theorem keys_sample (b : Fin 32) (n : Fin 576) (h : Fin 16) (d : Fin 64) :
    (StableHlo.after hostOps1 W (Proc.tc.devRef main_v26) : FVec Ideal S1x32x576x16x64 .f32) (ix5 0 b n h d)
      = if _ : 16 + n.val < 576 then (W (Proc.tc.devRef main_arg2) : FVec Ideal S1x32x576x16x64 .f32) (ix5 0 b ⟨16 + n.val, by omega⟩ h d)
        else (W (Proc.tc.devRef main_v7_0) : FVec Ideal S8704x4096 .f32)
          (ix2 ⟨8192 + (b.val * 16 + (16 + n.val - 576)), by omega⟩ ⟨1024 + (h.val * 64 + d.val), by omega⟩) := by
  simp only [hostOps1]
  after_reads_simp
  clean_types
  pointwise
  after_reads_simp
  clean_types
  pointwise

/-- their values likewise. -/
theorem values_sample (b : Fin 32) (n : Fin 576) (h : Fin 16) (d : Fin 64) :
    (StableHlo.after hostOps1 W (Proc.tc.devRef main_v32) : FVec Ideal S1x32x576x16x64 .f32) (ix5 0 b n h d)
      = if _ : 16 + n.val < 576 then (W (Proc.tc.devRef main_arg3) : FVec Ideal S1x32x576x16x64 .f32) (ix5 0 b ⟨16 + n.val, by omega⟩ h d)
        else (W (Proc.tc.devRef main_v7_0) : FVec Ideal S8704x4096 .f32)
          (ix2 ⟨8192 + (b.val * 16 + (16 + n.val - 576)), by omega⟩ ⟨2048 + (h.val * 64 + d.val), by omega⟩) := by
  simp only [hostOps1]
  after_reads_simp
  clean_types
  pointwise
  after_reads_simp
  clean_types
  pointwise

/-- The samples' old keys and values. -/
abbrev argK : S1x32x576x16x64.Idx → EReal := m (c, Proc.tc.devRef main_arg2)
abbrev argV : S1x32x576x16x64.Idx → EReal := m (c, Proc.tc.devRef main_arg3)

/-- An entry of the projection in one of the prompt's rows, -/
theorem entry_prompt (n : Fin 8192) (r : Fin 8704) (l : Fin 4096) (h : r.val = n.val) :
    entry m c r l = projected (fun k => argX m c (ix3 0 n k)) (fun k => argG m c (ix2 0 k)) (fun k => argW m c (ix3 0 k l)) := by
  unfold entry stack
  rw [stacked_fst _ _ r n h]

/-- and in one of the samples'. -/
theorem entry_sample (b : Fin 32) (s : Fin 16) (r : Fin 8704) (l : Fin 4096) (h : r.val = 8192 + (b.val * 16 + s.val)) :
    entry m c r l = projected (fun k => argX' m c (ix3 b s k)) (fun k => argG m c (ix2 0 k)) (fun k => argW m c (ix3 0 k l)) := by
  unfold entry stack
  rw [stacked_snd _ _ r b s h]

/-- The results themselves: the prompt's keys, -/
theorem final_keys_prompt (n : Fin 576) (h : Fin 16) (d : Fin 64) : (final m c main_v16 : FVec Ideal S1x1x576x16x64 .f32) (ix5 0 0 n h d)
    = projected (fun k => argX m c (ix3 0 ⟨7616 + n.val, by omega⟩ k)) (fun k => argG m c (ix2 0 k))
      (fun k => argW m c (ix3 0 k ⟨1024 + (h.val * 64 + d.val), by omega⟩)) := by
  rw [final_eq, keys_prompt, left_projection]
  exact entry_prompt m c _ _ _ rfl

/-- its values, -/
theorem final_values_prompt (n : Fin 576) (h : Fin 16) (d : Fin 64) : (final m c main_v18 : FVec Ideal S1x1x576x16x64 .f32) (ix5 0 0 n h d)
    = projected (fun k => argX m c (ix3 0 ⟨7616 + n.val, by omega⟩ k)) (fun k => argG m c (ix2 0 k))
      (fun k => argW m c (ix3 0 k ⟨2048 + (h.val * 64 + d.val), by omega⟩)) := by
  rw [final_eq, values_prompt, left_projection]
  exact entry_prompt m c _ _ _ rfl

/-- its pool state, -/
theorem final_pool_prompt (n : Fin 15) (l : Fin 1024) : (final m c main_v20 : FVec Ideal S1x1x15x1024 .f32) (ix4 0 0 n l)
    = projected (fun k => argX m c (ix3 0 ⟨8177 + n.val, by omega⟩ k)) (fun k => argG m c (ix2 0 k))
      (fun k => argW m c (ix3 0 k ⟨3072 + l.val, by omega⟩)) := by
  rw [final_eq, pool_prompt, left_projection]
  exact entry_prompt m c _ _ _ rfl

/-- the samples' keys, -/
theorem final_keys_sample (b : Fin 32) (n : Fin 576) (h : Fin 16) (d : Fin 64) :
    (final m c main_v26 : FVec Ideal S1x32x576x16x64 .f32) (ix5 0 b n h d)
      = if _ : 16 + n.val < 576 then argK m c (ix5 0 b ⟨16 + n.val, by omega⟩ h d)
        else projected (fun k => argX' m c (ix3 b ⟨16 + n.val - 576, by omega⟩ k)) (fun k => argG m c (ix2 0 k))
          (fun k => argW m c (ix3 0 k ⟨1024 + (h.val * 64 + d.val), by omega⟩)) := by
  rw [final_eq, keys_sample, left_projection, left_launched m c main_arg2 (by decide) (by decide)]
  exact dite_congr rfl (fun _ => rfl) (fun _ => entry_sample m c _ _ _ _ rfl)

/-- their values -/
theorem final_values_sample (b : Fin 32) (n : Fin 576) (h : Fin 16) (d : Fin 64) :
    (final m c main_v32 : FVec Ideal S1x32x576x16x64 .f32) (ix5 0 b n h d)
      = if _ : 16 + n.val < 576 then argV m c (ix5 0 b ⟨16 + n.val, by omega⟩ h d)
        else projected (fun k => argX' m c (ix3 b ⟨16 + n.val - 576, by omega⟩ k)) (fun k => argG m c (ix2 0 k))
          (fun k => argW m c (ix3 0 k ⟨2048 + (h.val * 64 + d.val), by omega⟩)) := by
  rw [final_eq, values_sample, left_projection, left_launched m c main_arg3 (by decide) (by decide)]
  exact dite_congr rfl (fun _ => rfl) (fun _ => entry_sample m c _ _ _ _ rfl)

/-- and their pool state. -/
theorem final_pool_sample (b : Fin 32) (n : Fin 15) (l : Fin 1024) : (final m c main_v34 : FVec Ideal S1x32x15x1024 .f32) (ix4 0 b n l)
    = projected (fun k => argX' m c (ix3 b ⟨16 + n.val - 15, by omega⟩ k)) (fun k => argG m c (ix2 0 k))
      (fun k => argW m c (ix3 0 k ⟨3072 + l.val, by omega⟩)) := by
  rw [final_eq, pool_sample, left_projection]
  exact entry_sample m c _ _ _ _ rfl

end Cert.ProjRun
end
-- ==== Proof.ProjRef.lean ====
module

public import proofs.«01_k».proof.Proof.Swiglu
public import proofs.«01_k».proof.Proof.Gen.ProjReferenceIdeal.Run
public import Idealize.ShloMosaic.Lib.Pointwise

/-!
What the norm-and-projection reference computes, entry by entry, in each of its results.
-/
@[expose] public section

set_option maxRecDepth 16384

noncomputable section

namespace Cert.ProjReferenceIdeal.Proj

open Cert.ProjReferenceIdeal Cert.ProjReferenceIdeal.Gen Cert.Swiglu Idealize.ShloMosaic Idealize.ShloMosaic.TcCoe Idealize.SL.Sem

/-- The prompt's rows, normalised. -/
def rows (X : FVec Ideal S1x8192x2048 .f32) (G : FVec Ideal S2x2048 .f32) : FVec Ideal S1x8192x2048 .f32 :=
  mulf (mulf X (broadcastInDim S1x8192x2048 ![0, 1, 2] bcast_S1x8192x1_S1x8192x2048_0_1_2 (Host.rsqrt (addf (Host.divf
    (broadcastInDim S1x8192x1 ![0, 1] bcast_S1x8192_S1x8192x1_0_1 (Host.reduceAdd (mulf X X) (constant S_ .f32 0x00000000#32)
    reducesTo_S1x8192x2048_S1x8192_d2 h_S_)) (broadcastInDim S1x8192x1 ![] bcast_S_S1x8192x1 (constant S_ .f32 0x45000000#32)))
    (broadcastInDim S1x8192x1 ![] bcast_S_S1x8192x1 (constant S_ .f32 0x358637BD#32)))))) (broadcastInDim S1x8192x2048 ![0, 1, 2]
    bcast_S1x1x2048_S1x8192x2048_0_1_2 (broadcastInDim S1x1x2048 ![2] bcast_S2048_S1x1x2048_2 (shapeCast _ (extractStridedSlice
    S1x2048 ![0, 0] G slices_S2x2048_S1x2048_0_0) shapeCasts_S1x2048_S2048)))

/-- The samples' rows, normalised. -/
def rows' (X : FVec Ideal S32x16x2048 .f32) (G : FVec Ideal S2x2048 .f32) : FVec Ideal S32x16x2048 .f32 :=
  mulf (mulf X (broadcastInDim S32x16x2048 ![0, 1, 2] bcast_S32x16x1_S32x16x2048_0_1_2 (Host.rsqrt (addf (Host.divf
    (broadcastInDim S32x16x1 ![0, 1] bcast_S32x16_S32x16x1_0_1 (Host.reduceAdd (mulf X X) (constant S_ .f32 0x00000000#32)
    reducesTo_S32x16x2048_S32x16_d2 h_S_)) (broadcastInDim S32x16x1 ![] bcast_S_S32x16x1 (constant S_ .f32 0x45000000#32)))
    (broadcastInDim S32x16x1 ![] bcast_S_S32x16x1 (constant S_ .f32 0x358637BD#32)))))) (broadcastInDim S32x16x2048 ![0, 1, 2]
    bcast_S1x1x2048_S32x16x2048_0_1_2 (broadcastInDim S1x1x2048 ![2] bcast_S2048_S1x1x2048_2 (shapeCast _ (extractStridedSlice
    S1x2048 ![0, 0] G slices_S2x2048_S1x2048_0_0) shapeCasts_S1x2048_S2048)))

/-- The prompt's projection. -/
def prod (X : FVec Ideal S1x8192x2048 .f32) (G : FVec Ideal S2x2048 .f32) (W : FVec Ideal S1x2048x4096 .f32) : FVec Ideal S1x8192x4096 .f32 :=
  Host.dotGeneral dot_S1x8192x2048_S2048x4096_S1x8192x4096_2_0_01_1_n_n none (rows X G) (shapeCast _ W shapeCasts_S1x2048x4096_S2048x4096)

/-- The samples' projection. -/
def prod' (X : FVec Ideal S32x16x2048 .f32) (G : FVec Ideal S2x2048 .f32) (W : FVec Ideal S1x2048x4096 .f32) : FVec Ideal S32x16x4096 .f32 :=
  Host.dotGeneral dot_S32x16x2048_S2048x4096_S32x16x4096_2_0_01_1_n_n none (rows' X G) (shapeCast _ W shapeCasts_S1x2048x4096_S2048x4096)

/-- The first result: the two projections, one below the other. -/
def whole (X : FVec Ideal S1x8192x2048 .f32) (X' : FVec Ideal S32x16x2048 .f32) (G : FVec Ideal S2x2048 .f32) (W : FVec Ideal S1x2048x4096 .f32) :
    FVec Ideal S8704x4096 .f32 :=
  concatenate S8704x4096 0 [⟨S8192x4096, (shapeCast _ (prod X G W) shapeCasts_S1x8192x4096_S8192x4096)⟩, ⟨S512x4096, (shapeCast _ (prod' X' G W)
    shapeCasts_S32x16x4096_S512x4096)⟩] concatenates_S8192x4096_S512x4096_S8704x4096_d0

/-- A window of the prompt's last 576 rows, in heads, -/
def window (P : FVec Ideal S1x8192x1024 .f32) : FVec Ideal S1x1x576x16x64 .f32 :=
  broadcastInDim S1x1x576x16x64 ![1, 2, 3, 4] bcast_S1x576x16x64_S1x1x576x16x64_1_2_3_4 (extractStridedSlice S1x576x16x64 ![0, 7616, 0, 0]
    (shapeCast _ P shapeCasts_S1x8192x1024_S1x8192x16x64) slices_S1x8192x16x64_S1x576x16x64_0_7616_0_0)

/-- and the samples' window, the old one moved on by their rows. -/
def window' (A : FVec Ideal S1x32x576x16x64 .f32) (P : FVec Ideal S32x16x1024 .f32) : FVec Ideal S1x32x576x16x64 .f32 :=
  broadcastInDim S1x32x576x16x64 ![1, 2, 3, 4] bcast_S32x576x16x64_S1x32x576x16x64_1_2_3_4 (extractStridedSlice S32x576x16x64 ![0, 16, 0, 0]
    (concatenate S32x592x16x64 1 [⟨S32x576x16x64, (shapeCast _ A shapeCasts_S1x32x576x16x64_S32x576x16x64)⟩, ⟨S32x16x16x64,
      (shapeCast _ P shapeCasts_S32x16x1024_S32x16x16x64)⟩] concatenates_S32x576x16x64_S32x16x16x64_S32x592x16x64_d1)
    slices_S32x592x16x64_S32x576x16x64_0_16_0_0)

/-- The other six results, of the prompt -/
def keys (X : FVec Ideal S1x8192x2048 .f32) (G : FVec Ideal S2x2048 .f32) (W : FVec Ideal S1x2048x4096 .f32) : FVec Ideal S1x1x576x16x64 .f32 :=
  window (extractStridedSlice S1x8192x1024 ![0, 0, 1024] (prod X G W) slices_S1x8192x4096_S1x8192x1024_0_0_1024)
def values (X : FVec Ideal S1x8192x2048 .f32) (G : FVec Ideal S2x2048 .f32) (W : FVec Ideal S1x2048x4096 .f32) : FVec Ideal S1x1x576x16x64 .f32 :=
  window (extractStridedSlice S1x8192x1024 ![0, 0, 2048] (prod X G W) slices_S1x8192x4096_S1x8192x1024_0_0_2048)
def pool (X : FVec Ideal S1x8192x2048 .f32) (G : FVec Ideal S2x2048 .f32) (W : FVec Ideal S1x2048x4096 .f32) : FVec Ideal S1x1x15x1024 .f32 :=
  broadcastInDim S1x1x15x1024 ![1, 2, 3] bcast_S1x15x1024_S1x1x15x1024_1_2_3 (extractStridedSlice S1x15x1024 ![0, 8177, 0]
    (extractStridedSlice S1x8192x1024 ![0, 0, 3072] (prod X G W) slices_S1x8192x4096_S1x8192x1024_0_0_3072) slices_S1x8192x1024_S1x15x1024_0_8177_0)

/-- and of the samples. -/
def keys' (X : FVec Ideal S32x16x2048 .f32) (A : FVec Ideal S1x32x576x16x64 .f32) (G : FVec Ideal S2x2048 .f32) (W : FVec Ideal S1x2048x4096 .f32) :
    FVec Ideal S1x32x576x16x64 .f32 :=
  window' A (extractStridedSlice S32x16x1024 ![0, 0, 1024] (prod' X G W) slices_S32x16x4096_S32x16x1024_0_0_1024)
def values' (X : FVec Ideal S32x16x2048 .f32) (A : FVec Ideal S1x32x576x16x64 .f32) (G : FVec Ideal S2x2048 .f32) (W : FVec Ideal S1x2048x4096 .f32) :
    FVec Ideal S1x32x576x16x64 .f32 :=
  window' A (extractStridedSlice S32x16x1024 ![0, 0, 2048] (prod' X G W) slices_S32x16x4096_S32x16x1024_0_0_2048)
def pool' (X : FVec Ideal S32x16x2048 .f32) (A : FVec Ideal S1x32x15x1024 .f32) (G : FVec Ideal S2x2048 .f32) (W : FVec Ideal S1x2048x4096 .f32) :
    FVec Ideal S1x32x15x1024 .f32 :=
  broadcastInDim S1x32x15x1024 ![1, 2, 3] bcast_S32x15x1024_S1x32x15x1024_1_2_3 (extractStridedSlice S32x15x1024 ![0, 16, 0] (concatenate
    S32x31x1024 1 [⟨S32x15x1024, (shapeCast _ A shapeCasts_S1x32x15x1024_S32x15x1024)⟩, ⟨S32x16x1024, (extractStridedSlice S32x16x1024
    ![0, 0, 3072] (prod' X G W) slices_S32x16x4096_S32x16x1024_0_0_3072)⟩] concatenates_S32x15x1024_S32x16x1024_S32x31x1024_d1)
    slices_S32x31x1024_S32x15x1024_0_16_0)

/-- The run ends with those results, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = whole (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v59) = keys (m ((c.tc : Thread nD τ).loc main_arg0)) (m ((c.tc : Thread nD τ).loc main_arg5)) (m ((c.tc : Thread nD τ).loc main_arg6))
      ∧ r.2.mem ((c.tc : Thread nD τ).loc main_v60) = values (m ((c.tc : Thread nD τ).loc main_arg0)) (m ((c.tc : Thread nD τ).loc main_arg5)) (m ((c.tc : Thread nD τ).loc main_arg6))
      ∧ r.2.mem ((c.tc : Thread nD τ).loc main_v61) = pool (m ((c.tc : Thread nD τ).loc main_arg0)) (m ((c.tc : Thread nD τ).loc main_arg5)) (m ((c.tc : Thread nD τ).loc main_arg6))
      ∧ r.2.mem ((c.tc : Thread nD τ).loc main_v62) = keys' (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v63) = values' (m ((c.tc : Thread nD τ).loc main_arg1)) (m ((c.tc : Thread nD τ).loc main_arg3)) (m ((c.tc : Thread nD τ).loc main_arg5)) (m ((c.tc : Thread nD τ).loc main_arg6))
      ∧ r.2.mem ((c.tc : Thread nD τ).loc main_v64) = pool' (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

theorem rows_apply (X : FVec Ideal S1x8192x2048 .f32) (G : FVec Ideal S2x2048 .f32) (r : Fin 8192) (k : Fin 2048) :
    rows X G (ix3 0 r k) = normed (fun k => X (ix3 0 r k)) (fun k => G (ix2 0 k)) k := by
  pointwise [rows]
  rfl

theorem rows'_apply (X : FVec Ideal S32x16x2048 .f32) (G : FVec Ideal S2x2048 .f32) (b : Fin 32) (s : Fin 16) (k : Fin 2048) :
    rows' X G (ix3 b s k) = normed (fun k => X (ix3 b s k)) (fun k => G (ix2 0 k)) k := by
  pointwise [rows']
  rfl

theorem prod_apply (X : FVec Ideal S1x8192x2048 .f32) (G : FVec Ideal S2x2048 .f32) (W : FVec Ideal S1x2048x4096 .f32) (r : Fin 8192) (l : Fin 4096) :
    prod X G W (ix3 0 r l) = projected (fun k => X (ix3 0 r k)) (fun k => G (ix2 0 k)) (fun k => W (ix3 0 k l)) := by
  pointwise [prod]
  simp only [rows_apply]
  rfl

theorem prod'_apply (X : FVec Ideal S32x16x2048 .f32) (G : FVec Ideal S2x2048 .f32) (W : FVec Ideal S1x2048x4096 .f32) (b : Fin 32) (s : Fin 16)
    (l : Fin 4096) : prod' X G W (ix3 b s l) = projected (fun k => X (ix3 b s k)) (fun k => G (ix2 0 k)) (fun k => W (ix3 0 k l)) := by
  pointwise [prod']
  simp only [rows'_apply]
  rfl

theorem whole_apply (X : FVec Ideal S1x8192x2048 .f32) (X' : FVec Ideal S32x16x2048 .f32) (G : FVec Ideal S2x2048 .f32)
    (W : FVec Ideal S1x2048x4096 .f32) (r : Fin 8704) (l : Fin 4096) :
    whole X X' G W (ix2 r l) = projected (stacked (fun n k => X (ix3 0 n k)) (fun b s k => X' (ix3 b s k)) r) (fun k => G (ix2 0 k))
      (fun k => W (ix3 0 k l)) := by
  by_cases h : r.val < 8192
  · rw [stacked_fst _ _ r ⟨r.val, h⟩ rfl, ← prod_apply]
    pointwise [whole]
    exact dif_pos h
  · have h1 : r.val - 8192 < 512 := by omega
    rw [stacked_snd _ _ r ⟨(r.val - 8192) / 16, by omega⟩ ⟨(r.val - 8192) % 16, by omega⟩
      (by show r.val = 8192 + ((r.val - 8192) / 16 * 16 + (r.val - 8192) % 16); omega), ← prod'_apply]
    pointwise [whole]
    exact dif_neg h

theorem keys_apply (X : FVec Ideal S1x8192x2048 .f32) (G : FVec Ideal S2x2048 .f32) (W : FVec Ideal S1x2048x4096 .f32) (n : Fin 576) (h : Fin 16)
    (d : Fin 64) : keys X G W (ix5 0 0 n h d) = projected (fun k => X (ix3 0 ⟨7616 + n.val, by omega⟩ k)) (fun k => G (ix2 0 k))
      (fun k => W (ix3 0 k ⟨1024 + (h.val * 64 + d.val), by omega⟩)) := by
  rw [← prod_apply]
  pointwise [keys, window]

theorem values_apply (X : FVec Ideal S1x8192x2048 .f32) (G : FVec Ideal S2x2048 .f32) (W : FVec Ideal S1x2048x4096 .f32) (n : Fin 576) (h : Fin 16)
    (d : Fin 64) : values X G W (ix5 0 0 n h d) = projected (fun k => X (ix3 0 ⟨7616 + n.val, by omega⟩ k)) (fun k => G (ix2 0 k))
      (fun k => W (ix3 0 k ⟨2048 + (h.val * 64 + d.val), by omega⟩)) := by
  rw [← prod_apply]
  pointwise [values, window]

theorem pool_apply (X : FVec Ideal S1x8192x2048 .f32) (G : FVec Ideal S2x2048 .f32) (W : FVec Ideal S1x2048x4096 .f32) (n : Fin 15) (l : Fin 1024) :
    pool X G W (ix4 0 0 n l) = projected (fun k => X (ix3 0 ⟨8177 + n.val, by omega⟩ k)) (fun k => G (ix2 0 k))
      (fun k => W (ix3 0 k ⟨3072 + l.val, by omega⟩)) := by
  rw [← prod_apply]
  pointwise [pool]

theorem keys'_apply (X : FVec Ideal S32x16x2048 .f32) (A : FVec Ideal S1x32x576x16x64 .f32) (G : FVec Ideal S2x2048 .f32)
    (W : FVec Ideal S1x2048x4096 .f32) (b : Fin 32) (n : Fin 576) (h : Fin 16) (d : Fin 64) :
    keys' X A G W (ix5 0 b n h d) = if _ : 16 + n.val < 576 then A (ix5 0 b ⟨16 + n.val, by omega⟩ h d)
      else projected (fun k => X (ix3 b ⟨16 + n.val - 576, by omega⟩ k)) (fun k => G (ix2 0 k))
        (fun k => W (ix3 0 k ⟨1024 + (h.val * 64 + d.val), by omega⟩)) := by
  simp only [← prod'_apply]
  pointwise [keys', window']

theorem values'_apply (X : FVec Ideal S32x16x2048 .f32) (A : FVec Ideal S1x32x576x16x64 .f32) (G : FVec Ideal S2x2048 .f32)
    (W : FVec Ideal S1x2048x4096 .f32) (b : Fin 32) (n : Fin 576) (h : Fin 16) (d : Fin 64) :
    values' X A G W (ix5 0 b n h d) = if _ : 16 + n.val < 576 then A (ix5 0 b ⟨16 + n.val, by omega⟩ h d)
      else projected (fun k => X (ix3 b ⟨16 + n.val - 576, by omega⟩ k)) (fun k => G (ix2 0 k))
        (fun k => W (ix3 0 k ⟨2048 + (h.val * 64 + d.val), by omega⟩)) := by
  simp only [← prod'_apply]
  pointwise [values', window']

theorem pool'_apply (X : FVec Ideal S32x16x2048 .f32) (A : FVec Ideal S1x32x15x1024 .f32) (G : FVec Ideal S2x2048 .f32)
    (W : FVec Ideal S1x2048x4096 .f32) (b : Fin 32) (n : Fin 15) (l : Fin 1024) :
    pool' X A G W (ix4 0 b n l) = projected (fun k => X (ix3 b ⟨16 + n.val - 15, by omega⟩ k)) (fun k => G (ix2 0 k))
      (fun k => W (ix3 0 k ⟨3072 + l.val, by omega⟩)) := by
  rw [← prod'_apply]
  pointwise [pool']
  exact dif_neg (by omega)

end Cert.ProjReferenceIdeal.Proj
end
-- ==== Proof.ProjEq.lean ====
module

public import proofs.«01_k».proof.Proof.ProjResults
public import proofs.«01_k».proof.Proof.ProjRef

/-!
The kernel's seven results are the reference's, on the same arguments.
-/
@[expose] public section

set_option maxRecDepth 16384

noncomputable section

namespace Cert.ProjRun

open Cert.ProjIdeal Cert.ProjIdeal.Gen Cert.Swiglu Idealize.ShloMosaic Idealize.ShloMosaic.TcCoe Idealize.SL.Sem
open Cert.ProjReferenceIdeal.Proj (whole keys values pool keys' values' pool')

variable (m : (ℓ : Loc nD τ sig) → Buf (Elt Ideal) ℓ) (c : Dev nD)

/-- The samples' old pool states. -/
abbrev argP : S1x32x15x1024.Idx → EReal := m (c, Proc.tc.devRef main_arg4)

/-- The whole projection; -/
theorem whole_eq : whole (argX m c) (argX' m c) (argG m c) (argW m c) = projection m c := by
  funext y
  idx_vars y
  rw [Cert.ProjReferenceIdeal.Proj.whole_apply]
  rfl

/-- the prompt's keys; -/
theorem keys_prompt_eq : keys (argX m c) (argG m c) (argW m c) = (final m c main_v16 : FVec Ideal S1x1x576x16x64 .f32) := by
  funext y
  idx_vars y
  obtain rfl : y0 = 0 := Subsingleton.elim _ _
  obtain rfl : y1 = 0 := Subsingleton.elim _ _
  rw [final_keys_prompt, Cert.ProjReferenceIdeal.Proj.keys_apply]

/-- its values; -/
theorem values_prompt_eq : values (argX m c) (argG m c) (argW m c) = (final m c main_v18 : FVec Ideal S1x1x576x16x64 .f32) := by
  funext y
  idx_vars y
  obtain rfl : y0 = 0 := Subsingleton.elim _ _
  obtain rfl : y1 = 0 := Subsingleton.elim _ _
  rw [final_values_prompt, Cert.ProjReferenceIdeal.Proj.values_apply]

/-- its pool state; -/
theorem pool_prompt_eq : pool (argX m c) (argG m c) (argW m c) = (final m c main_v20 : FVec Ideal S1x1x15x1024 .f32) := by
  funext y
  idx_vars y
  obtain rfl : y0 = 0 := Subsingleton.elim _ _
  obtain rfl : y1 = 0 := Subsingleton.elim _ _
  rw [final_pool_prompt, Cert.ProjReferenceIdeal.Proj.pool_apply]

/-- the samples' keys; -/
theorem keys_sample_eq : keys' (argX' m c) (argK m c) (argG m c) (argW m c) = (final m c main_v26 : FVec Ideal S1x32x576x16x64 .f32) := by
  funext y
  idx_vars y
  obtain rfl : y0 = 0 := Subsingleton.elim _ _
  rw [final_keys_sample, Cert.ProjReferenceIdeal.Proj.keys'_apply]

/-- their values; -/
theorem values_sample_eq : values' (argX' m c) (argV m c) (argG m c) (argW m c) = (final m c main_v32 : FVec Ideal S1x32x576x16x64 .f32) := by
  funext y
  idx_vars y
  obtain rfl : y0 = 0 := Subsingleton.elim _ _
  rw [final_values_sample, Cert.ProjReferenceIdeal.Proj.values'_apply]

/-- their pool state. -/
theorem pool_sample_eq : pool' (argX' m c) (argP m c) (argG m c) (argW m c) = (final m c main_v34 : FVec Ideal S1x32x15x1024 .f32) := by
  funext y
  idx_vars y
  obtain rfl : y0 = 0 := Subsingleton.elim _ _
  rw [final_pool_sample, Cert.ProjReferenceIdeal.Proj.pool'_apply]

end Cert.ProjRun
end
-- ==== Proof.OutArray.lean ====
module

public import proofs.«01_k».proof.Proof.Gen.OutIdeal.Value
public import Idealize.ShloMosaic.Lib.Pipeline.ValueKit
public import Idealize.ShloMosaic.Lib.StableHlo.ReadAt
public import Idealize.ShloMosaic.Lib.Pointwise

/-!
What the even layer's output projection leaves in its array: the layer's input plus the product of the two mixed halves with
the upper and the lower half of the weight's rows.
-/
@[expose] public section

set_option maxRecDepth 16384

noncomputable section

namespace Cert.OutIdeal.Out

open Cert.OutIdeal Cert.OutIdeal.Gen Idealize.ShloMosaic Idealize.ShloMosaic.TcCoe Idealize.SL.Sem

/-- The result at row `r` and lane `k`. -/
def outOut (A Q : S8704x1024.Idx → EReal) (X : S8704x2048.Idx → EReal) (W : S1x2048x2048.Idx → EReal)
    (r : Fin 8704) (k : Fin 2048) : EReal :=
  X (ix2 r k) + ∑ l : Fin 1024, A (ix2 r l) * W (ix3 0 ⟨l.val, by omega⟩ k)
    + ∑ l : Fin 1024, Q (ix2 r l) * W (ix3 0 ⟨1024 + l.val, by omega⟩ k)

/-- The stored tile, entry by entry. -/
theorem tile_apply (x : Vec Ideal S512x2048 .f32) (a : Vec Ideal S512x1024 .bf16) (wa : Vec Ideal S1024x2048 .bf16)
    (q : Vec Ideal S512x1024 .bf16) (wq : Vec Ideal S1024x2048 .bf16) (i : Fin 512) (k : Fin 2048) :
    k0_pay1 x a wa q wq (ix2 i k) = (id (x (ix2 i k)) : EReal) + ∑ l : Fin 1024, a (ix2 i l) * wa (ix2 l k)
      + ∑ l : Fin 1024, q (ix2 i l) * wq (ix2 l k) := by
  pointwise [k0_pay1]
  rfl

variable (m : (ℓ : Loc nD τ sig) → Buf (Elt Ideal) ℓ) (c : Dev nD)

/-- The attention's half of the mixed rows, as launched. -/
abbrev argA : S8704x1024.Idx → EReal := m (c, Proc.tc.devRef main_arg0)
/-- The pooled half. -/
abbrev argQ : S8704x1024.Idx → EReal := m (c, Proc.tc.devRef main_arg1)
/-- The layer's input. -/
abbrev argX : S8704x2048.Idx → EReal := m (c, Proc.tc.devRef main_arg2)
/-- The weight. -/
abbrev argW : S1x2048x2048.Idx → EReal := m (c, Proc.tc.devRef main_arg3)

theorem upper_entry (l : Fin 1024) (k : Fin 2048) :
    (V m c main_v2 : FVec Ideal S1024x2048 .bf16) (ix2 l k) = argW m c (ix3 0 ⟨l.val, by omega⟩ k) := by
  unfold V
  simp only [hostOps0]
  after_reads_simp
  clean_types
  pointwise

theorem lower_entry (l : Fin 1024) (k : Fin 2048) :
    (V m c main_v3 : FVec Ideal S1024x2048 .bf16) (ix2 l k) = argW m c (ix3 0 ⟨1024 + l.val, by omega⟩ k) := by
  unfold V
  simp only [hostOps0]
  after_reads_simp
  clean_types
  pointwise

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

theorem lt17 (t : Fin cfg0.N) : t.val < 17 := lt_of_lt_of_eq t.isLt N_0

/-- A block of the attention's half. -/
theorem blockA (t : Fin cfg0.N) (i : Fin 512) (l : Fin 1024) :
    (iblk m c 0 t : Vec Ideal S512x1024 .bf16) (ix2 i l) = argA m c (ix2 ⟨t.val * 512 + i.val, by have := lt17 t; omega⟩ l) := by
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = t.val * 512 + i.val; rw [(index0 t).1]; omega
  | ⟨1, _⟩ => show win0_0.index t 1 * 1024 + 1 * l.val = l.val; rw [(index0 t).2]; omega

/-- A block of the pooled half. -/
theorem blockQ (t : Fin cfg0.N) (i : Fin 512) (l : Fin 1024) :
    (iblk m c 1 t : Vec Ideal S512x1024 .bf16) (ix2 i l) = argQ m c (ix2 ⟨t.val * 512 + i.val, by have := lt17 t; omega⟩ l) := by
  unfold iblk
  rw [View.read_apply]
  show V m c main_arg1 _ = _
  rw [V_main_arg1]
  show m _ _ = m _ _
  congr 1
  funext a
  apply Fin.ext
  match a with
  | ⟨0, _⟩ => show win0_1.index t 0 * 512 + 1 * i.val = t.val * 512 + i.val; rw [(index1 t).1]; omega
  | ⟨1, _⟩ => show win0_1.index t 1 * 1024 + 1 * l.val = l.val; rw [(index1 t).2]; omega

/-- The upper half of the weight's rows, one block. -/
theorem blockUpper (t : Fin cfg0.N) (l : Fin 1024) (k : Fin 2048) :
    (iblk m c 2 t : Vec Ideal S1024x2048 .bf16) (ix2 l k) = argW m c (ix3 0 ⟨l.val, by omega⟩ k) := by
  rw [← upper_entry]
  unfold iblk
  rw [View.read_apply]
  show V m c main_v2 _ = V m c main_v2 _
  congr 1
  funext a
  apply Fin.ext
  match a with
  | ⟨0, _⟩ => show win0_2.index t 0 * 1024 + 1 * l.val = l.val; rw [(index2 t).1]; omega
  | ⟨1, _⟩ => show win0_2.index t 1 * 2048 + 1 * k.val = k.val; rw [(index2 t).2]; omega

/-- The lower half of the weight's rows, one block. -/
theorem blockLower (t : Fin cfg0.N) (l : Fin 1024) (k : Fin 2048) :
    (iblk m c 3 t : Vec Ideal S1024x2048 .bf16) (ix2 l k) = argW m c (ix3 0 ⟨1024 + l.val, by omega⟩ k) := by
  rw [← lower_entry]
  unfold iblk
  rw [View.read_apply]
  show V m c main_v3 _ = V m c main_v3 _
  congr 1
  funext a
  apply Fin.ext
  match a with
  | ⟨0, _⟩ => show win0_3.index t 0 * 1024 + 1 * l.val = l.val; rw [(index3 t).1]; omega
  | ⟨1, _⟩ => show win0_3.index t 1 * 2048 + 1 * k.val = k.val; rw [(index3 t).2]; omega

/-- A block of the layer's input. -/
theorem blockX (t : Fin cfg0.N) (i : Fin 512) (k : Fin 2048) :
    (iblk m c 4 t : Vec Ideal S512x2048 .f32) (ix2 i k) = argX m c (ix2 ⟨t.val * 512 + i.val, by have := lt17 t; omega⟩ k) := by
  unfold iblk
  rw [View.read_apply]
  show V m c main_arg2 _ = _
  rw [V_main_arg2]
  show m _ _ = m _ _
  congr 1
  funext a
  apply Fin.ext
  match a with
  | ⟨0, _⟩ => show win0_4.index t 0 * 512 + 1 * i.val = t.val * 512 + i.val; rw [(index4 t).1]; omega
  | ⟨1, _⟩ => show win0_4.index t 1 * 2048 + 1 * k.val = k.val; rw [(index4 t).2]; omega

/-- What a point leaves for the result. -/
theorem out_entry (t : Fin cfg0.N) (i : Fin 512) (k : Fin 2048) :
    out0_5 (iblk m c 0 t : Vec Ideal S512x1024 .bf16) (iblk m c 1 t : Vec Ideal S512x1024 .bf16) (iblk m c 2 t : Vec Ideal S1024x2048 .bf16)
        (iblk m c 3 t : Vec Ideal S1024x2048 .bf16) (iblk m c 4 t : Vec Ideal S512x2048 .f32) (ix2 i k)
      = outOut (argA m c) (argQ m c) (argX m c) (argW m c) ⟨t.val * 512 + i.val, by have := lt17 t; omega⟩ k := by
  frame_out
  refine (tile_apply _ _ _ _ _ i k).trans ?_
  simp only [blockA, blockQ, blockUpper, blockLower, blockX]
  rfl

/-- The result array. -/
def result : Buf (Elt Ideal) ((c : Thread nD τ).loc main_v4) :=
  fun y : S8704x2048.Idx => outOut (argA m c) (argQ m c) (argX m c) (argW m c) (y 0) (y 1)

/-- Every point writes back its block of it. -/
theorem flushed_eq (t : Fin cfg0.N) (_ : (cfg0.win 5).flush t = true) :
    (dats m 0 c).flushed 5 t = ((cfg0.win 5).blk t).view.read (Elt Ideal) (result m c) := by
  rw [Value.flushed5]
  have e := out_entry m c t
  generalize out0_5 (iblk m c 0 t : Vec Ideal S512x1024 .bf16) (iblk m c 1 t : Vec Ideal S512x1024 .bf16)
    (iblk m c 2 t : Vec Ideal S1024x2048 .bf16) (iblk m c 3 t : Vec Ideal S1024x2048 .bf16) (iblk m c 4 t : Vec Ideal S512x2048 .f32) = T at e
  funext y
  rw [View.read_apply]
  have hy : (y : S512x2048.Idx) = ix2 (y 0) (y 1) := by
    funext a
    match a with
    | ⟨0, _⟩ => rfl
    | ⟨1, _⟩ => rfl
  refine Eq.trans (b := T (ix2 (n0 := 512) (n1 := 2048) (y 0) (y 1))) (congrArg T hy) ((e (y 0) (y 1)).trans ?_)
  show outOut _ _ _ _ ⟨_, _⟩ (y 1) = outOut _ _ _ _ (((cfg0.win 5).blk t).view.emb y 0) (((cfg0.win 5).blk t).view.emb y 1)
  refine congrArg₂ (outOut _ _ _ _) (Fin.ext ?_) (Fin.ext ?_)
  · show t.val * 512 + (y 0).val = win0_5.index t 0 * 512 + 1 * (y 0).val
    rw [(index5 t).1]; omega
  · show (y 1).val = win0_5.index t 1 * 2048 + 1 * (y 1).val
    rw [(index5 t).2]; omega

/-- The array after the run. -/
theorem final : (dats m 0 c).arrAt 5 cfg0.N = result m c :=
  (dats m 0 c).arrAt_eq_of_cover 5 (result m c) (flushed_eq m c) fun i => by
    have h0 : (i 0 : Nat) < 8704 := (i 0).isLt
    have h1 : (i 1 : Nat) < 2048 := (i 1).isLt
    have hN : cfg0.N = 17 := N_0
    let t : Fin cfg0.N := ⟨(i 0 : Nat) / 512, by omega⟩
    have ht : t.val = (i 0 : Nat) / 512 := rfl
    refine ⟨t, flush0_5 t, ?_⟩
    show i ∈ ((View.whole main_v4).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1, ht]; omega
    | ⟨1, _⟩ =>
      show win0_5.index t 1 * 2048 ≤ (i 1 : Nat) ∧ (i 1 : Nat) < win0_5.index t 1 * 2048 + 2048
      rw [(index5 t).2]; omega

end Cert.OutIdeal.Out
end
-- ==== Proof.OutRef.lean ====
module

public import proofs.«01_k».proof.Proof.Gen.OutReferenceIdeal.Run
public import Idealize.ShloMosaic.Lib.Pointwise

/-!
What the reference of the even layer's output projection computes, entry by entry: the layer's input plus the product of the
mixed rows, the two halves side by side, with the weight. The sum over the 2048 columns splits at the seam of the halves.
-/
@[expose] public section

set_option maxRecDepth 16384

noncomputable section

namespace Cert.OutReferenceIdeal.Out

open Cert.OutReferenceIdeal Cert.OutReferenceIdeal.Gen Idealize.ShloMosaic Idealize.ShloMosaic.TcCoe Idealize.SL.Sem

/-- The two halves side by side. -/
def mixed (A Q : FVec Ideal S8704x1024 .bf16) : FVec Ideal S8704x2048 .f32 :=
  extf .f32 (concatenate S8704x2048 1 [⟨S8704x1024, A⟩, ⟨S8704x1024, Q⟩] concatenates_S8704x1024_S8704x1024_S8704x2048_d1) bitsLt_bf16_f32

/-- The reference's result. -/
def out (A Q : FVec Ideal S8704x1024 .bf16) (X : FVec Ideal S8704x2048 .f32) (W : FVec Ideal S1x2048x2048 .f32) :
    FVec Ideal S8704x2048 .f32 :=
  addf X (Host.dotGeneral dot_S8704x2048_S2048x2048_S8704x2048_1_0_0_1_n_n none (mixed A Q)
    (shapeCast _ W shapeCasts_S1x2048x2048_S2048x2048))

/-- The run ends with that result, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

theorem mixed_fst (A Q : FVec Ideal S8704x1024 .bf16) (r : Fin 8704) (l : Fin 1024) :
    mixed A Q (ix2 r (Fin.castAdd 1024 l)) = A (ix2 r l) := by
  pointwise [mixed]
  exact dif_pos l.isLt

theorem mixed_snd (A Q : FVec Ideal S8704x1024 .bf16) (r : Fin 8704) (l : Fin 1024) :
    mixed A Q (ix2 r (Fin.natAdd 1024 l)) = Q (ix2 r l) := by
  pointwise [mixed]
  refine (dif_neg (by simp)).trans (congrArg (fun l => Q (ix2 r l)) (Fin.ext ?_))
  show 1024 + l.val - 1024 = l.val
  omega

theorem out_apply (A Q : FVec Ideal S8704x1024 .bf16) (X : FVec Ideal S8704x2048 .f32) (W : FVec Ideal S1x2048x2048 .f32)
    (r : Fin 8704) (k : Fin 2048) :
    out A Q X W (ix2 r k) = (id (X (ix2 r k)) : EReal) + ∑ l : Fin 1024, A (ix2 r l) * W (ix3 0 ⟨l.val, by omega⟩ k)
      + ∑ l : Fin 1024, Q (ix2 r l) * W (ix3 0 ⟨1024 + l.val, by omega⟩ k) := by
  have e : out A Q X W (ix2 r k) = (id (X (ix2 r k)) : EReal) + ∑ l : Fin (1024 + 1024), mixed A Q (ix2 r l) * W (ix3 0 l k) := by
    pointwise [out]
    rfl
  rw [e, Fin.sum_univ_add, ← add_assoc]
  simp only [mixed_fst, mixed_snd]
  rfl

end Cert.OutReferenceIdeal.Out
end
-- ==== Proof.OddOutArray.lean ====
module

public import proofs.«01_k».proof.Proof.Gen.OddOutIdeal.Value
public import Idealize.ShloMosaic.Lib.Pipeline.ValueKit
public import Idealize.ShloMosaic.Lib.StableHlo.ReadAt
public import Idealize.ShloMosaic.Lib.Pointwise

/-!
What the odd layer's output projection leaves in its array: the layer's input plus the product of the attention's rows with the
weight.
-/
@[expose] public section

set_option maxRecDepth 16384

noncomputable section

namespace Cert.OddOutIdeal.OddOut

open Cert.OddOutIdeal Cert.OddOutIdeal.Gen Idealize.ShloMosaic Idealize.ShloMosaic.TcCoe Idealize.SL.Sem

/-- The result at row `r` and lane `k`. -/
def outOut (O Y : S8704x2048.Idx → EReal) (W : S1x2048x2048.Idx → EReal) (r : Fin 8704) (k : Fin 2048) : EReal :=
  Y (ix2 r k) + ∑ l : Fin 2048, O (ix2 r l) * W (ix3 0 l k)

/-- The stored tile, entry by entry. -/
theorem tile_apply (y : Vec Ideal S512x2048 .f32) (o : Vec Ideal S512x2048 .bf16) (w : Vec Ideal S2048x2048 .bf16)
    (i : Fin 512) (k : Fin 2048) :
    k0_pay1 y o w (ix2 i k) = (id (y (ix2 i k)) : EReal) + ∑ l : Fin 2048, o (ix2 i l) * w (ix2 l k) := by
  pointwise [k0_pay1]
  rfl

variable (m : (ℓ : Loc nD τ sig) → Buf (Elt Ideal) ℓ) (c : Dev nD)

/-- The attention's rows, as launched. -/
abbrev argO : S8704x2048.Idx → EReal := m (c, Proc.tc.devRef main_arg0)
/-- The layer's input. -/
abbrev argY : S8704x2048.Idx → EReal := m (c, Proc.tc.devRef main_arg1)
/-- The weight. -/
abbrev argW : S1x2048x2048.Idx → EReal := m (c, Proc.tc.devRef main_arg2)

theorem weight_entry (l k : Fin 2048) : (V m c main_v1 : FVec Ideal S2048x2048 .bf16) (ix2 l k) = argW m c (ix3 0 l k) := by
  unfold V
  simp only [hostOps0]
  after_reads_simp
  clean_types
  pointwise

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

theorem lt17 (t : Fin cfg0.N) : t.val < 17 := lt_of_lt_of_eq t.isLt N_0

/-- A block of the attention's rows. -/
theorem blockO (t : Fin cfg0.N) (i : Fin 512) (l : Fin 2048) :
    (iblk m c 0 t : Vec Ideal S512x2048 .bf16) (ix2 i l) = argO m c (ix2 ⟨t.val * 512 + i.val, by have := lt17 t; omega⟩ l) := by
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = t.val * 512 + i.val; rw [(index0 t).1]; omega
  | ⟨1, _⟩ => show win0_0.index t 1 * 2048 + 1 * l.val = l.val; rw [(index0 t).2]; omega

/-- The weight, one block. -/
theorem blockW (t : Fin cfg0.N) (l k : Fin 2048) : (iblk m c 1 t : Vec Ideal S2048x2048 .bf16) (ix2 l k) = argW m c (ix3 0 l k) := by
  rw [← weight_entry]
  unfold iblk
  rw [View.read_apply]
  show V m c main_v1 _ = V m c main_v1 _
  congr 1
  funext a
  apply Fin.ext
  match a with
  | ⟨0, _⟩ => show win0_1.index t 0 * 2048 + 1 * l.val = l.val; rw [(index1 t).1]; omega
  | ⟨1, _⟩ => show win0_1.index t 1 * 2048 + 1 * k.val = k.val; rw [(index1 t).2]; omega

/-- A block of the layer's input. -/
theorem blockY (t : Fin cfg0.N) (i : Fin 512) (k : Fin 2048) :
    (iblk m c 2 t : Vec Ideal S512x2048 .f32) (ix2 i k) = argY m c (ix2 ⟨t.val * 512 + i.val, by have := lt17 t; omega⟩ k) := by
  unfold iblk
  rw [View.read_apply]
  show V m c main_arg1 _ = _
  rw [V_main_arg1]
  show m _ _ = m _ _
  congr 1
  funext a
  apply Fin.ext
  match a with
  | ⟨0, _⟩ => show win0_2.index t 0 * 512 + 1 * i.val = t.val * 512 + i.val; rw [(index2 t).1]; omega
  | ⟨1, _⟩ => show win0_2.index t 1 * 2048 + 1 * k.val = k.val; rw [(index2 t).2]; omega

/-- What a point leaves for the result. -/
theorem out_entry (t : Fin cfg0.N) (i : Fin 512) (k : Fin 2048) :
    out0_3 (iblk m c 0 t : Vec Ideal S512x2048 .bf16) (iblk m c 1 t : Vec Ideal S2048x2048 .bf16) (iblk m c 2 t : Vec Ideal S512x2048 .f32)
        (ix2 i k)
      = outOut (argO m c) (argY m c) (argW m c) ⟨t.val * 512 + i.val, by have := lt17 t; omega⟩ k := by
  frame_out
  refine (tile_apply _ _ _ i k).trans ?_
  simp only [blockO, blockW, blockY]
  rfl

/-- The result array. -/
def result : Buf (Elt Ideal) ((c : Thread nD τ).loc main_v2) :=
  fun y : S8704x2048.Idx => outOut (argO m c) (argY m c) (argW m c) (y 0) (y 1)

/-- Every point writes back its block of it. -/
theorem flushed_eq (t : Fin cfg0.N) (_ : (cfg0.win 3).flush t = true) :
    (dats m 0 c).flushed 3 t = ((cfg0.win 3).blk t).view.read (Elt Ideal) (result m c) := by
  rw [Value.flushed3]
  have e := out_entry m c t
  generalize out0_3 (iblk m c 0 t : Vec Ideal S512x2048 .bf16) (iblk m c 1 t : Vec Ideal S2048x2048 .bf16)
    (iblk m c 2 t : Vec Ideal S512x2048 .f32) = T at e
  funext y
  rw [View.read_apply]
  have hy : (y : S512x2048.Idx) = ix2 (y 0) (y 1) := by
    funext a
    match a with
    | ⟨0, _⟩ => rfl
    | ⟨1, _⟩ => rfl
  refine Eq.trans (b := T (ix2 (n0 := 512) (n1 := 2048) (y 0) (y 1))) (congrArg T hy) ((e (y 0) (y 1)).trans ?_)
  show outOut _ _ _ ⟨_, _⟩ (y 1) = outOut _ _ _ (((cfg0.win 3).blk t).view.emb y 0) (((cfg0.win 3).blk t).view.emb y 1)
  refine congrArg₂ (outOut _ _ _) (Fin.ext ?_) (Fin.ext ?_)
  · show t.val * 512 + (y 0).val = win0_3.index t 0 * 512 + 1 * (y 0).val
    rw [(index3 t).1]; omega
  · show (y 1).val = win0_3.index t 1 * 2048 + 1 * (y 1).val
    rw [(index3 t).2]; omega

/-- The array after the run. -/
theorem final : (dats m 0 c).arrAt 3 cfg0.N = result m c :=
  (dats m 0 c).arrAt_eq_of_cover 3 (result m c) (flushed_eq m c) fun i => by
    have h0 : (i 0 : Nat) < 8704 := (i 0).isLt
    have h1 : (i 1 : Nat) < 2048 := (i 1).isLt
    have hN : cfg0.N = 17 := N_0
    let t : Fin cfg0.N := ⟨(i 0 : Nat) / 512, by omega⟩
    have ht : t.val = (i 0 : Nat) / 512 := rfl
    refine ⟨t, flush0_3 t, ?_⟩
    show i ∈ ((View.whole main_v2).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1, ht]; omega
    | ⟨1, _⟩ =>
      show win0_3.index t 1 * 2048 ≤ (i 1 : Nat) ∧ (i 1 : Nat) < win0_3.index t 1 * 2048 + 2048
      rw [(index3 t).2]; omega

end Cert.OddOutIdeal.OddOut
end
-- ==== Proof.OddOutRef.lean ====
module

public import proofs.«01_k».proof.Proof.Gen.OddOutReferenceIdeal.Run
public import Idealize.ShloMosaic.Lib.Pointwise

/-!
What the reference of the odd layer's output projection computes, entry by entry.
-/
@[expose] public section

set_option maxRecDepth 16384

noncomputable section

namespace Cert.OddOutReferenceIdeal.OddOut

open Cert.OddOutReferenceIdeal Cert.OddOutReferenceIdeal.Gen Idealize.ShloMosaic Idealize.ShloMosaic.TcCoe Idealize.SL.Sem

/-- The reference's result. -/
def out (O : FVec Ideal S8704x2048 .bf16) (Y : FVec Ideal S8704x2048 .f32) (W : FVec Ideal S1x2048x2048 .f32) :
    FVec Ideal S8704x2048 .f32 :=
  addf Y (Host.dotGeneral dot_S8704x2048_S2048x2048_S8704x2048_1_0_0_1_n_n none (extf .f32 O bitsLt_bf16_f32)
    (shapeCast _ W shapeCasts_S1x2048x2048_S2048x2048))

/-- The run ends with that result, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = out (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem out_apply (O : FVec Ideal S8704x2048 .bf16) (Y : FVec Ideal S8704x2048 .f32) (W : FVec Ideal S1x2048x2048 .f32)
    (r : Fin 8704) (k : Fin 2048) :
    out O Y W (ix2 r k) = (id (Y (ix2 r k)) : EReal) + ∑ l : Fin 2048, O (ix2 r l) * W (ix3 0 l k) := by
  pointwise [out]
  rfl

end Cert.OddOutReferenceIdeal.OddOut
end
-- ==== Proof.OddProjArray.lean ====
module

public import proofs.«01_k».proof.Proof.Swiglu
public import proofs.«01_k».proof.Proof.Gen.OddProjIdeal.Value
public import Idealize.ShloMosaic.Lib.Pipeline.ValueKit
public import Idealize.ShloMosaic.Lib.StableHlo.ReadAt
public import Idealize.ShloMosaic.Lib.Pointwise

/-!
What the odd layer's projection leaves in its array: at row `r` and column `l` the product of the normalised row with the
weight's column.
-/
@[expose] public section

set_option maxRecDepth 16384

noncomputable section

namespace Cert.OddProjIdeal.OddProj

open Cert.OddProjIdeal Cert.OddProjIdeal.Gen Cert.Swiglu Idealize.ShloMosaic Idealize.ShloMosaic.TcCoe Idealize.SL.Sem

/-- The normalised rows, as the kernel keeps them. -/
theorem rows_apply (y : Vec Ideal S512x2048 .f32) (g : Vec Ideal S1x2048 .f32) (i : Fin 512) (k : Fin 2048) :
    k0_pay1 y g (ix2 i k) = normed (fun k => y (ix2 i k)) (fun k => g (ix2 0 k)) k := by
  pointwise [k0_pay1]
  rfl

/-- The stored tile, entry by entry. -/
theorem product_apply (h : Vec Ideal S512x2048 .bf16) (w : Vec Ideal S2048x1792 .bf16) (i : Fin 512) (l : Fin 1792) :
    k0_pay2 h w (ix2 i l) = ∑ k : Fin 2048, h (ix2 i k) * w (ix2 k l) := by
  pointwise [k0_pay2]

/-- The result at row `r` and column `l`. -/
def projOut (Y : S8704x2048.Idx → EReal) (G : S2x2048.Idx → EReal) (W : S1x2048x3656.Idx → EReal) (r : Fin 8704) (l : Fin 3584) : EReal :=
  projected (fun k => Y (ix2 r k)) (fun k => G (ix2 1 k)) (fun k => W (ix3 0 k ⟨l.val, by omega⟩))

variable (m : (ℓ : Loc nD τ sig) → Buf (Elt Ideal) ℓ) (c : Dev nD)

/-- The rows, as launched. -/
abbrev argY : S8704x2048.Idx → EReal := m (c, Proc.tc.devRef main_arg0)
/-- The gains of the two layers. -/
abbrev argG : S2x2048.Idx → EReal := m (c, Proc.tc.devRef main_arg1)
/-- The weight. -/
abbrev argW : S1x2048x3656.Idx → EReal := m (c, Proc.tc.devRef main_arg2)

theorem gains_entry (k : Fin 2048) : (V m c main_v5 : FVec Ideal S1x2048 .f32) (ix2 0 k) = argG m c (ix2 1 k) := by
  unfold V
  simp only [hostOps0]
  after_reads_simp
  clean_types
  pointwise

theorem weight_entry (k : Fin 2048) (l : Fin 3584) :
    (V m c main_v4 : FVec Ideal S2048x3584 .bf16) (ix2 k l) = argW m c (ix3 0 k ⟨l.val, by omega⟩) := by
  unfold V
  simp only [hostOps0]
  after_reads_simp
  clean_types
  pointwise

theorem index0 : ∀ t : Fin grid0.N, win0_0.index t 0 = t.val / 2 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 2 := by decide +kernel
theorem index3 : ∀ t : Fin grid0.N, win0_3.index t 0 = t.val / 2 ∧ win0_3.index t 1 = t.val % 2 := by decide +kernel

theorem lt34 (t : Fin cfg0.N) : t.val < 34 := lt_of_lt_of_eq t.isLt N_0

/-- A block of the rows. -/
theorem blockY (t : Fin cfg0.N) (i : Fin 512) (k : Fin 2048) :
    (iblk m c 0 t : Vec Ideal S512x2048 .f32) (ix2 i k) = argY m c (ix2 ⟨t.val / 2 * 512 + i.val, by have := lt34 t; omega⟩ k) := by
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = t.val / 2 * 512 + i.val; rw [(index0 t).1]; omega
  | ⟨1, _⟩ => show win0_0.index t 1 * 2048 + 1 * k.val = k.val; rw [(index0 t).2]; omega

/-- The gains' block. -/
theorem blockG (t : Fin cfg0.N) (k : Fin 2048) :
    (iblk m c 1 t : Vec Ideal S1x2048 .f32) (ix2 0 k) = argG m c (ix2 1 k) := by
  rw [← gains_entry]
  unfold iblk
  rw [View.read_apply]
  show V m c main_v5 _ = V m c main_v5 _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

/-- A block of the weight's columns. -/
theorem blockW (t : Fin cfg0.N) (k : Fin 2048) (l : Fin 1792) :
    (iblk m c 2 t : Vec Ideal S2048x1792 .bf16) (ix2 k l) = argW m c (ix3 0 k ⟨t.val % 2 * 1792 + l.val, by omega⟩) := by
  refine Eq.trans ?_ (weight_entry m c k ⟨t.val % 2 * 1792 + l.val, by omega⟩)
  unfold iblk
  rw [View.read_apply]
  show V m c main_v4 _ = V m c main_v4 _
  congr 1
  funext a
  apply Fin.ext
  match a with
  | ⟨0, _⟩ => show win0_2.index t 0 * 2048 + 1 * k.val = k.val; rw [(index2 t).1]; omega
  | ⟨1, _⟩ => show win0_2.index t 1 * 1792 + 1 * l.val = t.val % 2 * 1792 + l.val; rw [(index2 t).2]; omega

/-- The normalised row that a point works on, at row `i` of its block. -/
def rowH (t : Fin cfg0.N) (i : Fin 512) : Fin 2048 → EReal :=
  normed (fun k => argY m c (ix2 ⟨t.val / 2 * 512 + i.val, by have := lt34 t; omega⟩ k)) (fun k => argG m c (ix2 1 k))

theorem rowH_eq (t : Fin cfg0.N) (i : Fin 512) (k : Fin 2048) :
    k0_pay1 (iblk m c 0 t : Vec Ideal S512x2048 .f32) (iblk m c 1 t : Vec Ideal S1x2048 .f32) (ix2 i k) = rowH m c t i k := by
  rw [rows_apply]
  simp only [blockY, blockG]
  rfl

/-- At a row block's first point the scratch takes the normalised rows. -/
theorem scratch_first (t : Fin cfg0.N) (h0 : t.val % 2 = 0) (i : Fin 512) (k : Fin 2048) :
    (outsAt0 m c t.val t.isLt).2 (ix2 i k) = rowH m c t i k := by
  rw [outsAt0_A m c t h0]
  frame_out
  exact rowH_eq m c t i k

/-- A tile over the point's normalised rows holds the result's entries. -/
theorem tile_entry (t : Fin cfg0.N) (h : Vec Ideal S512x2048 .bf16) (hh : ∀ i k, h (ix2 i k) = rowH m c t i k) (i : Fin 512) (l : Fin 1792) :
    k0_pay2 h (iblk m c 2 t : Vec Ideal S2048x1792 .bf16) (ix2 i l)
      = projOut (argY m c) (argG m c) (argW m c) ⟨t.val / 2 * 512 + i.val, by have := lt34 t; omega⟩ ⟨t.val % 2 * 1792 + l.val, by omega⟩ := by
  rw [product_apply]
  simp only [hh, blockW]
  rfl

/-- What a point leaves for the result. -/
theorem out_entry (t : Fin cfg0.N) (i : Fin 512) (l : Fin 1792) :
    (outsAt0 m c t.val t.isLt).1 (ix2 i l)
      = projOut (argY m c) (argG m c) (argW m c) ⟨t.val / 2 * 512 + i.val, by have := lt34 t; omega⟩ ⟨t.val % 2 * 1792 + l.val, by omega⟩ := by
  by_cases h0 : t.val % 2 = 0
  · rw [outsAt0_A m c t h0]
    frame_out
    exact tile_entry m c t _ (rowH_eq m c t) i l
  · have hh : ∀ i k, (outsAt0 m c (t.val - 1) (Nat.lt_of_le_of_lt (Nat.sub_le _ _) t.isLt)).2 (ix2 i k) = rowH m c t i k := by
      intro i k
      refine (scratch_first m c ⟨t.val - 1, Nat.lt_of_le_of_lt (Nat.sub_le _ _) t.isLt⟩ (by show (t.val - 1) % 2 = 0; omega) i k).trans ?_
      unfold rowH
      have : (t.val - 1) / 2 = t.val / 2 := by omega
      simp only [this]
    rw [outsAt0_B m c t h0]
    frame_out
    rw [Memref.IsWhole.read_unread (m := Memref.whole cc0_scratch0)]
    exact tile_entry m c t _ hh i l

/-- The result array. -/
def result : Buf (Elt Ideal) ((c : Thread nD τ).loc main_v6) :=
  fun y : S8704x3584.Idx => projOut (argY m c) (argG m c) (argW m c) (y 0) (y 1)

/-- Every point writes back its block of it. -/
theorem flushed_eq (t : Fin cfg0.N) (_ : (cfg0.win 3).flush t = true) :
    (dats m 0 c).flushed 3 t = ((cfg0.win 3).blk t).view.read (Elt Ideal) (result m c) := by
  rw [Value.flushed3]
  have e := out_entry m c t
  generalize (outsAt0 m c t.val t.isLt).1 = T at e
  funext y
  rw [View.read_apply]
  have hy : (y : S512x1792.Idx) = ix2 (y 0) (y 1) := by
    funext a
    match a with
    | ⟨0, _⟩ => rfl
    | ⟨1, _⟩ => rfl
  refine Eq.trans (b := T (ix2 (n0 := 512) (n1 := 1792) (y 0) (y 1))) (congrArg T hy) ((e (y 0) (y 1)).trans ?_)
  show projOut _ _ _ ⟨_, _⟩ ⟨_, _⟩ = projOut _ _ _ (((cfg0.win 3).blk t).view.emb y 0) (((cfg0.win 3).blk t).view.emb y 1)
  refine congrArg₂ (projOut _ _ _) (Fin.ext ?_) (Fin.ext ?_)
  · show t.val / 2 * 512 + (y 0).val = win0_3.index t 0 * 512 + 1 * (y 0).val
    rw [(index3 t).1]; omega
  · show t.val % 2 * 1792 + (y 1).val = win0_3.index t 1 * 1792 + 1 * (y 1).val
    rw [(index3 t).2]; omega

/-- The array after the run. -/
theorem final : (dats m 0 c).arrAt 3 cfg0.N = result m c :=
  (dats m 0 c).arrAt_eq_of_cover 3 (result m c) (flushed_eq m c) fun i => by
    have h0 : (i 0 : Nat) < 8704 := (i 0).isLt
    have h1 : (i 1 : Nat) < 3584 := (i 1).isLt
    have hN : cfg0.N = 34 := N_0
    let t : Fin cfg0.N := ⟨(i 0 : Nat) / 512 * 2 + (i 1 : Nat) / 1792, by omega⟩
    have hr : t.val / 2 = (i 0 : Nat) / 512 := by show ((i 0 : Nat) / 512 * 2 + (i 1 : Nat) / 1792) / 2 = _; omega
    have hl : t.val % 2 = (i 1 : Nat) / 1792 := by show ((i 0 : Nat) / 512 * 2 + (i 1 : Nat) / 1792) % 2 = _; omega
    refine ⟨t, flush0_3 t, ?_⟩
    show i ∈ ((View.whole main_v6).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1, hr]; omega
    | ⟨1, _⟩ =>
      show win0_3.index t 1 * 1792 ≤ (i 1 : Nat) ∧ (i 1 : Nat) < win0_3.index t 1 * 1792 + 1792
      rw [(index3 t).2, hl]; omega

end Cert.OddProjIdeal.OddProj
end
-- ==== Proof.OddProjRef.lean ====
module

public import proofs.«01_k».proof.Proof.Swiglu
public import proofs.«01_k».proof.Proof.Gen.OddProjReferenceIdeal.Run
public import Idealize.ShloMosaic.Lib.Pointwise

/-!
What the reference of the odd layer's projection computes, entry by entry: the normalised rows times the weight, of whose columns
the first 3584 are kept.
-/
@[expose] public section

set_option maxRecDepth 16384

noncomputable section

namespace Cert.OddProjReferenceIdeal.OddProj

open Cert.OddProjReferenceIdeal Cert.OddProjReferenceIdeal.Gen Cert.Swiglu Idealize.ShloMosaic Idealize.ShloMosaic.TcCoe Idealize.SL.Sem

/-- The normalised rows. -/
def rows (Y : FVec Ideal S8704x2048 .f32) (G : FVec Ideal S2x2048 .f32) : FVec Ideal S8704x2048 .f32 :=
  mulf (mulf Y (broadcastInDim S8704x2048 ![0, 1] bcast_S8704x1_S8704x2048_0_1 (Host.rsqrt (addf (Host.divf
    (broadcastInDim S8704x1 ![0] bcast_S8704_S8704x1_0 (Host.reduceAdd (mulf Y Y) (constant S_ .f32 0x00000000#32)
    reducesTo_S8704x2048_S8704_d1 h_S_)) (broadcastInDim S8704x1 ![] bcast_S_S8704x1 (constant S_ .f32 0x45000000#32)))
    (broadcastInDim S8704x1 ![] bcast_S_S8704x1 (constant S_ .f32 0x358637BD#32)))))) (broadcastInDim S8704x2048 ![0, 1]
    bcast_S1x2048_S8704x2048_0_1 (broadcastInDim S1x2048 ![1] bcast_S2048_S1x2048_1 (shapeCast _ (extractStridedSlice
    S1x2048 ![1, 0] G slices_S2x2048_S1x2048_1_0) shapeCasts_S1x2048_S2048)))

/-- The reference's result. -/
def out (Y : FVec Ideal S8704x2048 .f32) (G : FVec Ideal S2x2048 .f32) (W : FVec Ideal S1x2048x3656 .f32) : FVec Ideal S8704x3584 .f32 :=
  extractStridedSlice S8704x3584 ![0, 0] (Host.dotGeneral dot_S8704x2048_S2048x3656_S8704x3656_1_0_0_1_n_n none (rows Y G)
    (shapeCast _ W shapeCasts_S1x2048x3656_S2048x3656)) slices_S8704x3656_S8704x3584_0_0

/-- The run ends with that result, the arguments as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = out (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem rows_apply (Y : FVec Ideal S8704x2048 .f32) (G : FVec Ideal S2x2048 .f32) (r : Fin 8704) (k : Fin 2048) :
    rows Y G (ix2 r k) = normed (fun k => Y (ix2 r k)) (fun k => G (ix2 1 k)) k := by
  pointwise [rows]
  rfl

theorem out_apply (Y : FVec Ideal S8704x2048 .f32) (G : FVec Ideal S2x2048 .f32) (W : FVec Ideal S1x2048x3656 .f32)
    (r : Fin 8704) (l : Fin 3584) :
    out Y G W (ix2 r l) = projected (fun k => Y (ix2 r k)) (fun k => G (ix2 1 k)) (fun k => W (ix3 0 k ⟨l.val, by omega⟩)) := by
  pointwise [out]
  simp only [rows_apply]
  rfl

end Cert.OddProjReferenceIdeal.OddProj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Run
public import proofs.«01_k».proof.Proof.Gen.Proj
public import proofs.«01_k».proof.Proof.Gen.Proj.Skeleton
public import proofs.«01_k».proof.Proof.Gen.Proj.Launch
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjReferenceIdeal
public import proofs.«01_k».proof.Proof.Gen.ProjReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutReferenceIdeal
public import proofs.«01_k».proof.Proof.Gen.OddOutReferenceIdeal.Run
public import proofs.«01_k».proof.Proof.Gen.OddProj
public import proofs.«01_k».proof.Proof.Gen.OddProj.Skeleton
public import proofs.«01_k».proof.Proof.Gen.OddProj.Launch
public import proofs.«01_k».proof.Proof.Gen.OddProj.Points
public import proofs.«01_k».proof.Proof.Gen.OddProj.Frame
public import proofs.«01_k».proof.Proof.Gen.OddProjIdeal
public import proofs.«01_k».proof.Proof.Gen.OddProjIdeal.Skeleton
public import proofs.«01_k».proof.Proof.Gen.OddProjIdeal.Launch
public import proofs.«01_k».proof.Proof.Gen.OddProjIdeal.Points
public import proofs.«01_k».proof.Proof.Gen.OddProjIdeal.Frame
public import proofs.«01_k».proof.Proof.Gen.OddProjIdeal.Value
public import proofs.«01_k».proof.Proof.Gen.OddProjReferenceIdeal
public import proofs.«01_k».proof.Proof.Gen.OddProjReferenceIdeal.Run
public import proofs.«01_k».proof.Proof.BandEq
public import proofs.«01_k».proof.Proof.FfnArray
public import proofs.«01_k».proof.Proof.FfnRef
public import proofs.«01_k».proof.Proof.MoeArray
public import proofs.«01_k».proof.Proof.MoeRef
public import proofs.«01_k».proof.Proof.ProjEq
public import proofs.«01_k».proof.Proof.OutArray
public import proofs.«01_k».proof.Proof.OutRef
public import proofs.«01_k».proof.Proof.OddOutArray
public import proofs.«01_k».proof.Proof.OddOutRef
public import proofs.«01_k».proof.Proof.OddProjArray
public import proofs.«01_k».proof.Proof.OddProjRef
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore. -/
theorem reference_frame : Cert.quiescent_ReferenceIdeal (hReferenceIdeal := Cert.ReferenceIdeal.Gen.facts) := fun m g _ =>
  θ_run_mono (Cert.ReferenceIdeal.Value.run (F := Ideal) m g) fun r h =>
    ⟨fun c => (h c).2, sem_eq_zero_of_no_sems (by decide) r.2⟩

section
variable [Cert.Pre_finite.Facts]

/-- The kernel's result array ends holding the reference's, where queries, keys and biases are reals. -/
theorem band : Cert.algebraic_KernelIdeal_ReferenceIdeal_pre_finite
    (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    rw [Cert.KernelIdeal.Band.final, Cert.ReferenceIdeal.Band.res_eq]
    funext y
    obtain ⟨hX, hB⟩ := Cert.Pre_finite.Band.of_pre _ _ (hpre c)
    rw [(hagree c).1, (hagree c).2]
    idx_vars y
    exact Cert.KernelIdeal.Band.entry_eq _ _ hX hB _ _

end

/-- The feed-forward reference runs, leaves its arguments as they were, and has no semaphore. -/
theorem ffn_reference_frame : Cert.quiescent_FfnReferenceIdeal (hFfnReferenceIdeal := Cert.FfnReferenceIdeal.Gen.facts) := fun m g _ =>
  θ_run_mono (Cert.FfnReferenceIdeal.Value.run (F := Ideal) m g) fun r h =>
    ⟨fun c => (h c).2, sem_eq_zero_of_no_sems (by decide) r.2⟩

/-- The feed-forward kernel's result array ends holding the reference's. -/
theorem ffn : Cert.algebraic_FfnIdeal_FfnReferenceIdeal
    (hFfnIdeal := Cert.FfnIdeal.Gen.facts) (hFfnReferenceIdeal := Cert.FfnReferenceIdeal.Gen.facts) := by
  pair_intro
  · run_from Cert.FfnIdeal.Value.run_blocks m g
  · run_from Cert.FfnReferenceIdeal.Ffn.run_out m' g'
    rw [Cert.FfnIdeal.Ffn.final]
    funext y
    idx_vars y
    exact Cert.FfnReferenceIdeal.Ffn.out_apply _ _ _ _ _ _ _

/-- The kernel's body table in the program as it is run is the one in the ideal program, over the same float values. -/
theorem moe_bodies (F : FTy → Type) [FloatOps F] : Cert.Moe.defs₀ (F := F) = Cert.MoeIdeal.defs₀ (F := F) :=
  congrArg Defs.onTc (funext fun l => funext fun x => by
    match l, x with
    | 0, (t, s) => rfl
    | ⟨_ + 1, h⟩, _ => exact absurd h (Nat.not_lt.2 (Nat.le_add_left _ _)))

/-- So is the whole body table, with the call's region and pipeline. -/
theorem moe_defs (F : FTy → Type) [FloatOps F] : Cert.Moe.defs (F := F) = Cert.MoeIdeal.defs (F := F) :=
  congrArg (Pipeline.defs Cert.MoeIdeal.pcfgs) (moe_bodies F)

section
variable {F : FTy → Type} [FloatOps F] (m : (ℓ : Loc Cert.MoeIdeal.nD Cert.MoeIdeal.τ Cert.MoeIdeal.sig) → Buf (Elt F) ℓ)

/-- Every word of the table of experts at launch is below 8. -/
def Experts : Prop := ∀ j : Cert.MoeIdeal.S19.Idx,
  BitVec.toNat (m (((0 : Dev Cert.MoeIdeal.nD).tc : Thread Cert.MoeIdeal.nD Cert.MoeIdeal.τ).loc Cert.MoeIdeal.main_arg0) j) < 8

/-- The tables at launch, with the region's side condition on them. -/
def tables (h : Experts m) : (Cert.MoeIdeal.pcfg0 (F := F)).Adm :=
  ⟨fun j => m (((0 : Dev Cert.MoeIdeal.nD).tc : Thread Cert.MoeIdeal.nD Cert.MoeIdeal.τ).loc (Cert.MoeIdeal.pre0.ref j)), Cert.MoeRun.tables_ok _ h⟩

theorem tables_held (h : Experts m) (c : Dev Cert.MoeIdeal.nD) (j : Fin 2) :
    m ((c.tc : Thread Cert.MoeIdeal.nD Cert.MoeIdeal.τ).loc (Cert.MoeIdeal.pre0.ref j)) = (tables m h).1 j := by
  obtain rfl : c = 0 := Subsingleton.elim _ _
  rfl

/-- The grouped feed-forward kernel over any float values, from a launch memory whose experts are below 8: it runs, leaves
    its arguments as they were and every semaphore at zero. -/
theorem moe_run (g : Dev Cert.MoeIdeal.nD → PrngReg) (h : Experts m) :
    θ_run (Cert.MoeIdeal.defs (F := F)) (onTc (τ := Cert.MoeIdeal.τ) (Cert.MoeIdeal.main (F := F))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0) :=
  (θ_run Cert.MoeIdeal.defs _ _).mono (fun _ h => ⟨fun c => (h.1 c).2, h.2⟩) (Cert.MoeRun.run_out (tables m h) m g (tables_held m h))

end

section
variable [Cert.Pre_in_range.Facts]

/-- Under the precondition the run is the ideal program's frame; -/
theorem moe_ideal_frame : Cert.quiescent_MoeIdeal (hMoeIdeal := Cert.MoeIdeal.Gen.facts) := fun m g h =>
  moe_run m g (Cert.Pre_in_range.Moe.of_pre _ _ _ _ _ _ (h 0))

set_option maxHeartbeats 8000000 in
set_option backward.isDefEq.respectTransparency.types false in
/-- and the frame of the program as it is run, whose body table is the ideal program's. -/
theorem moe_frame : Cert.quiescent_Moe (hMoe := Cert.Moe.Gen.facts) := fun m g h => by
  have run := moe_run (F := Bits) m g (Cert.Pre_in_range.Moe.of_pre _ _ _ _ _ _ (h 0))
  rw [← moe_defs Bits] at run
  exact run

/-- The grouped feed-forward kernel's result array ends holding the reference's, where every expert is below 8. -/
theorem moe : Cert.algebraic_MoeIdeal_MoeReferenceIdeal
    (hMoeIdeal := Cert.MoeIdeal.Gen.facts) (hMoeReferenceIdeal := Cert.MoeReferenceIdeal.Gen.facts) := by
  intro m g m' g' hpre hagree
  have hE : Experts m := Cert.Pre_in_range.Moe.of_pre _ _ _ _ _ _ (hpre 0)
  refine ⟨fun c => Cert.MoeRun.result (tables m hE) m c, ?_, ?_⟩
  · exact (θ_run Cert.MoeIdeal.defs _ _).mono (fun _ h c => ⟨(h.1 c).1.trans (Cert.MoeRun.final (tables m hE) m g c hE), (h.1 c).2⟩)
      (Cert.MoeRun.run_out (tables m hE) m g (tables_held m hE))
  · refine θ_run_mono (Cert.MoeReferenceIdeal.Moe.run_out m' g') fun r h c => ⟨(h c).1.trans ?_, (h c).2⟩
    obtain rfl : c = 0 := Subsingleton.elim _ _
    obtain ⟨h0, h1, h2, h3, h4, h5⟩ := hagree 0
    rw [h0, h1, h2, h3, h4, h5]
    funext y
    idx_vars y
    exact Cert.MoeReferenceIdeal.Moe.out_apply _ _ _ _ _ _ hE _ _

end

/-- The grouped feed-forward's reference runs, leaves its arguments as they were, and has no semaphore. -/
theorem moe_reference_frame : Cert.quiescent_MoeReferenceIdeal (hMoeReferenceIdeal := Cert.MoeReferenceIdeal.Gen.facts) := fun m g _ =>
  θ_run_mono (Cert.MoeReferenceIdeal.Value.run (F := Ideal) m g) fun r h =>
    ⟨fun c => (h c).2, sem_eq_zero_of_no_sems (by decide) r.2⟩

/-- The projection kernel's body table in the program as it is run is the one in the ideal program, over the same float values. -/
theorem proj_bodies (F : FTy → Type) [FloatOps F] : Cert.Proj.defs₀ (F := F) = Cert.ProjIdeal.defs₀ (F := F) :=
  congrArg Defs.onTc (funext fun l => funext fun x => by
    match l, x with
    | 0, (t, s) => rfl
    | ⟨_ + 1, h⟩, _ => exact absurd h (Nat.not_lt.2 (Nat.le_add_left _ _)))

/-- So is the whole body table, with the call's region and pipeline. -/
theorem proj_defs (F : FTy → Type) [FloatOps F] : Cert.Proj.defs (F := F) = Cert.ProjIdeal.defs (F := F) :=
  congrArg (Pipeline.defs Cert.ProjIdeal.pcfgs) (proj_bodies F)

section
variable {F : FTy → Type} [FloatOps F] (m : (ℓ : Loc Cert.ProjIdeal.nD Cert.ProjIdeal.τ Cert.ProjIdeal.sig) → Buf (Elt F) ℓ)

/-- The projection kernel over any float values: it runs, leaves its arguments as they were and every semaphore at zero. -/
theorem proj_run (g : Dev Cert.ProjIdeal.nD → PrngReg) :
    θ_run (Cert.ProjIdeal.defs (F := F)) (onTc (τ := Cert.ProjIdeal.τ) (Cert.ProjIdeal.main (F := F))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0) :=
  (θ_run Cert.ProjIdeal.defs _ _).mono (fun _ h => ⟨fun c => (h.1 c).2, h.2⟩) (Cert.ProjRun.run m g)

end

/-- That is the ideal program's frame, -/
theorem proj_ideal_frame : Cert.quiescent_ProjIdeal (hProjIdeal := Cert.ProjIdeal.Gen.facts) := fun m g _ => proj_run m g

set_option maxHeartbeats 8000000 in
set_option backward.isDefEq.respectTransparency.types false in
/-- and the frame of the program as it is run, whose body table is the ideal program's. -/
theorem proj_frame : Cert.quiescent_Proj (hProj := Cert.Proj.Gen.facts) := fun m g _ => by
  have run := proj_run (F := Bits) m g
  rw [← proj_defs Bits] at run
  exact run

/-- The projection's reference runs, leaves its arguments as they were, and has no semaphore. -/
theorem proj_reference_frame : Cert.quiescent_ProjReferenceIdeal (hProjReferenceIdeal := Cert.ProjReferenceIdeal.Gen.facts) := fun m g _ =>
  θ_run_mono (Cert.ProjReferenceIdeal.Value.run (F := Ideal) m g) fun r h =>
    ⟨fun c => (h c).2.2.2.2.2.2.2, sem_eq_zero_of_no_sems (by decide) r.2⟩

/-- Each of the projection kernel's seven results ends holding the reference's. -/
theorem proj : Cert.algebraic_ProjIdeal_ProjReferenceIdeal
    (hProjIdeal := Cert.ProjIdeal.Gen.facts) (hProjReferenceIdeal := Cert.ProjReferenceIdeal.Gen.facts) := by
  intro m g m' g' hpre hagree
  refine ⟨fun c => Cert.ProjRun.projection m c, fun c => Cert.ProjRun.final m c Cert.ProjIdeal.main_v16, fun c => Cert.ProjRun.final m c Cert.ProjIdeal.main_v18,
    fun c => Cert.ProjRun.final m c Cert.ProjIdeal.main_v20, fun c => Cert.ProjRun.final m c Cert.ProjIdeal.main_v26,
    fun c => Cert.ProjRun.final m c Cert.ProjIdeal.main_v32, fun c => Cert.ProjRun.final m c Cert.ProjIdeal.main_v34, ?_, ?_⟩
  · refine (θ_run Cert.ProjIdeal.defs _ _).mono (fun _ h c => ?_) (Cert.ProjRun.run m g)
    obtain ⟨⟨hp, h0, h1, h2, h3, h4, h5⟩, ha⟩ := h.1 c
    exact ⟨hp.trans (Cert.ProjRun.array m c), h0, h1, h2, h3, h4, h5, ha⟩
  · refine θ_run_mono (Cert.ProjReferenceIdeal.Proj.run_out m' g') fun r h c => ?_
    obtain ⟨hp, h0, h1, h2, h3, h4, h5, ha⟩ := h c
    obtain ⟨e0, e1, e2, e3, e4, e5, e6⟩ := hagree c
    exact ⟨hp.trans ((congr (congr (congr (congrArg Cert.ProjReferenceIdeal.Proj.whole e0) e1) e5) e6).trans (Cert.ProjRun.whole_eq m c)),
      h0.trans ((congr (congr (congrArg Cert.ProjReferenceIdeal.Proj.keys e0) e5) e6).trans (Cert.ProjRun.keys_prompt_eq m c)),
      h1.trans ((congr (congr (congrArg Cert.ProjReferenceIdeal.Proj.values e0) e5) e6).trans (Cert.ProjRun.values_prompt_eq m c)),
      h2.trans ((congr (congr (congrArg Cert.ProjReferenceIdeal.Proj.pool e0) e5) e6).trans (Cert.ProjRun.pool_prompt_eq m c)),
      h3.trans ((congr (congr (congr (congrArg Cert.ProjReferenceIdeal.Proj.keys' e1) e2) e5) e6).trans (Cert.ProjRun.keys_sample_eq m c)),
      h4.trans ((congr (congr (congr (congrArg Cert.ProjReferenceIdeal.Proj.values' e1) e3) e5) e6).trans (Cert.ProjRun.values_sample_eq m c)),
      h5.trans ((congr (congr (congr (congrArg Cert.ProjReferenceIdeal.Proj.pool' e1) e4) e5) e6).trans (Cert.ProjRun.pool_sample_eq m c)),
      ha⟩

/-- The reference of the even layer's output projection runs, leaves its arguments as they were, and has no semaphore. -/
theorem out_even_reference_frame : Cert.quiescent_OutReferenceIdeal (hOutReferenceIdeal := Cert.OutReferenceIdeal.Gen.facts) := fun m g _ =>
  θ_run_mono (Cert.OutReferenceIdeal.Value.run (F := Ideal) m g) fun r h =>
    ⟨fun c => (h c).2, sem_eq_zero_of_no_sems (by decide) r.2⟩

/-- The result array of the even layer's output projection ends holding the reference's. -/
theorem out_even : Cert.algebraic_OutIdeal_OutReferenceIdeal
    (hOutIdeal := Cert.OutIdeal.Gen.facts) (hOutReferenceIdeal := Cert.OutReferenceIdeal.Gen.facts) := by
  pair_intro
  · run_from Cert.OutIdeal.Value.run_blocks m g
  · run_from Cert.OutReferenceIdeal.Out.run_out m' g'
    rw [Cert.OutIdeal.Out.final]
    funext y
    idx_vars y
    exact Cert.OutReferenceIdeal.Out.out_apply _ _ _ _ _ _

/-- The reference of the odd layer's output projection runs, leaves its arguments as they were, and has no semaphore. -/
theorem out_odd_reference_frame : Cert.quiescent_OddOutReferenceIdeal (hOddOutReferenceIdeal := Cert.OddOutReferenceIdeal.Gen.facts) := fun m g _ =>
  θ_run_mono (Cert.OddOutReferenceIdeal.Value.run (F := Ideal) m g) fun r h =>
    ⟨fun c => (h c).2, sem_eq_zero_of_no_sems (by decide) r.2⟩

/-- The result array of the odd layer's output projection ends holding the reference's. -/
theorem out_odd : Cert.algebraic_OddOutIdeal_OddOutReferenceIdeal
    (hOddOutIdeal := Cert.OddOutIdeal.Gen.facts) (hOddOutReferenceIdeal := Cert.OddOutReferenceIdeal.Gen.facts) := by
  pair_intro
  · run_from Cert.OddOutIdeal.Value.run_blocks m g
  · run_from Cert.OddOutReferenceIdeal.OddOut.run_out m' g'
    rw [Cert.OddOutIdeal.OddOut.final]
    funext y
    idx_vars y
    exact Cert.OddOutReferenceIdeal.OddOut.out_apply _ _ _ _ _

/-- The reference of the odd layer's projection runs, leaves its arguments as they were, and has no semaphore. -/
theorem proj_odd_reference_frame : Cert.quiescent_OddProjReferenceIdeal (hOddProjReferenceIdeal := Cert.OddProjReferenceIdeal.Gen.facts) := fun m g _ =>
  θ_run_mono (Cert.OddProjReferenceIdeal.Value.run (F := Ideal) m g) fun r h =>
    ⟨fun c => (h c).2, sem_eq_zero_of_no_sems (by decide) r.2⟩

/-- The result array of the odd layer's projection ends holding the reference's. -/
theorem proj_odd : Cert.algebraic_OddProjIdeal_OddProjReferenceIdeal
    (hOddProjIdeal := Cert.OddProjIdeal.Gen.facts) (hOddProjReferenceIdeal := Cert.OddProjReferenceIdeal.Gen.facts) := by
  pair_intro
  · run_from Cert.OddProjIdeal.Value.run_blocks m g
  · run_from Cert.OddProjReferenceIdeal.OddProj.run_out m' g'
    rw [Cert.OddProjIdeal.OddProj.final]
    funext y
    idx_vars y
    exact Cert.OddProjReferenceIdeal.OddProj.out_apply _ _ _ _ _

/-- Everything claimed. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Moe.Gen.facts, Cert.MoeIdeal.Gen.facts, Cert.MoeReferenceIdeal.Gen.facts,
  Cert.Proj.Gen.facts, Cert.ProjIdeal.Gen.facts, Cert.ProjReferenceIdeal.Gen.facts,
  Cert.Out.Gen.facts, Cert.OutIdeal.Gen.facts, Cert.OutReferenceIdeal.Gen.facts,
  Cert.OddOut.Gen.facts, Cert.OddOutIdeal.Gen.facts, Cert.OddOutReferenceIdeal.Gen.facts,
  Cert.OddProj.Gen.facts, Cert.OddProjIdeal.Gen.facts, Cert.OddProjReferenceIdeal.Gen.facts,
  Cert.Pre_finite.Band.facts, Cert.Pre_in_range.Moe.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  fun m ρ _ => Cert.Ffn.Gen.frame m ρ, fun m ρ _ => Cert.FfnIdeal.Gen.frame m ρ, ffn_reference_frame,
  @moe_frame Cert.Pre_in_range.Moe.facts, @moe_ideal_frame Cert.Pre_in_range.Moe.facts, moe_reference_frame, fun m ρ _ => moe_reference_frame m ρ trivial,
  proj_frame, proj_ideal_frame, proj_reference_frame,
  fun m ρ _ => Cert.Out.Gen.frame m ρ, fun m ρ _ => Cert.OutIdeal.Gen.frame m ρ, out_even_reference_frame,
  fun m ρ _ => Cert.OddOut.Gen.frame m ρ, fun m ρ _ => Cert.OddOutIdeal.Gen.frame m ρ, out_odd_reference_frame,
  fun m ρ _ => Cert.OddProj.Gen.frame m ρ, fun m ρ _ => Cert.OddProjIdeal.Gen.frame m ρ, proj_odd_reference_frame,
  IdealRules.named_const.statement _ "mask" .f32 0xF149F2CA#32 ⊥ rfl, @band Cert.Pre_finite.Band.facts, trivial, ffn,
  trivial, @moe Cert.Pre_in_range.Moe.facts, trivial, proj,
  trivial, out_even, trivial, out_odd, trivial, proj_odd⟩

end Cert.Proof

end
